-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpRefIdeal (m : (ℓ : Loc Cert.DWUpRefIdeal.nD Cert.DWUpRefIdeal.τ Cert.DWUpRefIdeal.sig) → Buf (Elt Ideal) ℓ) : Prop :=
  True

def Pre_DWO (m : (ℓ : Loc Cert.DWO.nD Cert.DWO.τ Cert.DWO.sig) → Buf (Elt Bits) ℓ) : Prop :=
  True

def Pre_DWOIdeal (m : (ℓ : Loc Cert.DWOIdeal.nD Cert.DWOIdeal.τ Cert.DWOIdeal.sig) → Buf (Elt Ideal) ℓ) : Prop :=
  True

def Pre_DWORefIdeal (m : (ℓ : Loc Cert.DWORefIdeal.nD Cert.DWORefIdeal.τ Cert.DWORefIdeal.sig) → Buf (Elt Ideal) ℓ) : Prop :=
  True

def Pre_DProjA (m : (ℓ : Loc Cert.DProjA.nD Cert.DProjA.τ Cert.DProjA.sig) → Buf (Elt Bits) ℓ) : Prop :=
  True

def Pre_DProjAIdeal (m : (ℓ : Loc Cert.DProjAIdeal.nD Cert.DProjAIdeal.τ Cert.DProjAIdeal.sig) → Buf (Elt Ideal) ℓ) : Prop :=
  True

def Pre_DProjARefIdeal (m : (ℓ : Loc Cert.DProjARefIdeal.nD Cert.DProjARefIdeal.τ Cert.DProjARefIdeal.sig) → Buf (Elt Ideal) ℓ) : Prop :=
  True

def Pre_DProjB (m : (ℓ : Loc Cert.DProjB.nD Cert.DProjB.τ Cert.DProjB.sig) → Buf (Elt Bits) ℓ) : Prop :=
  True

def Pre_DProjBIdeal (m : (ℓ : Loc Cert.DProjBIdeal.nD Cert.DProjBIdeal.τ Cert.DProjBIdeal.sig) → Buf (Elt Ideal) ℓ) : Prop :=
  True

def Pre_DProjBRefIdeal (m : (ℓ : Loc Cert.DProjBRefIdeal.nD Cert.DProjBRefIdeal.τ Cert.DProjBRefIdeal.sig) → Buf (Elt Ideal) ℓ) : Prop :=
  True

def Pre_DProjC (m : (ℓ : Loc Cert.DProjC.nD Cert.DProjC.τ Cert.DProjC.sig) → Buf (Elt Bits) ℓ) : Prop :=
  True

def Pre_DProjCIdeal (m : (ℓ : Loc Cert.DProjCIdeal.nD Cert.DProjCIdeal.τ Cert.DProjCIdeal.sig) → Buf (Elt Ideal) ℓ) : Prop :=
  True

def Pre_DProjCRefIdeal (m : (ℓ : Loc Cert.DProjCRefIdeal.nD Cert.DProjCRefIdeal.τ Cert.DProjCRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DGa (m : (ℓ : Loc Cert.DGa.nD Cert.DGa.τ Cert.DGa.sig) → Buf (Elt Bits) ℓ) : Prop :=
  True

def Pre_DGaIdeal (m : (ℓ : Loc Cert.DGaIdeal.nD Cert.DGaIdeal.τ Cert.DGaIdeal.sig) → Buf (Elt Ideal) ℓ) : Prop :=
  True

def Pre_DGaRefIdeal (m : (ℓ : Loc Cert.DGaRefIdeal.nD Cert.DGaRefIdeal.τ Cert.DGaRefIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnRefIdeal (m : (ℓ : Loc Cert.DAttnRefIdeal.nD Cert.DAttnRefIdeal.τ Cert.DAttnRefIdeal.sig) → Buf (Elt Ideal) ℓ) : Prop :=
  True

def Pre_DU2 (m : (ℓ : Loc Cert.DU2.nD Cert.DU2.τ Cert.DU2.sig) → Buf (Elt Bits) ℓ) : Prop :=
  True

def Pre_DU2Ideal (m : (ℓ : Loc Cert.DU2Ideal.nD Cert.DU2Ideal.τ Cert.DU2Ideal.sig) → Buf (Elt Ideal) ℓ) : Prop :=
  True

def Pre_DU2RefIdeal (m : (ℓ : Loc Cert.DU2RefIdeal.nD Cert.DU2RefIdeal.τ Cert.DU2RefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdUp (m : (ℓ : Loc Cert.FwdUp.nD Cert.FwdUp.τ Cert.FwdUp.sig) → Buf (Elt Bits) ℓ) : Prop :=
  True

def Pre_FwdUpIdeal (m : (ℓ : Loc Cert.FwdUpIdeal.nD Cert.FwdUpIdeal.τ Cert.FwdUpIdeal.sig) → Buf (Elt Ideal) ℓ) : Prop :=
  True

def Pre_FwdUpRefIdeal (m : (ℓ : Loc Cert.FwdUpRefIdeal.nD Cert.FwdUpRefIdeal.τ Cert.FwdUpRefIdeal.sig) → Buf (Elt Ideal) ℓ) : Prop :=
  True

def Pre_FwdDown (m : (ℓ : Loc Cert.FwdDown.nD Cert.FwdDown.τ Cert.FwdDown.sig) → Buf (Elt Bits) ℓ) : Prop :=
  True

def Pre_FwdDownIdeal (m : (ℓ : Loc Cert.FwdDownIdeal.nD Cert.FwdDownIdeal.τ Cert.FwdDownIdeal.sig) → Buf (Elt Ideal) ℓ) : Prop :=
  True

def Pre_FwdDownRefIdeal (m : (ℓ : Loc Cert.FwdDownRefIdeal.nD Cert.FwdDownRefIdeal.τ Cert.FwdDownRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_RmsFirst (m : (ℓ : Loc Cert.RmsFirst.nD Cert.RmsFirst.τ Cert.RmsFirst.sig) → Buf (Elt Bits) ℓ) : Prop :=
  True

def Pre_RmsFirstIdeal (m : (ℓ : Loc Cert.RmsFirstIdeal.nD Cert.RmsFirstIdeal.τ Cert.RmsFirstIdeal.sig) → Buf (Elt Ideal) ℓ) : Prop :=
  True

def Pre_RmsFirstRefIdeal (m : (ℓ : Loc Cert.RmsFirstRefIdeal.nD Cert.RmsFirstRefIdeal.τ Cert.RmsFirstRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_CfNormFwd (m : (ℓ : Loc Cert.CfNormFwd.nD Cert.CfNormFwd.τ Cert.CfNormFwd.sig) → Buf (Elt Bits) ℓ) : Prop :=
  True

def Pre_CfNormFwdIdeal (m : (ℓ : Loc Cert.CfNormFwdIdeal.nD Cert.CfNormFwdIdeal.τ Cert.CfNormFwdIdeal.sig) → Buf (Elt Ideal) ℓ) : Prop :=
  True

def Pre_CfNormFwdRefIdeal (m : (ℓ : Loc Cert.CfNormFwdRefIdeal.nD Cert.CfNormFwdRefIdeal.τ Cert.CfNormFwdRefIdeal.sig) → Buf (Elt Ideal) ℓ) : Prop :=
  True

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamProjA (m : (ℓ : Loc Cert.AdamProjA.nD Cert.AdamProjA.τ Cert.AdamProjA.sig) → Buf (Elt Bits) ℓ) : Prop :=
  True

def Pre_AdamProjAIdeal (m : (ℓ : Loc Cert.AdamProjAIdeal.nD Cert.AdamProjAIdeal.τ Cert.AdamProjAIdeal.sig) → Buf (Elt Ideal) ℓ) : Prop :=
  True

def Pre_AdamProjARefIdeal (m : (ℓ : Loc Cert.AdamProjARefIdeal.nD Cert.AdamProjARefIdeal.τ Cert.AdamProjARefIdeal.sig) → Buf (Elt Ideal) ℓ) : Prop :=
  True

def Pre_AdamProjB (m : (ℓ : Loc Cert.AdamProjB.nD Cert.AdamProjB.τ Cert.AdamProjB.sig) → Buf (Elt Bits) ℓ) : Prop :=
  True

def Pre_AdamProjBIdeal (m : (ℓ : Loc Cert.AdamProjBIdeal.nD Cert.AdamProjBIdeal.τ Cert.AdamProjBIdeal.sig) → Buf (Elt Ideal) ℓ) : Prop :=
  True

def Pre_AdamProjBRefIdeal (m : (ℓ : Loc Cert.AdamProjBRefIdeal.nD Cert.AdamProjBRefIdeal.τ Cert.AdamProjBRefIdeal.sig) → Buf (Elt Ideal) ℓ) : Prop :=
  True

def Pre_AdamWO (m : (ℓ : Loc Cert.AdamWO.nD Cert.AdamWO.τ Cert.AdamWO.sig) → Buf (Elt Bits) ℓ) : Prop :=
  True

def Pre_AdamWOIdeal (m : (ℓ : Loc Cert.AdamWOIdeal.nD Cert.AdamWOIdeal.τ Cert.AdamWOIdeal.sig) → Buf (Elt Ideal) ℓ) : Prop :=
  True

def Pre_AdamWORefIdeal (m : (ℓ : Loc Cert.AdamWORefIdeal.nD Cert.AdamWORefIdeal.τ Cert.AdamWORefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PutColumns (m : (ℓ : Loc Cert.PutColumns.nD Cert.PutColumns.τ Cert.PutColumns.sig) → Buf (Elt Bits) ℓ) : Prop :=
  True

def Pre_PutColumnsIdeal (m : (ℓ : Loc Cert.PutColumnsIdeal.nD Cert.PutColumnsIdeal.τ Cert.PutColumnsIdeal.sig) → Buf (Elt Ideal) ℓ) : Prop :=
  True

def Pre_PutColumnsRefIdeal (m : (ℓ : Loc Cert.PutColumnsRefIdeal.nD Cert.PutColumnsRefIdeal.τ Cert.PutColumnsRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpRefIdeal [hDWUpRefIdeal : Cert.DWUpRefIdeal.Facts] : Prop :=
  ∀ (m : (ℓ : Loc Cert.DWUpRefIdeal.nD Cert.DWUpRefIdeal.τ Cert.DWUpRefIdeal.sig) → Buf (Elt Ideal) ℓ) (g : Dev Cert.DWUpRefIdeal.nD → PrngReg), Pre_DWUpRefIdeal m →
    θ_run (Cert.DWUpRefIdeal.defs (F := Ideal)) (onTc (τ := Cert.DWUpRefIdeal.τ) (Cert.DWUpRefIdeal.main (F := Ideal))) ⟨m, fun _ => 0, g⟩ (fun r => (∀ c : Dev Cert.DWUpRefIdeal.nD,
      r.2.mem ((c.tc : Thread Cert.DWUpRefIdeal.nD Cert.DWUpRefIdeal.τ).loc Cert.DWUpRefIdeal.main_arg0) = m ((c.tc : Thread Cert.DWUpRefIdeal.nD Cert.DWUpRefIdeal.τ).loc Cert.DWUpRefIdeal.main_arg0)
      ∧ r.2.mem ((c.tc : Thread Cert.DWUpRefIdeal.nD Cert.DWUpRefIdeal.τ).loc Cert.DWUpRefIdeal.main_arg1) = m ((c.tc : Thread Cert.DWUpRefIdeal.nD Cert.DWUpRefIdeal.τ).loc Cert.DWUpRefIdeal.main_arg1))
      ∧ r.2.sem = fun _ => 0)

def quiescent_DWO [hDWO : Cert.DWO.Facts] : Prop :=
  ∀ (m : (ℓ : Loc Cert.DWO.nD Cert.DWO.τ Cert.DWO.sig) → Buf (Elt Bits) ℓ) (g : Dev Cert.DWO.nD → PrngReg), Pre_DWO m →
    θ_run (Cert.DWO.defs (F := Bits)) (onTc (τ := Cert.DWO.τ) (Cert.DWO.main (F := Bits))) ⟨m, fun _ => 0, g⟩ (fun r => (∀ c : Dev Cert.DWO.nD,
      r.2.mem ((c.tc : Thread Cert.DWO.nD Cert.DWO.τ).loc Cert.DWO.main_arg0) = m ((c.tc : Thread Cert.DWO.nD Cert.DWO.τ).loc Cert.DWO.main_arg0)
      ∧ r.2.mem ((c.tc : Thread Cert.DWO.nD Cert.DWO.τ).loc Cert.DWO.main_arg1) = m ((c.tc : Thread Cert.DWO.nD Cert.DWO.τ).loc Cert.DWO.main_arg1))
      ∧ r.2.sem = fun _ => 0)

def quiescent_DWOIdeal [hDWOIdeal : Cert.DWOIdeal.Facts] : Prop :=
  ∀ (m : (ℓ : Loc Cert.DWOIdeal.nD Cert.DWOIdeal.τ Cert.DWOIdeal.sig) → Buf (Elt Ideal) ℓ) (g : Dev Cert.DWOIdeal.nD → PrngReg), Pre_DWOIdeal m →
    θ_run (Cert.DWOIdeal.defs (F := Ideal)) (onTc (τ := Cert.DWOIdeal.τ) (Cert.DWOIdeal.main (F := Ideal))) ⟨m, fun _ => 0, g⟩ (fun r => (∀ c : Dev Cert.DWOIdeal.nD,
      r.2.mem ((c.tc : Thread Cert.DWOIdeal.nD Cert.DWOIdeal.τ).loc Cert.DWOIdeal.main_arg0) = m ((c.tc : Thread Cert.DWOIdeal.nD Cert.DWOIdeal.τ).loc Cert.DWOIdeal.main_arg0)
      ∧ r.2.mem ((c.tc : Thread Cert.DWOIdeal.nD Cert.DWOIdeal.τ).loc Cert.DWOIdeal.main_arg1) = m ((c.tc : Thread Cert.DWOIdeal.nD Cert.DWOIdeal.τ).loc Cert.DWOIdeal.main_arg1))
      ∧ r.2.sem = fun _ => 0)

def quiescent_DWORefIdeal [hDWORefIdeal : Cert.DWORefIdeal.Facts] : Prop :=
  ∀ (m : (ℓ : Loc Cert.DWORefIdeal.nD Cert.DWORefIdeal.τ Cert.DWORefIdeal.sig) → Buf (Elt Ideal) ℓ) (g : Dev Cert.DWORefIdeal.nD → PrngReg), Pre_DWORefIdeal m →
    θ_run (Cert.DWORefIdeal.defs (F := Ideal)) (onTc (τ := Cert.DWORefIdeal.τ) (Cert.DWORefIdeal.main (F := Ideal))) ⟨m, fun _ => 0, g⟩ (fun r => (∀ c : Dev Cert.DWORefIdeal.nD,
      r.2.mem ((c.tc : Thread Cert.DWORefIdeal.nD Cert.DWORefIdeal.τ).loc Cert.DWORefIdeal.main_arg0) = m ((c.tc : Thread Cert.DWORefIdeal.nD Cert.DWORefIdeal.τ).loc Cert.DWORefIdeal.main_arg0)
      ∧ r.2.mem ((c.tc : Thread Cert.DWORefIdeal.nD Cert.DWORefIdeal.τ).loc Cert.DWORefIdeal.main_arg1) = m ((c.tc : Thread Cert.DWORefIdeal.nD Cert.DWORefIdeal.τ).loc Cert.DWORefIdeal.main_arg1))
      ∧ r.2.sem = fun _ => 0)

def quiescent_DProjA [hDProjA : Cert.DProjA.Facts] : Prop :=
  ∀ (m : (ℓ : Loc Cert.DProjA.nD Cert.DProjA.τ Cert.DProjA.sig) → Buf (Elt Bits) ℓ) (g : Dev Cert.DProjA.nD → PrngReg), Pre_DProjA m →
    θ_run (Cert.DProjA.defs (F := Bits)) (onTc (τ := Cert.DProjA.τ) (Cert.DProjA.main (F := Bits))) ⟨m, fun _ => 0, g⟩ (fun r => (∀ c : Dev Cert.DProjA.nD,
      r.2.mem ((c.tc : Thread Cert.DProjA.nD Cert.DProjA.τ).loc Cert.DProjA.main_arg0) = m ((c.tc : Thread Cert.DProjA.nD Cert.DProjA.τ).loc Cert.DProjA.main_arg0)
      ∧ r.2.mem ((c.tc : Thread Cert.DProjA.nD Cert.DProjA.τ).loc Cert.DProjA.main_arg1) = m ((c.tc : Thread Cert.DProjA.nD Cert.DProjA.τ).loc Cert.DProjA.main_arg1))
      ∧ r.2.sem = fun _ => 0)

def quiescent_DProjAIdeal [hDProjAIdeal : Cert.DProjAIdeal.Facts] : Prop :=
  ∀ (m : (ℓ : Loc Cert.DProjAIdeal.nD Cert.DProjAIdeal.τ Cert.DProjAIdeal.sig) → Buf (Elt Ideal) ℓ) (g : Dev Cert.DProjAIdeal.nD → PrngReg), Pre_DProjAIdeal m →
    θ_run (Cert.DProjAIdeal.defs (F := Ideal)) (onTc (τ := Cert.DProjAIdeal.τ) (Cert.DProjAIdeal.main (F := Ideal))) ⟨m, fun _ => 0, g⟩ (fun r => (∀ c : Dev Cert.DProjAIdeal.nD,
      r.2.mem ((c.tc : Thread Cert.DProjAIdeal.nD Cert.DProjAIdeal.τ).loc Cert.DProjAIdeal.main_arg0) = m ((c.tc : Thread Cert.DProjAIdeal.nD Cert.DProjAIdeal.τ).loc Cert.DProjAIdeal.main_arg0)
      ∧ r.2.mem ((c.tc : Thread Cert.DProjAIdeal.nD Cert.DProjAIdeal.τ).loc Cert.DProjAIdeal.main_arg1) = m ((c.tc : Thread Cert.DProjAIdeal.nD Cert.DProjAIdeal.τ).loc Cert.DProjAIdeal.main_arg1))
      ∧ r.2.sem = fun _ => 0)

def quiescent_DProjARefIdeal [hDProjARefIdeal : Cert.DProjARefIdeal.Facts] : Prop :=
  ∀ (m : (ℓ : Loc Cert.DProjARefIdeal.nD Cert.DProjARefIdeal.τ Cert.DProjARefIdeal.sig) → Buf (Elt Ideal) ℓ) (g : Dev Cert.DProjARefIdeal.nD → PrngReg), Pre_DProjARefIdeal m →
    θ_run (Cert.DProjARefIdeal.defs (F := Ideal)) (onTc (τ := Cert.DProjARefIdeal.τ) (Cert.DProjARefIdeal.main (F := Ideal))) ⟨m, fun _ => 0, g⟩ (fun r => (∀ c : Dev Cert.DProjARefIdeal.nD,
      r.2.mem ((c.tc : Thread Cert.DProjARefIdeal.nD Cert.DProjARefIdeal.τ).loc Cert.DProjARefIdeal.main_arg0) = m ((c.tc : Thread Cert.DProjARefIdeal.nD Cert.DProjARefIdeal.τ).loc Cert.DProjARefIdeal.main_arg0)
      ∧ r.2.mem ((c.tc : Thread Cert.DProjARefIdeal.nD Cert.DProjARefIdeal.τ).loc Cert.DProjARefIdeal.main_arg1) = m ((c.tc : Thread Cert.DProjARefIdeal.nD Cert.DProjARefIdeal.τ).loc Cert.DProjARefIdeal.main_arg1))
      ∧ r.2.sem = fun _ => 0)

def quiescent_DProjB [hDProjB : Cert.DProjB.Facts] : Prop :=
  ∀ (m : (ℓ : Loc Cert.DProjB.nD Cert.DProjB.τ Cert.DProjB.sig) → Buf (Elt Bits) ℓ) (g : Dev Cert.DProjB.nD → PrngReg), Pre_DProjB m →
    θ_run (Cert.DProjB.defs (F := Bits)) (onTc (τ := Cert.DProjB.τ) (Cert.DProjB.main (F := Bits))) ⟨m, fun _ => 0, g⟩ (fun r => (∀ c : Dev Cert.DProjB.nD,
      r.2.mem ((c.tc : Thread Cert.DProjB.nD Cert.DProjB.τ).loc Cert.DProjB.main_arg0) = m ((c.tc : Thread Cert.DProjB.nD Cert.DProjB.τ).loc Cert.DProjB.main_arg0)
      ∧ r.2.mem ((c.tc : Thread Cert.DProjB.nD Cert.DProjB.τ).loc Cert.DProjB.main_arg1) = m ((c.tc : Thread Cert.DProjB.nD Cert.DProjB.τ).loc Cert.DProjB.main_arg1))
      ∧ r.2.sem = fun _ => 0)

def quiescent_DProjBIdeal [hDProjBIdeal : Cert.DProjBIdeal.Facts] : Prop :=
  ∀ (m : (ℓ : Loc Cert.DProjBIdeal.nD Cert.DProjBIdeal.τ Cert.DProjBIdeal.sig) → Buf (Elt Ideal) ℓ) (g : Dev Cert.DProjBIdeal.nD → PrngReg), Pre_DProjBIdeal m →
    θ_run (Cert.DProjBIdeal.defs (F := Ideal)) (onTc (τ := Cert.DProjBIdeal.τ) (Cert.DProjBIdeal.main (F := Ideal))) ⟨m, fun _ => 0, g⟩ (fun r => (∀ c : Dev Cert.DProjBIdeal.nD,
      r.2.mem ((c.tc : Thread Cert.DProjBIdeal.nD Cert.DProjBIdeal.τ).loc Cert.DProjBIdeal.main_arg0) = m ((c.tc : Thread Cert.DProjBIdeal.nD Cert.DProjBIdeal.τ).loc Cert.DProjBIdeal.main_arg0)
      ∧ r.2.mem ((c.tc : Thread Cert.DProjBIdeal.nD Cert.DProjBIdeal.τ).loc Cert.DProjBIdeal.main_arg1) = m ((c.tc : Thread Cert.DProjBIdeal.nD Cert.DProjBIdeal.τ).loc Cert.DProjBIdeal.main_arg1))
      ∧ r.2.sem = fun _ => 0)

def quiescent_DProjBRefIdeal [hDProjBRefIdeal : Cert.DProjBRefIdeal.Facts] : Prop :=
  ∀ (m : (ℓ : Loc Cert.DProjBRefIdeal.nD Cert.DProjBRefIdeal.τ Cert.DProjBRefIdeal.sig) → Buf (Elt Ideal) ℓ) (g : Dev Cert.DProjBRefIdeal.nD → PrngReg), Pre_DProjBRefIdeal m →
    θ_run (Cert.DProjBRefIdeal.defs (F := Ideal)) (onTc (τ := Cert.DProjBRefIdeal.τ) (Cert.DProjBRefIdeal.main (F := Ideal))) ⟨m, fun _ => 0, g⟩ (fun r => (∀ c : Dev Cert.DProjBRefIdeal.nD,
      r.2.mem ((c.tc : Thread Cert.DProjBRefIdeal.nD Cert.DProjBRefIdeal.τ).loc Cert.DProjBRefIdeal.main_arg0) = m ((c.tc : Thread Cert.DProjBRefIdeal.nD Cert.DProjBRefIdeal.τ).loc Cert.DProjBRefIdeal.main_arg0)
      ∧ r.2.mem ((c.tc : Thread Cert.DProjBRefIdeal.nD Cert.DProjBRefIdeal.τ).loc Cert.DProjBRefIdeal.main_arg1) = m ((c.tc : Thread Cert.DProjBRefIdeal.nD Cert.DProjBRefIdeal.τ).loc Cert.DProjBRefIdeal.main_arg1))
      ∧ r.2.sem = fun _ => 0)

def quiescent_DProjC [hDProjC : Cert.DProjC.Facts] : Prop :=
  ∀ (m : (ℓ : Loc Cert.DProjC.nD Cert.DProjC.τ Cert.DProjC.sig) → Buf (Elt Bits) ℓ) (g : Dev Cert.DProjC.nD → PrngReg), Pre_DProjC m →
    θ_run (Cert.DProjC.defs (F := Bits)) (onTc (τ := Cert.DProjC.τ) (Cert.DProjC.main (F := Bits))) ⟨m, fun _ => 0, g⟩ (fun r => (∀ c : Dev Cert.DProjC.nD,
      r.2.mem ((c.tc : Thread Cert.DProjC.nD Cert.DProjC.τ).loc Cert.DProjC.main_arg0) = m ((c.tc : Thread Cert.DProjC.nD Cert.DProjC.τ).loc Cert.DProjC.main_arg0)
      ∧ r.2.mem ((c.tc : Thread Cert.DProjC.nD Cert.DProjC.τ).loc Cert.DProjC.main_arg1) = m ((c.tc : Thread Cert.DProjC.nD Cert.DProjC.τ).loc Cert.DProjC.main_arg1))
      ∧ r.2.sem = fun _ => 0)

def quiescent_DProjCIdeal [hDProjCIdeal : Cert.DProjCIdeal.Facts] : Prop :=
  ∀ (m : (ℓ : Loc Cert.DProjCIdeal.nD Cert.DProjCIdeal.τ Cert.DProjCIdeal.sig) → Buf (Elt Ideal) ℓ) (g : Dev Cert.DProjCIdeal.nD → PrngReg), Pre_DProjCIdeal m →
    θ_run (Cert.DProjCIdeal.defs (F := Ideal)) (onTc (τ := Cert.DProjCIdeal.τ) (Cert.DProjCIdeal.main (F := Ideal))) ⟨m, fun _ => 0, g⟩ (fun r => (∀ c : Dev Cert.DProjCIdeal.nD,
      r.2.mem ((c.tc : Thread Cert.DProjCIdeal.nD Cert.DProjCIdeal.τ).loc Cert.DProjCIdeal.main_arg0) = m ((c.tc : Thread Cert.DProjCIdeal.nD Cert.DProjCIdeal.τ).loc Cert.DProjCIdeal.main_arg0)
      ∧ r.2.mem ((c.tc : Thread Cert.DProjCIdeal.nD Cert.DProjCIdeal.τ).loc Cert.DProjCIdeal.main_arg1) = m ((c.tc : Thread Cert.DProjCIdeal.nD Cert.DProjCIdeal.τ).loc Cert.DProjCIdeal.main_arg1))
      ∧ r.2.sem = fun _ => 0)

def quiescent_DProjCRefIdeal [hDProjCRefIdeal : Cert.DProjCRefIdeal.Facts] : Prop :=
  ∀ (m : (ℓ : Loc Cert.DProjCRefIdeal.nD Cert.DProjCRefIdeal.τ Cert.DProjCRefIdeal.sig) → Buf (Elt Ideal) ℓ) (g : Dev Cert.DProjCRefIdeal.nD → PrngReg), Pre_DProjCRefIdeal m →
    θ_run (Cert.DProjCRefIdeal.defs (F := Ideal)) (onTc (τ := Cert.DProjCRefIdeal.τ) (Cert.DProjCRefIdeal.main (F := Ideal))) ⟨m, fun _ => 0, g⟩ (fun r => (∀ c : Dev Cert.DProjCRefIdeal.nD,
      r.2.mem ((c.tc : Thread Cert.DProjCRefIdeal.nD Cert.DProjCRefIdeal.τ).loc Cert.DProjCRefIdeal.main_arg0) = m ((c.tc : Thread Cert.DProjCRefIdeal.nD Cert.DProjCRefIdeal.τ).loc Cert.DProjCRefIdeal.main_arg0)
      ∧ r.2.mem ((c.tc : Thread Cert.DProjCRefIdeal.nD Cert.DProjCRefIdeal.τ).loc Cert.DProjCRefIdeal.main_arg1) = m ((c.tc : Thread Cert.DProjCRefIdeal.nD Cert.DProjCRefIdeal.τ).loc Cert.DProjCRefIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DGa [hDGa : Cert.DGa.Facts] : Prop :=
  ∀ (m : (ℓ : Loc Cert.DGa.nD Cert.DGa.τ Cert.DGa.sig) → Buf (Elt Bits) ℓ) (g : Dev Cert.DGa.nD → PrngReg), Pre_DGa m →
    θ_run (Cert.DGa.defs (F := Bits)) (onTc (τ := Cert.DGa.τ) (Cert.DGa.main (F := Bits))) ⟨m, fun _ => 0, g⟩ (fun r => (∀ c : Dev Cert.DGa.nD,
      r.2.mem ((c.tc : Thread Cert.DGa.nD Cert.DGa.τ).loc Cert.DGa.main_arg0) = m ((c.tc : Thread Cert.DGa.nD Cert.DGa.τ).loc Cert.DGa.main_arg0)
      ∧ r.2.mem ((c.tc : Thread Cert.DGa.nD Cert.DGa.τ).loc Cert.DGa.main_arg1) = m ((c.tc : Thread Cert.DGa.nD Cert.DGa.τ).loc Cert.DGa.main_arg1))
      ∧ r.2.sem = fun _ => 0)

def quiescent_DGaIdeal [hDGaIdeal : Cert.DGaIdeal.Facts] : Prop :=
  ∀ (m : (ℓ : Loc Cert.DGaIdeal.nD Cert.DGaIdeal.τ Cert.DGaIdeal.sig) → Buf (Elt Ideal) ℓ) (g : Dev Cert.DGaIdeal.nD → PrngReg), Pre_DGaIdeal m →
    θ_run (Cert.DGaIdeal.defs (F := Ideal)) (onTc (τ := Cert.DGaIdeal.τ) (Cert.DGaIdeal.main (F := Ideal))) ⟨m, fun _ => 0, g⟩ (fun r => (∀ c : Dev Cert.DGaIdeal.nD,
      r.2.mem ((c.tc : Thread Cert.DGaIdeal.nD Cert.DGaIdeal.τ).loc Cert.DGaIdeal.main_arg0) = m ((c.tc : Thread Cert.DGaIdeal.nD Cert.DGaIdeal.τ).loc Cert.DGaIdeal.main_arg0)
      ∧ r.2.mem ((c.tc : Thread Cert.DGaIdeal.nD Cert.DGaIdeal.τ).loc Cert.DGaIdeal.main_arg1) = m ((c.tc : Thread Cert.DGaIdeal.nD Cert.DGaIdeal.τ).loc Cert.DGaIdeal.main_arg1))
      ∧ r.2.sem = fun _ => 0)

def quiescent_DGaRefIdeal [hDGaRefIdeal : Cert.DGaRefIdeal.Facts] : Prop :=
  ∀ (m : (ℓ : Loc Cert.DGaRefIdeal.nD Cert.DGaRefIdeal.τ Cert.DGaRefIdeal.sig) → Buf (Elt Ideal) ℓ) (g : Dev Cert.DGaRefIdeal.nD → PrngReg), Pre_DGaRefIdeal m →
    θ_run (Cert.DGaRefIdeal.defs (F := Ideal)) (onTc (τ := Cert.DGaRefIdeal.τ) (Cert.DGaRefIdeal.main (F := Ideal))) ⟨m, fun _ => 0, g⟩ (fun r => (∀ c : Dev Cert.DGaRefIdeal.nD,
      r.2.mem ((c.tc : Thread Cert.DGaRefIdeal.nD Cert.DGaRefIdeal.τ).loc Cert.DGaRefIdeal.main_arg0) = m ((c.tc : Thread Cert.DGaRefIdeal.nD Cert.DGaRefIdeal.τ).loc Cert.DGaRefIdeal.main_arg0)
      ∧ r.2.mem ((c.tc : Thread Cert.DGaRefIdeal.nD Cert.DGaRefIdeal.τ).loc Cert.DGaRefIdeal.main_arg1) = m ((c.tc : Thread Cert.DGaRefIdeal.nD Cert.DGaRefIdeal.τ).loc Cert.DGaRefIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DU2 [hDU2 : Cert.DU2.Facts] : Prop :=
  ∀ (m : (ℓ : Loc Cert.DU2.nD Cert.DU2.τ Cert.DU2.sig) → Buf (Elt Bits) ℓ) (g : Dev Cert.DU2.nD → PrngReg), Pre_DU2 m →
    θ_run (Cert.DU2.defs (F := Bits)) (onTc (τ := Cert.DU2.τ) (Cert.DU2.main (F := Bits))) ⟨m, fun _ => 0, g⟩ (fun r => (∀ c : Dev Cert.DU2.nD,
      r.2.mem ((c.tc : Thread Cert.DU2.nD Cert.DU2.τ).loc Cert.DU2.main_arg0) = m ((c.tc : Thread Cert.DU2.nD Cert.DU2.τ).loc Cert.DU2.main_arg0)
      ∧ r.2.mem ((c.tc : Thread Cert.DU2.nD Cert.DU2.τ).loc Cert.DU2.main_arg1) = m ((c.tc : Thread Cert.DU2.nD Cert.DU2.τ).loc Cert.DU2.main_arg1))
      ∧ r.2.sem = fun _ => 0)

def quiescent_DU2Ideal [hDU2Ideal : Cert.DU2Ideal.Facts] : Prop :=
  ∀ (m : (ℓ : Loc Cert.DU2Ideal.nD Cert.DU2Ideal.τ Cert.DU2Ideal.sig) → Buf (Elt Ideal) ℓ) (g : Dev Cert.DU2Ideal.nD → PrngReg), Pre_DU2Ideal m →
    θ_run (Cert.DU2Ideal.defs (F := Ideal)) (onTc (τ := Cert.DU2Ideal.τ) (Cert.DU2Ideal.main (F := Ideal))) ⟨m, fun _ => 0, g⟩ (fun r => (∀ c : Dev Cert.DU2Ideal.nD,
      r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
      ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ r.2.sem = fun _ => 0)

def quiescent_DU2RefIdeal [hDU2RefIdeal : Cert.DU2RefIdeal.Facts] : Prop :=
  ∀ (m : (ℓ : Loc Cert.DU2RefIdeal.nD Cert.DU2RefIdeal.τ Cert.DU2RefIdeal.sig) → Buf (Elt Ideal) ℓ) (g : Dev Cert.DU2RefIdeal.nD → PrngReg), Pre_DU2RefIdeal m →
    θ_run (Cert.DU2RefIdeal.defs (F := Ideal)) (onTc (τ := Cert.DU2RefIdeal.τ) (Cert.DU2RefIdeal.main (F := Ideal))) ⟨m, fun _ => 0, g⟩ (fun r => (∀ c : Dev Cert.DU2RefIdeal.nD,
      r.2.mem ((c.tc : Thread Cert.DU2RefIdeal.nD Cert.DU2RefIdeal.τ).loc Cert.DU2RefIdeal.main_arg0) = m ((c.tc : Thread Cert.DU2RefIdeal.nD Cert.DU2RefIdeal.τ).loc Cert.DU2RefIdeal.main_arg0)
      ∧ r.2.mem ((c.tc : Thread Cert.DU2RefIdeal.nD Cert.DU2RefIdeal.τ).loc Cert.DU2RefIdeal.main_arg1) = m ((c.tc : Thread Cert.DU2RefIdeal.nD Cert.DU2RefIdeal.τ).loc Cert.DU2RefIdeal.main_arg1))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1))
      ∧ r.2.sem = fun _ => 0)

def quiescent_FwdUp [hFwdUp : Cert.FwdUp.Facts] : Prop :=
  ∀ (m : (ℓ : Loc Cert.FwdUp.nD Cert.FwdUp.τ Cert.FwdUp.sig) → Buf (Elt Bits) ℓ) (g : Dev Cert.FwdUp.nD → PrngReg), Pre_FwdUp m →
    θ_run (Cert.FwdUp.defs (F := Bits)) (onTc (τ := Cert.FwdUp.τ) (Cert.FwdUp.main (F := Bits))) ⟨m, fun _ => 0, g⟩ (fun r => (∀ c : Dev Cert.FwdUp.nD,
      r.2.mem ((c.tc : Thread Cert.FwdUp.nD Cert.FwdUp.τ).loc Cert.FwdUp.main_arg0) = m ((c.tc : Thread Cert.FwdUp.nD Cert.FwdUp.τ).loc Cert.FwdUp.main_arg0)
      ∧ r.2.mem ((c.tc : Thread Cert.FwdUp.nD Cert.FwdUp.τ).loc Cert.FwdUp.main_arg1) = m ((c.tc : Thread Cert.FwdUp.nD Cert.FwdUp.τ).loc Cert.FwdUp.main_arg1))
      ∧ r.2.sem = fun _ => 0)

def quiescent_FwdUpIdeal [hFwdUpIdeal : Cert.FwdUpIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg), Pre_FwdUpIdeal m →
    θ_run (Cert.FwdUpIdeal.defs (F := Ideal)) (onTc (τ := Cert.FwdUpIdeal.τ) (Cert.FwdUpIdeal.main (F := Ideal))) ⟨m, fun _ => 0, g⟩ (fun r => (∀ c : Dev Cert.FwdUpIdeal.nD,
      r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
      ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ r.2.sem = fun _ => 0)

def quiescent_FwdUpRefIdeal [hFwdUpRefIdeal : Cert.FwdUpRefIdeal.Facts] : Prop :=
  ∀ (m : (ℓ : Loc Cert.FwdUpRefIdeal.nD Cert.FwdUpRefIdeal.τ Cert.FwdUpRefIdeal.sig) → Buf (Elt Ideal) ℓ) (g : Dev Cert.FwdUpRefIdeal.nD → PrngReg), Pre_FwdUpRefIdeal m →
    θ_run (Cert.FwdUpRefIdeal.defs (F := Ideal)) (onTc (τ := Cert.FwdUpRefIdeal.τ) (Cert.FwdUpRefIdeal.main (F := Ideal))) ⟨m, fun _ => 0, g⟩ (fun r => (∀ c : Dev Cert.FwdUpRefIdeal.nD,
      r.2.mem ((c.tc : Thread Cert.FwdUpRefIdeal.nD Cert.FwdUpRefIdeal.τ).loc Cert.FwdUpRefIdeal.main_arg0) = m ((c.tc : Thread Cert.FwdUpRefIdeal.nD Cert.FwdUpRefIdeal.τ).loc Cert.FwdUpRefIdeal.main_arg0)
      ∧ r.2.mem ((c.tc : Thread Cert.FwdUpRefIdeal.nD Cert.FwdUpRefIdeal.τ).loc Cert.FwdUpRefIdeal.main_arg1) = m ((c.tc : Thread Cert.FwdUpRefIdeal.nD Cert.FwdUpRefIdeal.τ).loc Cert.FwdUpRefIdeal.main_arg1))
      ∧ r.2.sem = fun _ => 0)

def quiescent_FwdDown [hFwdDown : Cert.FwdDown.Facts] : Prop :=
  ∀ (m : (ℓ : Loc Cert.FwdDown.nD Cert.FwdDown.τ Cert.FwdDown.sig) → Buf (Elt Bits) ℓ) (g : Dev Cert.FwdDown.nD → PrngReg), Pre_FwdDown m →
    θ_run (Cert.FwdDown.defs (F := Bits)) (onTc (τ := Cert.FwdDown.τ) (Cert.FwdDown.main (F := Bits))) ⟨m, fun _ => 0, g⟩ (fun r => (∀ c : Dev Cert.FwdDown.nD,
      r.2.mem ((c.tc : Thread Cert.FwdDown.nD Cert.FwdDown.τ).loc Cert.FwdDown.main_arg0) = m ((c.tc : Thread Cert.FwdDown.nD Cert.FwdDown.τ).loc Cert.FwdDown.main_arg0)
      ∧ r.2.mem ((c.tc : Thread Cert.FwdDown.nD Cert.FwdDown.τ).loc Cert.FwdDown.main_arg1) = m ((c.tc : Thread Cert.FwdDown.nD Cert.FwdDown.τ).loc Cert.FwdDown.main_arg1))
      ∧ r.2.sem = fun _ => 0)

def quiescent_FwdDownIdeal [hFwdDownIdeal : Cert.FwdDownIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg), Pre_FwdDownIdeal m →
    θ_run (Cert.FwdDownIdeal.defs (F := Ideal)) (onTc (τ := Cert.FwdDownIdeal.τ) (Cert.FwdDownIdeal.main (F := Ideal))) ⟨m, fun _ => 0, g⟩ (fun r => (∀ c : Dev Cert.FwdDownIdeal.nD,
      r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
      ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1))
      ∧ r.2.sem = fun _ => 0)

def quiescent_FwdDownRefIdeal [hFwdDownRefIdeal : Cert.FwdDownRefIdeal.Facts] : Prop :=
  ∀ (m : (ℓ : Loc Cert.FwdDownRefIdeal.nD Cert.FwdDownRefIdeal.τ Cert.FwdDownRefIdeal.sig) → Buf (Elt Ideal) ℓ) (g : Dev Cert.FwdDownRefIdeal.nD → PrngReg), Pre_FwdDownRefIdeal m →
    θ_run (Cert.FwdDownRefIdeal.defs (F := Ideal)) (onTc (τ := Cert.FwdDownRefIdeal.τ) (Cert.FwdDownRefIdeal.main (F := Ideal))) ⟨m, fun _ => 0, g⟩ (fun r => (∀ c : Dev Cert.FwdDownRefIdeal.nD,
      r.2.mem ((c.tc : Thread Cert.FwdDownRefIdeal.nD Cert.FwdDownRefIdeal.τ).loc Cert.FwdDownRefIdeal.main_arg0) = m ((c.tc : Thread Cert.FwdDownRefIdeal.nD Cert.FwdDownRefIdeal.τ).loc Cert.FwdDownRefIdeal.main_arg0)
      ∧ r.2.mem ((c.tc : Thread Cert.FwdDownRefIdeal.nD Cert.FwdDownRefIdeal.τ).loc Cert.FwdDownRefIdeal.main_arg1) = m ((c.tc : Thread Cert.FwdDownRefIdeal.nD Cert.FwdDownRefIdeal.τ).loc Cert.FwdDownRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2))
      ∧ r.2.sem = fun _ => 0)

def quiescent_RmsFirst [hRmsFirst : Cert.RmsFirst.Facts] : Prop :=
  ∀ (m : (ℓ : Loc Cert.RmsFirst.nD Cert.RmsFirst.τ Cert.RmsFirst.sig) → Buf (Elt Bits) ℓ) (g : Dev Cert.RmsFirst.nD → PrngReg), Pre_RmsFirst m →
    θ_run (Cert.RmsFirst.defs (F := Bits)) (onTc (τ := Cert.RmsFirst.τ) (Cert.RmsFirst.main (F := Bits))) ⟨m, fun _ => 0, g⟩ (fun r => (∀ c : Dev Cert.RmsFirst.nD,
      r.2.mem ((c.tc : Thread Cert.RmsFirst.nD Cert.RmsFirst.τ).loc Cert.RmsFirst.main_arg0) = m ((c.tc : Thread Cert.RmsFirst.nD Cert.RmsFirst.τ).loc Cert.RmsFirst.main_arg0)
      ∧ r.2.mem ((c.tc : Thread Cert.RmsFirst.nD Cert.RmsFirst.τ).loc Cert.RmsFirst.main_arg1) = m ((c.tc : Thread Cert.RmsFirst.nD Cert.RmsFirst.τ).loc Cert.RmsFirst.main_arg1))
      ∧ r.2.sem = fun _ => 0)

def quiescent_RmsFirstIdeal [hRmsFirstIdeal : Cert.RmsFirstIdeal.Facts] : Prop :=
  ∀ (m : (ℓ : Loc Cert.RmsFirstIdeal.nD Cert.RmsFirstIdeal.τ Cert.RmsFirstIdeal.sig) → Buf (Elt Ideal) ℓ) (g : Dev Cert.RmsFirstIdeal.nD → PrngReg), Pre_RmsFirstIdeal m →
    θ_run (Cert.RmsFirstIdeal.defs (F := Ideal)) (onTc (τ := Cert.RmsFirstIdeal.τ) (Cert.RmsFirstIdeal.main (F := Ideal))) ⟨m, fun _ => 0, g⟩ (fun r => (∀ c : Dev Cert.RmsFirstIdeal.nD,
      r.2.mem ((c.tc : Thread Cert.RmsFirstIdeal.nD Cert.RmsFirstIdeal.τ).loc Cert.RmsFirstIdeal.main_arg0) = m ((c.tc : Thread Cert.RmsFirstIdeal.nD Cert.RmsFirstIdeal.τ).loc Cert.RmsFirstIdeal.main_arg0)
      ∧ r.2.mem ((c.tc : Thread Cert.RmsFirstIdeal.nD Cert.RmsFirstIdeal.τ).loc Cert.RmsFirstIdeal.main_arg1) = m ((c.tc : Thread Cert.RmsFirstIdeal.nD Cert.RmsFirstIdeal.τ).loc Cert.RmsFirstIdeal.main_arg1))
      ∧ r.2.sem = fun _ => 0)

def quiescent_RmsFirstRefIdeal [hRmsFirstRefIdeal : Cert.RmsFirstRefIdeal.Facts] : Prop :=
  ∀ (m : (ℓ : Loc Cert.RmsFirstRefIdeal.nD Cert.RmsFirstRefIdeal.τ Cert.RmsFirstRefIdeal.sig) → Buf (Elt Ideal) ℓ) (g : Dev Cert.RmsFirstRefIdeal.nD → PrngReg), Pre_RmsFirstRefIdeal m →
    θ_run (Cert.RmsFirstRefIdeal.defs (F := Ideal)) (onTc (τ := Cert.RmsFirstRefIdeal.τ) (Cert.RmsFirstRefIdeal.main (F := Ideal))) ⟨m, fun _ => 0, g⟩ (fun r => (∀ c : Dev Cert.RmsFirstRefIdeal.nD,
      r.2.mem ((c.tc : Thread Cert.RmsFirstRefIdeal.nD Cert.RmsFirstRefIdeal.τ).loc Cert.RmsFirstRefIdeal.main_arg0) = m ((c.tc : Thread Cert.RmsFirstRefIdeal.nD Cert.RmsFirstRefIdeal.τ).loc Cert.RmsFirstRefIdeal.main_arg0)
      ∧ r.2.mem ((c.tc : Thread Cert.RmsFirstRefIdeal.nD Cert.RmsFirstRefIdeal.τ).loc Cert.RmsFirstRefIdeal.main_arg1) = m ((c.tc : Thread Cert.RmsFirstRefIdeal.nD Cert.RmsFirstRefIdeal.τ).loc Cert.RmsFirstRefIdeal.main_arg1))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_CfNormFwd [hCfNormFwd : Cert.CfNormFwd.Facts] : Prop :=
  ∀ (m : (ℓ : Loc Cert.CfNormFwd.nD Cert.CfNormFwd.τ Cert.CfNormFwd.sig) → Buf (Elt Bits) ℓ) (g : Dev Cert.CfNormFwd.nD → PrngReg), Pre_CfNormFwd m →
    θ_run (Cert.CfNormFwd.defs (F := Bits)) (onTc (τ := Cert.CfNormFwd.τ) (Cert.CfNormFwd.main (F := Bits))) ⟨m, fun _ => 0, g⟩ (fun r => (∀ c : Dev Cert.CfNormFwd.nD,
      r.2.mem ((c.tc : Thread Cert.CfNormFwd.nD Cert.CfNormFwd.τ).loc Cert.CfNormFwd.main_arg0) = m ((c.tc : Thread Cert.CfNormFwd.nD Cert.CfNormFwd.τ).loc Cert.CfNormFwd.main_arg0)
      ∧ r.2.mem ((c.tc : Thread Cert.CfNormFwd.nD Cert.CfNormFwd.τ).loc Cert.CfNormFwd.main_arg1) = m ((c.tc : Thread Cert.CfNormFwd.nD Cert.CfNormFwd.τ).loc Cert.CfNormFwd.main_arg1)
      ∧ r.2.mem ((c.tc : Thread Cert.CfNormFwd.nD Cert.CfNormFwd.τ).loc Cert.CfNormFwd.main_arg2) = m ((c.tc : Thread Cert.CfNormFwd.nD Cert.CfNormFwd.τ).loc Cert.CfNormFwd.main_arg2))
      ∧ r.2.sem = fun _ => 0)

def quiescent_CfNormFwdIdeal [hCfNormFwdIdeal : Cert.CfNormFwdIdeal.Facts] : Prop :=
  ∀ (m : (ℓ : Loc Cert.CfNormFwdIdeal.nD Cert.CfNormFwdIdeal.τ Cert.CfNormFwdIdeal.sig) → Buf (Elt Ideal) ℓ) (g : Dev Cert.CfNormFwdIdeal.nD → PrngReg), Pre_CfNormFwdIdeal m →
    θ_run (Cert.CfNormFwdIdeal.defs (F := Ideal)) (onTc (τ := Cert.CfNormFwdIdeal.τ) (Cert.CfNormFwdIdeal.main (F := Ideal))) ⟨m, fun _ => 0, g⟩ (fun r => (∀ c : Dev Cert.CfNormFwdIdeal.nD,
      r.2.mem ((c.tc : Thread Cert.CfNormFwdIdeal.nD Cert.CfNormFwdIdeal.τ).loc Cert.CfNormFwdIdeal.main_arg0) = m ((c.tc : Thread Cert.CfNormFwdIdeal.nD Cert.CfNormFwdIdeal.τ).loc Cert.CfNormFwdIdeal.main_arg0)
      ∧ r.2.mem ((c.tc : Thread Cert.CfNormFwdIdeal.nD Cert.CfNormFwdIdeal.τ).loc Cert.CfNormFwdIdeal.main_arg1) = m ((c.tc : Thread Cert.CfNormFwdIdeal.nD Cert.CfNormFwdIdeal.τ).loc Cert.CfNormFwdIdeal.main_arg1)
      ∧ r.2.mem ((c.tc : Thread Cert.CfNormFwdIdeal.nD Cert.CfNormFwdIdeal.τ).loc Cert.CfNormFwdIdeal.main_arg2) = m ((c.tc : Thread Cert.CfNormFwdIdeal.nD Cert.CfNormFwdIdeal.τ).loc Cert.CfNormFwdIdeal.main_arg2))
      ∧ r.2.sem = fun _ => 0)

def quiescent_CfNormFwdRefIdeal [hCfNormFwdRefIdeal : Cert.CfNormFwdRefIdeal.Facts] : Prop :=
  ∀ (m : (ℓ : Loc Cert.CfNormFwdRefIdeal.nD Cert.CfNormFwdRefIdeal.τ Cert.CfNormFwdRefIdeal.sig) → Buf (Elt Ideal) ℓ) (g : Dev Cert.CfNormFwdRefIdeal.nD → PrngReg), Pre_CfNormFwdRefIdeal m →
    θ_run (Cert.CfNormFwdRefIdeal.defs (F := Ideal)) (onTc (τ := Cert.CfNormFwdRefIdeal.τ) (Cert.CfNormFwdRefIdeal.main (F := Ideal))) ⟨m, fun _ => 0, g⟩ (fun r => (∀ c : Dev Cert.CfNormFwdRefIdeal.nD,
      r.2.mem ((c.tc : Thread Cert.CfNormFwdRefIdeal.nD Cert.CfNormFwdRefIdeal.τ).loc Cert.CfNormFwdRefIdeal.main_arg0) = m ((c.tc : Thread Cert.CfNormFwdRefIdeal.nD Cert.CfNormFwdRefIdeal.τ).loc Cert.CfNormFwdRefIdeal.main_arg0)
      ∧ r.2.mem ((c.tc : Thread Cert.CfNormFwdRefIdeal.nD Cert.CfNormFwdRefIdeal.τ).loc Cert.CfNormFwdRefIdeal.main_arg1) = m ((c.tc : Thread Cert.CfNormFwdRefIdeal.nD Cert.CfNormFwdRefIdeal.τ).loc Cert.CfNormFwdRefIdeal.main_arg1)
      ∧ r.2.mem ((c.tc : Thread Cert.CfNormFwdRefIdeal.nD Cert.CfNormFwdRefIdeal.τ).loc Cert.CfNormFwdRefIdeal.main_arg2) = m ((c.tc : Thread Cert.CfNormFwdRefIdeal.nD Cert.CfNormFwdRefIdeal.τ).loc Cert.CfNormFwdRefIdeal.main_arg2))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamProjA [hAdamProjA : Cert.AdamProjA.Facts] : Prop :=
  ∀ (m : (ℓ : Loc Cert.AdamProjA.nD Cert.AdamProjA.τ Cert.AdamProjA.sig) → Buf (Elt Bits) ℓ) (g : Dev Cert.AdamProjA.nD → PrngReg), Pre_AdamProjA m →
    θ_run (Cert.AdamProjA.defs (F := Bits)) (onTc (τ := Cert.AdamProjA.τ) (Cert.AdamProjA.main (F := Bits))) ⟨m, fun _ => 0, g⟩ (fun r => (∀ c : Dev Cert.AdamProjA.nD,
      r.2.mem ((c.tc : Thread Cert.AdamProjA.nD Cert.AdamProjA.τ).loc Cert.AdamProjA.main_arg0) = m ((c.tc : Thread Cert.AdamProjA.nD Cert.AdamProjA.τ).loc Cert.AdamProjA.main_arg0)
      ∧ r.2.mem ((c.tc : Thread Cert.AdamProjA.nD Cert.AdamProjA.τ).loc Cert.AdamProjA.main_arg1) = m ((c.tc : Thread Cert.AdamProjA.nD Cert.AdamProjA.τ).loc Cert.AdamProjA.main_arg1)
      ∧ r.2.mem ((c.tc : Thread Cert.AdamProjA.nD Cert.AdamProjA.τ).loc Cert.AdamProjA.main_arg2) = m ((c.tc : Thread Cert.AdamProjA.nD Cert.AdamProjA.τ).loc Cert.AdamProjA.main_arg2)
      ∧ r.2.mem ((c.tc : Thread Cert.AdamProjA.nD Cert.AdamProjA.τ).loc Cert.AdamProjA.main_arg3) = m ((c.tc : Thread Cert.AdamProjA.nD Cert.AdamProjA.τ).loc Cert.AdamProjA.main_arg3))
      ∧ r.2.sem = fun _ => 0)

def quiescent_AdamProjAIdeal [hAdamProjAIdeal : Cert.AdamProjAIdeal.Facts] : Prop :=
  ∀ (m : (ℓ : Loc Cert.AdamProjAIdeal.nD Cert.AdamProjAIdeal.τ Cert.AdamProjAIdeal.sig) → Buf (Elt Ideal) ℓ) (g : Dev Cert.AdamProjAIdeal.nD → PrngReg), Pre_AdamProjAIdeal m →
    θ_run (Cert.AdamProjAIdeal.defs (F := Ideal)) (onTc (τ := Cert.AdamProjAIdeal.τ) (Cert.AdamProjAIdeal.main (F := Ideal))) ⟨m, fun _ => 0, g⟩ (fun r => (∀ c : Dev Cert.AdamProjAIdeal.nD,
      r.2.mem ((c.tc : Thread Cert.AdamProjAIdeal.nD Cert.AdamProjAIdeal.τ).loc Cert.AdamProjAIdeal.main_arg0) = m ((c.tc : Thread Cert.AdamProjAIdeal.nD Cert.AdamProjAIdeal.τ).loc Cert.AdamProjAIdeal.main_arg0)
      ∧ r.2.mem ((c.tc : Thread Cert.AdamProjAIdeal.nD Cert.AdamProjAIdeal.τ).loc Cert.AdamProjAIdeal.main_arg1) = m ((c.tc : Thread Cert.AdamProjAIdeal.nD Cert.AdamProjAIdeal.τ).loc Cert.AdamProjAIdeal.main_arg1)
      ∧ r.2.mem ((c.tc : Thread Cert.AdamProjAIdeal.nD Cert.AdamProjAIdeal.τ).loc Cert.AdamProjAIdeal.main_arg2) = m ((c.tc : Thread Cert.AdamProjAIdeal.nD Cert.AdamProjAIdeal.τ).loc Cert.AdamProjAIdeal.main_arg2)
      ∧ r.2.mem ((c.tc : Thread Cert.AdamProjAIdeal.nD Cert.AdamProjAIdeal.τ).loc Cert.AdamProjAIdeal.main_arg3) = m ((c.tc : Thread Cert.AdamProjAIdeal.nD Cert.AdamProjAIdeal.τ).loc Cert.AdamProjAIdeal.main_arg3))
      ∧ r.2.sem = fun _ => 0)

def quiescent_AdamProjARefIdeal [hAdamProjARefIdeal : Cert.AdamProjARefIdeal.Facts] : Prop :=
  ∀ (m : (ℓ : Loc Cert.AdamProjARefIdeal.nD Cert.AdamProjARefIdeal.τ Cert.AdamProjARefIdeal.sig) → Buf (Elt Ideal) ℓ) (g : Dev Cert.AdamProjARefIdeal.nD → PrngReg), Pre_AdamProjARefIdeal m →
    θ_run (Cert.AdamProjARefIdeal.defs (F := Ideal)) (onTc (τ := Cert.AdamProjARefIdeal.τ) (Cert.AdamProjARefIdeal.main (F := Ideal))) ⟨m, fun _ => 0, g⟩ (fun r => (∀ c : Dev Cert.AdamProjARefIdeal.nD,
      r.2.mem ((c.tc : Thread Cert.AdamProjARefIdeal.nD Cert.AdamProjARefIdeal.τ).loc Cert.AdamProjARefIdeal.main_arg0) = m ((c.tc : Thread Cert.AdamProjARefIdeal.nD Cert.AdamProjARefIdeal.τ).loc Cert.AdamProjARefIdeal.main_arg0)
      ∧ r.2.mem ((c.tc : Thread Cert.AdamProjARefIdeal.nD Cert.AdamProjARefIdeal.τ).loc Cert.AdamProjARefIdeal.main_arg1) = m ((c.tc : Thread Cert.AdamProjARefIdeal.nD Cert.AdamProjARefIdeal.τ).loc Cert.AdamProjARefIdeal.main_arg1)
      ∧ r.2.mem ((c.tc : Thread Cert.AdamProjARefIdeal.nD Cert.AdamProjARefIdeal.τ).loc Cert.AdamProjARefIdeal.main_arg2) = m ((c.tc : Thread Cert.AdamProjARefIdeal.nD Cert.AdamProjARefIdeal.τ).loc Cert.AdamProjARefIdeal.main_arg2)
      ∧ r.2.mem ((c.tc : Thread Cert.AdamProjARefIdeal.nD Cert.AdamProjARefIdeal.τ).loc Cert.AdamProjARefIdeal.main_arg3) = m ((c.tc : Thread Cert.AdamProjARefIdeal.nD Cert.AdamProjARefIdeal.τ).loc Cert.AdamProjARefIdeal.main_arg3))
      ∧ r.2.sem = fun _ => 0)

def quiescent_AdamProjB [hAdamProjB : Cert.AdamProjB.Facts] : Prop :=
  ∀ (m : (ℓ : Loc Cert.AdamProjB.nD Cert.AdamProjB.τ Cert.AdamProjB.sig) → Buf (Elt Bits) ℓ) (g : Dev Cert.AdamProjB.nD → PrngReg), Pre_AdamProjB m →
    θ_run (Cert.AdamProjB.defs (F := Bits)) (onTc (τ := Cert.AdamProjB.τ) (Cert.AdamProjB.main (F := Bits))) ⟨m, fun _ => 0, g⟩ (fun r => (∀ c : Dev Cert.AdamProjB.nD,
      r.2.mem ((c.tc : Thread Cert.AdamProjB.nD Cert.AdamProjB.τ).loc Cert.AdamProjB.main_arg0) = m ((c.tc : Thread Cert.AdamProjB.nD Cert.AdamProjB.τ).loc Cert.AdamProjB.main_arg0)
      ∧ r.2.mem ((c.tc : Thread Cert.AdamProjB.nD Cert.AdamProjB.τ).loc Cert.AdamProjB.main_arg1) = m ((c.tc : Thread Cert.AdamProjB.nD Cert.AdamProjB.τ).loc Cert.AdamProjB.main_arg1)
      ∧ r.2.mem ((c.tc : Thread Cert.AdamProjB.nD Cert.AdamProjB.τ).loc Cert.AdamProjB.main_arg2) = m ((c.tc : Thread Cert.AdamProjB.nD Cert.AdamProjB.τ).loc Cert.AdamProjB.main_arg2)
      ∧ r.2.mem ((c.tc : Thread Cert.AdamProjB.nD Cert.AdamProjB.τ).loc Cert.AdamProjB.main_arg3) = m ((c.tc : Thread Cert.AdamProjB.nD Cert.AdamProjB.τ).loc Cert.AdamProjB.main_arg3))
      ∧ r.2.sem = fun _ => 0)

def quiescent_AdamProjBIdeal [hAdamProjBIdeal : Cert.AdamProjBIdeal.Facts] : Prop :=
  ∀ (m : (ℓ : Loc Cert.AdamProjBIdeal.nD Cert.AdamProjBIdeal.τ Cert.AdamProjBIdeal.sig) → Buf (Elt Ideal) ℓ) (g : Dev Cert.AdamProjBIdeal.nD → PrngReg), Pre_AdamProjBIdeal m →
    θ_run (Cert.AdamProjBIdeal.defs (F := Ideal)) (onTc (τ := Cert.AdamProjBIdeal.τ) (Cert.AdamProjBIdeal.main (F := Ideal))) ⟨m, fun _ => 0, g⟩ (fun r => (∀ c : Dev Cert.AdamProjBIdeal.nD,
      r.2.mem ((c.tc : Thread Cert.AdamProjBIdeal.nD Cert.AdamProjBIdeal.τ).loc Cert.AdamProjBIdeal.main_arg0) = m ((c.tc : Thread Cert.AdamProjBIdeal.nD Cert.AdamProjBIdeal.τ).loc Cert.AdamProjBIdeal.main_arg0)
      ∧ r.2.mem ((c.tc : Thread Cert.AdamProjBIdeal.nD Cert.AdamProjBIdeal.τ).loc Cert.AdamProjBIdeal.main_arg1) = m ((c.tc : Thread Cert.AdamProjBIdeal.nD Cert.AdamProjBIdeal.τ).loc Cert.AdamProjBIdeal.main_arg1)
      ∧ r.2.mem ((c.tc : Thread Cert.AdamProjBIdeal.nD Cert.AdamProjBIdeal.τ).loc Cert.AdamProjBIdeal.main_arg2) = m ((c.tc : Thread Cert.AdamProjBIdeal.nD Cert.AdamProjBIdeal.τ).loc Cert.AdamProjBIdeal.main_arg2)
      ∧ r.2.mem ((c.tc : Thread Cert.AdamProjBIdeal.nD Cert.AdamProjBIdeal.τ).loc Cert.AdamProjBIdeal.main_arg3) = m ((c.tc : Thread Cert.AdamProjBIdeal.nD Cert.AdamProjBIdeal.τ).loc Cert.AdamProjBIdeal.main_arg3))
      ∧ r.2.sem = fun _ => 0)

def quiescent_AdamProjBRefIdeal [hAdamProjBRefIdeal : Cert.AdamProjBRefIdeal.Facts] : Prop :=
  ∀ (m : (ℓ : Loc Cert.AdamProjBRefIdeal.nD Cert.AdamProjBRefIdeal.τ Cert.AdamProjBRefIdeal.sig) → Buf (Elt Ideal) ℓ) (g : Dev Cert.AdamProjBRefIdeal.nD → PrngReg), Pre_AdamProjBRefIdeal m →
    θ_run (Cert.AdamProjBRefIdeal.defs (F := Ideal)) (onTc (τ := Cert.AdamProjBRefIdeal.τ) (Cert.AdamProjBRefIdeal.main (F := Ideal))) ⟨m, fun _ => 0, g⟩ (fun r => (∀ c : Dev Cert.AdamProjBRefIdeal.nD,
      r.2.mem ((c.tc : Thread Cert.AdamProjBRefIdeal.nD Cert.AdamProjBRefIdeal.τ).loc Cert.AdamProjBRefIdeal.main_arg0) = m ((c.tc : Thread Cert.AdamProjBRefIdeal.nD Cert.AdamProjBRefIdeal.τ).loc Cert.AdamProjBRefIdeal.main_arg0)
      ∧ r.2.mem ((c.tc : Thread Cert.AdamProjBRefIdeal.nD Cert.AdamProjBRefIdeal.τ).loc Cert.AdamProjBRefIdeal.main_arg1) = m ((c.tc : Thread Cert.AdamProjBRefIdeal.nD Cert.AdamProjBRefIdeal.τ).loc Cert.AdamProjBRefIdeal.main_arg1)
      ∧ r.2.mem ((c.tc : Thread Cert.AdamProjBRefIdeal.nD Cert.AdamProjBRefIdeal.τ).loc Cert.AdamProjBRefIdeal.main_arg2) = m ((c.tc : Thread Cert.AdamProjBRefIdeal.nD Cert.AdamProjBRefIdeal.τ).loc Cert.AdamProjBRefIdeal.main_arg2)
      ∧ r.2.mem ((c.tc : Thread Cert.AdamProjBRefIdeal.nD Cert.AdamProjBRefIdeal.τ).loc Cert.AdamProjBRefIdeal.main_arg3) = m ((c.tc : Thread Cert.AdamProjBRefIdeal.nD Cert.AdamProjBRefIdeal.τ).loc Cert.AdamProjBRefIdeal.main_arg3))
      ∧ r.2.sem = fun _ => 0)

def quiescent_AdamWO [hAdamWO : Cert.AdamWO.Facts] : Prop :=
  ∀ (m : (ℓ : Loc Cert.AdamWO.nD Cert.AdamWO.τ Cert.AdamWO.sig) → Buf (Elt Bits) ℓ) (g : Dev Cert.AdamWO.nD → PrngReg), Pre_AdamWO m →
    θ_run (Cert.AdamWO.defs (F := Bits)) (onTc (τ := Cert.AdamWO.τ) (Cert.AdamWO.main (F := Bits))) ⟨m, fun _ => 0, g⟩ (fun r => (∀ c : Dev Cert.AdamWO.nD,
      r.2.mem ((c.tc : Thread Cert.AdamWO.nD Cert.AdamWO.τ).loc Cert.AdamWO.main_arg0) = m ((c.tc : Thread Cert.AdamWO.nD Cert.AdamWO.τ).loc Cert.AdamWO.main_arg0)
      ∧ r.2.mem ((c.tc : Thread Cert.AdamWO.nD Cert.AdamWO.τ).loc Cert.AdamWO.main_arg1) = m ((c.tc : Thread Cert.AdamWO.nD Cert.AdamWO.τ).loc Cert.AdamWO.main_arg1)
      ∧ r.2.mem ((c.tc : Thread Cert.AdamWO.nD Cert.AdamWO.τ).loc Cert.AdamWO.main_arg2) = m ((c.tc : Thread Cert.AdamWO.nD Cert.AdamWO.τ).loc Cert.AdamWO.main_arg2)
      ∧ r.2.mem ((c.tc : Thread Cert.AdamWO.nD Cert.AdamWO.τ).loc Cert.AdamWO.main_arg3) = m ((c.tc : Thread Cert.AdamWO.nD Cert.AdamWO.τ).loc Cert.AdamWO.main_arg3))
      ∧ r.2.sem = fun _ => 0)

def quiescent_AdamWOIdeal [hAdamWOIdeal : Cert.AdamWOIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg), Pre_AdamWOIdeal m →
    θ_run (Cert.AdamWOIdeal.defs (F := Ideal)) (onTc (τ := Cert.AdamWOIdeal.τ) (Cert.AdamWOIdeal.main (F := Ideal))) ⟨m, fun _ => 0, g⟩ (fun r => (∀ c : Dev Cert.AdamWOIdeal.nD,
      r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
      ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
      ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
      ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ r.2.sem = fun _ => 0)

def quiescent_AdamWORefIdeal [hAdamWORefIdeal : Cert.AdamWORefIdeal.Facts] : Prop :=
  ∀ (m : (ℓ : Loc Cert.AdamWORefIdeal.nD Cert.AdamWORefIdeal.τ Cert.AdamWORefIdeal.sig) → Buf (Elt Ideal) ℓ) (g : Dev Cert.AdamWORefIdeal.nD → PrngReg), Pre_AdamWORefIdeal m →
    θ_run (Cert.AdamWORefIdeal.defs (F := Ideal)) (onTc (τ := Cert.AdamWORefIdeal.τ) (Cert.AdamWORefIdeal.main (F := Ideal))) ⟨m, fun _ => 0, g⟩ (fun r => (∀ c : Dev Cert.AdamWORefIdeal.nD,
      r.2.mem ((c.tc : Thread Cert.AdamWORefIdeal.nD Cert.AdamWORefIdeal.τ).loc Cert.AdamWORefIdeal.main_arg0) = m ((c.tc : Thread Cert.AdamWORefIdeal.nD Cert.AdamWORefIdeal.τ).loc Cert.AdamWORefIdeal.main_arg0)
      ∧ r.2.mem ((c.tc : Thread Cert.AdamWORefIdeal.nD Cert.AdamWORefIdeal.τ).loc Cert.AdamWORefIdeal.main_arg1) = m ((c.tc : Thread Cert.AdamWORefIdeal.nD Cert.AdamWORefIdeal.τ).loc Cert.AdamWORefIdeal.main_arg1)
      ∧ r.2.mem ((c.tc : Thread Cert.AdamWORefIdeal.nD Cert.AdamWORefIdeal.τ).loc Cert.AdamWORefIdeal.main_arg2) = m ((c.tc : Thread Cert.AdamWORefIdeal.nD Cert.AdamWORefIdeal.τ).loc Cert.AdamWORefIdeal.main_arg2)
      ∧ r.2.mem ((c.tc : Thread Cert.AdamWORefIdeal.nD Cert.AdamWORefIdeal.τ).loc Cert.AdamWORefIdeal.main_arg3) = m ((c.tc : Thread Cert.AdamWORefIdeal.nD Cert.AdamWORefIdeal.τ).loc Cert.AdamWORefIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_PutColumns [hPutColumns : Cert.PutColumns.Facts] : Prop :=
  ∀ (m : (ℓ : Loc Cert.PutColumns.nD Cert.PutColumns.τ Cert.PutColumns.sig) → Buf (Elt Bits) ℓ) (g : Dev Cert.PutColumns.nD → PrngReg), Pre_PutColumns m →
    θ_run (Cert.PutColumns.defs (F := Bits)) (onTc (τ := Cert.PutColumns.τ) (Cert.PutColumns.main (F := Bits))) ⟨m, fun _ => 0, g⟩ (fun r => (∀ c : Dev Cert.PutColumns.nD,
      r.2.mem ((c.tc : Thread Cert.PutColumns.nD Cert.PutColumns.τ).loc Cert.PutColumns.main_arg0) = m ((c.tc : Thread Cert.PutColumns.nD Cert.PutColumns.τ).loc Cert.PutColumns.main_arg0)
      ∧ r.2.mem ((c.tc : Thread Cert.PutColumns.nD Cert.PutColumns.τ).loc Cert.PutColumns.main_arg1) = m ((c.tc : Thread Cert.PutColumns.nD Cert.PutColumns.τ).loc Cert.PutColumns.main_arg1)
      ∧ r.2.mem ((c.tc : Thread Cert.PutColumns.nD Cert.PutColumns.τ).loc Cert.PutColumns.main_arg2) = m ((c.tc : Thread Cert.PutColumns.nD Cert.PutColumns.τ).loc Cert.PutColumns.main_arg2)
      ∧ r.2.mem ((c.tc : Thread Cert.PutColumns.nD Cert.PutColumns.τ).loc Cert.PutColumns.main_arg3) = m ((c.tc : Thread Cert.PutColumns.nD Cert.PutColumns.τ).loc Cert.PutColumns.main_arg3)
      ∧ r.2.mem ((c.tc : Thread Cert.PutColumns.nD Cert.PutColumns.τ).loc Cert.PutColumns.main_arg4) = m ((c.tc : Thread Cert.PutColumns.nD Cert.PutColumns.τ).loc Cert.PutColumns.main_arg4)
      ∧ r.2.mem ((c.tc : Thread Cert.PutColumns.nD Cert.PutColumns.τ).loc Cert.PutColumns.main_arg5) = m ((c.tc : Thread Cert.PutColumns.nD Cert.PutColumns.τ).loc Cert.PutColumns.main_arg5))
      ∧ r.2.sem = fun _ => 0)

def quiescent_PutColumnsIdeal [hPutColumnsIdeal : Cert.PutColumnsIdeal.Facts] : Prop :=
  ∀ (m : (ℓ : Loc Cert.PutColumnsIdeal.nD Cert.PutColumnsIdeal.τ Cert.PutColumnsIdeal.sig) → Buf (Elt Ideal) ℓ) (g : Dev Cert.PutColumnsIdeal.nD → PrngReg), Pre_PutColumnsIdeal m →
    θ_run (Cert.PutColumnsIdeal.defs (F := Ideal)) (onTc (τ := Cert.PutColumnsIdeal.τ) (Cert.PutColumnsIdeal.main (F := Ideal))) ⟨m, fun _ => 0, g⟩ (fun r => (∀ c : Dev Cert.PutColumnsIdeal.nD,
      r.2.mem ((c.tc : Thread Cert.PutColumnsIdeal.nD Cert.PutColumnsIdeal.τ).loc Cert.PutColumnsIdeal.main_arg0) = m ((c.tc : Thread Cert.PutColumnsIdeal.nD Cert.PutColumnsIdeal.τ).loc Cert.PutColumnsIdeal.main_arg0)
      ∧ r.2.mem ((c.tc : Thread Cert.PutColumnsIdeal.nD Cert.PutColumnsIdeal.τ).loc Cert.PutColumnsIdeal.main_arg1) = m ((c.tc : Thread Cert.PutColumnsIdeal.nD Cert.PutColumnsIdeal.τ).loc Cert.PutColumnsIdeal.main_arg1)
      ∧ r.2.mem ((c.tc : Thread Cert.PutColumnsIdeal.nD Cert.PutColumnsIdeal.τ).loc Cert.PutColumnsIdeal.main_arg2) = m ((c.tc : Thread Cert.PutColumnsIdeal.nD Cert.PutColumnsIdeal.τ).loc Cert.PutColumnsIdeal.main_arg2)
      ∧ r.2.mem ((c.tc : Thread Cert.PutColumnsIdeal.nD Cert.PutColumnsIdeal.τ).loc Cert.PutColumnsIdeal.main_arg3) = m ((c.tc : Thread Cert.PutColumnsIdeal.nD Cert.PutColumnsIdeal.τ).loc Cert.PutColumnsIdeal.main_arg3)
      ∧ r.2.mem ((c.tc : Thread Cert.PutColumnsIdeal.nD Cert.PutColumnsIdeal.τ).loc Cert.PutColumnsIdeal.main_arg4) = m ((c.tc : Thread Cert.PutColumnsIdeal.nD Cert.PutColumnsIdeal.τ).loc Cert.PutColumnsIdeal.main_arg4)
      ∧ r.2.mem ((c.tc : Thread Cert.PutColumnsIdeal.nD Cert.PutColumnsIdeal.τ).loc Cert.PutColumnsIdeal.main_arg5) = m ((c.tc : Thread Cert.PutColumnsIdeal.nD Cert.PutColumnsIdeal.τ).loc Cert.PutColumnsIdeal.main_arg5))
      ∧ r.2.sem = fun _ => 0)

def quiescent_PutColumnsRefIdeal [hPutColumnsRefIdeal : Cert.PutColumnsRefIdeal.Facts] : Prop :=
  ∀ (m : (ℓ : Loc Cert.PutColumnsRefIdeal.nD Cert.PutColumnsRefIdeal.τ Cert.PutColumnsRefIdeal.sig) → Buf (Elt Ideal) ℓ) (g : Dev Cert.PutColumnsRefIdeal.nD → PrngReg), Pre_PutColumnsRefIdeal m →
    θ_run (Cert.PutColumnsRefIdeal.defs (F := Ideal)) (onTc (τ := Cert.PutColumnsRefIdeal.τ) (Cert.PutColumnsRefIdeal.main (F := Ideal))) ⟨m, fun _ => 0, g⟩ (fun r => (∀ c : Dev Cert.PutColumnsRefIdeal.nD,
      r.2.mem ((c.tc : Thread Cert.PutColumnsRefIdeal.nD Cert.PutColumnsRefIdeal.τ).loc Cert.PutColumnsRefIdeal.main_arg0) = m ((c.tc : Thread Cert.PutColumnsRefIdeal.nD Cert.PutColumnsRefIdeal.τ).loc Cert.PutColumnsRefIdeal.main_arg0)
      ∧ r.2.mem ((c.tc : Thread Cert.PutColumnsRefIdeal.nD Cert.PutColumnsRefIdeal.τ).loc Cert.PutColumnsRefIdeal.main_arg1) = m ((c.tc : Thread Cert.PutColumnsRefIdeal.nD Cert.PutColumnsRefIdeal.τ).loc Cert.PutColumnsRefIdeal.main_arg1)
      ∧ r.2.mem ((c.tc : Thread Cert.PutColumnsRefIdeal.nD Cert.PutColumnsRefIdeal.τ).loc Cert.PutColumnsRefIdeal.main_arg2) = m ((c.tc : Thread Cert.PutColumnsRefIdeal.nD Cert.PutColumnsRefIdeal.τ).loc Cert.PutColumnsRefIdeal.main_arg2)
      ∧ r.2.mem ((c.tc : Thread Cert.PutColumnsRefIdeal.nD Cert.PutColumnsRefIdeal.τ).loc Cert.PutColumnsRefIdeal.main_arg3) = m ((c.tc : Thread Cert.PutColumnsRefIdeal.nD Cert.PutColumnsRefIdeal.τ).loc Cert.PutColumnsRefIdeal.main_arg3)
      ∧ r.2.mem ((c.tc : Thread Cert.PutColumnsRefIdeal.nD Cert.PutColumnsRefIdeal.τ).loc Cert.PutColumnsRefIdeal.main_arg4) = m ((c.tc : Thread Cert.PutColumnsRefIdeal.nD Cert.PutColumnsRefIdeal.τ).loc Cert.PutColumnsRefIdeal.main_arg4)
      ∧ r.2.mem ((c.tc : Thread Cert.PutColumnsRefIdeal.nD Cert.PutColumnsRefIdeal.τ).loc Cert.PutColumnsRefIdeal.main_arg5) = m ((c.tc : Thread Cert.PutColumnsRefIdeal.nD Cert.PutColumnsRefIdeal.τ).loc Cert.PutColumnsRefIdeal.main_arg5))
      ∧ r.2.sem = fun _ => 0)

def preserves_MergeBwd_MergeBwdIdeal : Prop :=
  True

def algebraic_MergeBwdIdeal_MergeBwdRefIdeal_on_gate_columns [hMergeBwdIdeal : Cert.MergeBwdIdeal.Facts] [hMergeBwdRefIdeal : Cert.MergeBwdRefIdeal.Facts] [hOn_gate_columns : Cert.On_gate_columns.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨3, ![3, 2048, 2048]⟩ : Shape).Idx, (Cert.On_gate_columns.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2))).1 i = 1#1 → r.2.mem ((c.tc : Thread Cert.MergeBwdIdeal.nD Cert.MergeBwdIdeal.τ).loc Cert.MergeBwdIdeal.main_v0_0) i = v0 c i)
          ∧ (∀ i : (⟨2, ![2048, 11776]⟩ : Shape).Idx, (Cert.On_gate_columns.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2))).2 i = 1#1 → r.2.mem ((c.tc : Thread Cert.MergeBwdIdeal.nD Cert.MergeBwdIdeal.τ).loc Cert.MergeBwdIdeal.main_v0_1) i = v1 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨3, ![3, 2048, 2048]⟩ : Shape).Idx, (Cert.On_gate_columns.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2))).1 i = 1#1 → r.2.mem ((c.tc : Thread Cert.MergeBwdRefIdeal.nD Cert.MergeBwdRefIdeal.τ).loc Cert.MergeBwdRefIdeal.main_v23) i = v0 c i)
          ∧ (∀ i : (⟨2, ![2048, 11776]⟩ : Shape).Idx, (Cert.On_gate_columns.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2))).2 i = 1#1 → r.2.mem ((c.tc : Thread Cert.MergeBwdRefIdeal.nD Cert.MergeBwdRefIdeal.τ).loc Cert.MergeBwdRefIdeal.main_v25) i = v1 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v15) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DWUp_DWUpIdeal : Prop :=
  True

def algebraic_DWUpIdeal_DWUpRefIdeal [hDWUpIdeal : Cert.DWUpIdeal.Facts] [hDWUpRefIdeal : Cert.DWUpRefIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpRefIdeal.nD Cert.DWUpRefIdeal.τ Cert.DWUpRefIdeal.sig) → Buf (Elt Ideal) ℓ) (g' : Dev Cert.DWUpRefIdeal.nD → PrngReg), Pre_DWUpIdeal m →
    (∀ c : Dev Cert.DWUpIdeal.nD,
      m' ((c.tc : Thread Cert.DWUpRefIdeal.nD Cert.DWUpRefIdeal.τ).loc Cert.DWUpRefIdeal.main_arg0) = m ((c.tc : Thread Cert.DWUpIdeal.nD Cert.DWUpIdeal.τ).loc Cert.DWUpIdeal.main_arg0)
      ∧ m' ((c.tc : Thread Cert.DWUpRefIdeal.nD Cert.DWUpRefIdeal.τ).loc Cert.DWUpRefIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v0)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v0) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpRefIdeal.defs (F := Ideal)) (onTc (τ := Cert.DWUpRefIdeal.τ) (Cert.DWUpRefIdeal.main (F := Ideal))) ⟨m', fun _ => 0, g'⟩ (fun r => ∀ c : Dev Cert.DWUpRefIdeal.nD,
          r.2.mem ((c.tc : Thread Cert.DWUpRefIdeal.nD Cert.DWUpRefIdeal.τ).loc Cert.DWUpRefIdeal.main_v6) = v0 c
          ∧ r.2.mem ((c.tc : Thread Cert.DWUpRefIdeal.nD Cert.DWUpRefIdeal.τ).loc Cert.DWUpRefIdeal.main_arg0) = m' ((c.tc : Thread Cert.DWUpRefIdeal.nD Cert.DWUpRefIdeal.τ).loc Cert.DWUpRefIdeal.main_arg0)
          ∧ r.2.mem ((c.tc : Thread Cert.DWUpRefIdeal.nD Cert.DWUpRefIdeal.τ).loc Cert.DWUpRefIdeal.main_arg1) = m' ((c.tc : Thread Cert.DWUpRefIdeal.nD Cert.DWUpRefIdeal.τ).loc Cert.DWUpRefIdeal.main_arg1))

def preserves_DWO_DWOIdeal : Prop :=
  True

def algebraic_DWOIdeal_DWORefIdeal [hDWOIdeal : Cert.DWOIdeal.Facts] [hDWORefIdeal : Cert.DWORefIdeal.Facts] : Prop :=
  ∀ (m : (ℓ : Loc Cert.DWOIdeal.nD Cert.DWOIdeal.τ Cert.DWOIdeal.sig) → Buf (Elt Ideal) ℓ) (g : Dev Cert.DWOIdeal.nD → PrngReg)
    (m' : (ℓ : Loc Cert.DWORefIdeal.nD Cert.DWORefIdeal.τ Cert.DWORefIdeal.sig) → Buf (Elt Ideal) ℓ) (g' : Dev Cert.DWORefIdeal.nD → PrngReg), Pre_DWOIdeal m →
    (∀ c : Dev Cert.DWOIdeal.nD,
      m' ((c.tc : Thread Cert.DWORefIdeal.nD Cert.DWORefIdeal.τ).loc Cert.DWORefIdeal.main_arg0) = m ((c.tc : Thread Cert.DWOIdeal.nD Cert.DWOIdeal.τ).loc Cert.DWOIdeal.main_arg0)
      ∧ m' ((c.tc : Thread Cert.DWORefIdeal.nD Cert.DWORefIdeal.τ).loc Cert.DWORefIdeal.main_arg1) = m ((c.tc : Thread Cert.DWOIdeal.nD Cert.DWOIdeal.τ).loc Cert.DWOIdeal.main_arg1)) →
    ∃ (v0 : (c : Dev Cert.DWOIdeal.nD) → Buf (Elt Ideal) ((c.tc : Thread Cert.DWOIdeal.nD Cert.DWOIdeal.τ).loc Cert.DWOIdeal.main_v0)),
      θ_run (Cert.DWOIdeal.defs (F := Ideal)) (onTc (τ := Cert.DWOIdeal.τ) (Cert.DWOIdeal.main (F := Ideal))) ⟨m, fun _ => 0, g⟩ (fun r => ∀ c : Dev Cert.DWOIdeal.nD,
          r.2.mem ((c.tc : Thread Cert.DWOIdeal.nD Cert.DWOIdeal.τ).loc Cert.DWOIdeal.main_v0) = v0 c
          ∧ r.2.mem ((c.tc : Thread Cert.DWOIdeal.nD Cert.DWOIdeal.τ).loc Cert.DWOIdeal.main_arg0) = m ((c.tc : Thread Cert.DWOIdeal.nD Cert.DWOIdeal.τ).loc Cert.DWOIdeal.main_arg0)
          ∧ r.2.mem ((c.tc : Thread Cert.DWOIdeal.nD Cert.DWOIdeal.τ).loc Cert.DWOIdeal.main_arg1) = m ((c.tc : Thread Cert.DWOIdeal.nD Cert.DWOIdeal.τ).loc Cert.DWOIdeal.main_arg1))
      ∧ θ_run (Cert.DWORefIdeal.defs (F := Ideal)) (onTc (τ := Cert.DWORefIdeal.τ) (Cert.DWORefIdeal.main (F := Ideal))) ⟨m', fun _ => 0, g'⟩ (fun r => ∀ c : Dev Cert.DWORefIdeal.nD,
          r.2.mem ((c.tc : Thread Cert.DWORefIdeal.nD Cert.DWORefIdeal.τ).loc Cert.DWORefIdeal.main_v6) = v0 c
          ∧ r.2.mem ((c.tc : Thread Cert.DWORefIdeal.nD Cert.DWORefIdeal.τ).loc Cert.DWORefIdeal.main_arg0) = m' ((c.tc : Thread Cert.DWORefIdeal.nD Cert.DWORefIdeal.τ).loc Cert.DWORefIdeal.main_arg0)
          ∧ r.2.mem ((c.tc : Thread Cert.DWORefIdeal.nD Cert.DWORefIdeal.τ).loc Cert.DWORefIdeal.main_arg1) = m' ((c.tc : Thread Cert.DWORefIdeal.nD Cert.DWORefIdeal.τ).loc Cert.DWORefIdeal.main_arg1))

def preserves_DProjA_DProjAIdeal : Prop :=
  True

def algebraic_DProjAIdeal_DProjARefIdeal [hDProjAIdeal : Cert.DProjAIdeal.Facts] [hDProjARefIdeal : Cert.DProjARefIdeal.Facts] : Prop :=
  ∀ (m : (ℓ : Loc Cert.DProjAIdeal.nD Cert.DProjAIdeal.τ Cert.DProjAIdeal.sig) → Buf (Elt Ideal) ℓ) (g : Dev Cert.DProjAIdeal.nD → PrngReg)
    (m' : (ℓ : Loc Cert.DProjARefIdeal.nD Cert.DProjARefIdeal.τ Cert.DProjARefIdeal.sig) → Buf (Elt Ideal) ℓ) (g' : Dev Cert.DProjARefIdeal.nD → PrngReg), Pre_DProjAIdeal m →
    (∀ c : Dev Cert.DProjAIdeal.nD,
      m' ((c.tc : Thread Cert.DProjARefIdeal.nD Cert.DProjARefIdeal.τ).loc Cert.DProjARefIdeal.main_arg0) = m ((c.tc : Thread Cert.DProjAIdeal.nD Cert.DProjAIdeal.τ).loc Cert.DProjAIdeal.main_arg0)
      ∧ m' ((c.tc : Thread Cert.DProjARefIdeal.nD Cert.DProjARefIdeal.τ).loc Cert.DProjARefIdeal.main_arg1) = m ((c.tc : Thread Cert.DProjAIdeal.nD Cert.DProjAIdeal.τ).loc Cert.DProjAIdeal.main_arg1)) →
    ∃ (v0 : (c : Dev Cert.DProjAIdeal.nD) → Buf (Elt Ideal) ((c.tc : Thread Cert.DProjAIdeal.nD Cert.DProjAIdeal.τ).loc Cert.DProjAIdeal.main_v0)),
      θ_run (Cert.DProjAIdeal.defs (F := Ideal)) (onTc (τ := Cert.DProjAIdeal.τ) (Cert.DProjAIdeal.main (F := Ideal))) ⟨m, fun _ => 0, g⟩ (fun r => ∀ c : Dev Cert.DProjAIdeal.nD,
          r.2.mem ((c.tc : Thread Cert.DProjAIdeal.nD Cert.DProjAIdeal.τ).loc Cert.DProjAIdeal.main_v0) = v0 c
          ∧ r.2.mem ((c.tc : Thread Cert.DProjAIdeal.nD Cert.DProjAIdeal.τ).loc Cert.DProjAIdeal.main_arg0) = m ((c.tc : Thread Cert.DProjAIdeal.nD Cert.DProjAIdeal.τ).loc Cert.DProjAIdeal.main_arg0)
          ∧ r.2.mem ((c.tc : Thread Cert.DProjAIdeal.nD Cert.DProjAIdeal.τ).loc Cert.DProjAIdeal.main_arg1) = m ((c.tc : Thread Cert.DProjAIdeal.nD Cert.DProjAIdeal.τ).loc Cert.DProjAIdeal.main_arg1))
      ∧ θ_run (Cert.DProjARefIdeal.defs (F := Ideal)) (onTc (τ := Cert.DProjARefIdeal.τ) (Cert.DProjARefIdeal.main (F := Ideal))) ⟨m', fun _ => 0, g'⟩ (fun r => ∀ c : Dev Cert.DProjARefIdeal.nD,
          r.2.mem ((c.tc : Thread Cert.DProjARefIdeal.nD Cert.DProjARefIdeal.τ).loc Cert.DProjARefIdeal.main_v8) = v0 c
          ∧ r.2.mem ((c.tc : Thread Cert.DProjARefIdeal.nD Cert.DProjARefIdeal.τ).loc Cert.DProjARefIdeal.main_arg0) = m' ((c.tc : Thread Cert.DProjARefIdeal.nD Cert.DProjARefIdeal.τ).loc Cert.DProjARefIdeal.main_arg0)
          ∧ r.2.mem ((c.tc : Thread Cert.DProjARefIdeal.nD Cert.DProjARefIdeal.τ).loc Cert.DProjARefIdeal.main_arg1) = m' ((c.tc : Thread Cert.DProjARefIdeal.nD Cert.DProjARefIdeal.τ).loc Cert.DProjARefIdeal.main_arg1))

def preserves_DProjB_DProjBIdeal : Prop :=
  True

def algebraic_DProjBIdeal_DProjBRefIdeal [hDProjBIdeal : Cert.DProjBIdeal.Facts] [hDProjBRefIdeal : Cert.DProjBRefIdeal.Facts] : Prop :=
  ∀ (m : (ℓ : Loc Cert.DProjBIdeal.nD Cert.DProjBIdeal.τ Cert.DProjBIdeal.sig) → Buf (Elt Ideal) ℓ) (g : Dev Cert.DProjBIdeal.nD → PrngReg)
    (m' : (ℓ : Loc Cert.DProjBRefIdeal.nD Cert.DProjBRefIdeal.τ Cert.DProjBRefIdeal.sig) → Buf (Elt Ideal) ℓ) (g' : Dev Cert.DProjBRefIdeal.nD → PrngReg), Pre_DProjBIdeal m →
    (∀ c : Dev Cert.DProjBIdeal.nD,
      m' ((c.tc : Thread Cert.DProjBRefIdeal.nD Cert.DProjBRefIdeal.τ).loc Cert.DProjBRefIdeal.main_arg0) = m ((c.tc : Thread Cert.DProjBIdeal.nD Cert.DProjBIdeal.τ).loc Cert.DProjBIdeal.main_arg0)
      ∧ m' ((c.tc : Thread Cert.DProjBRefIdeal.nD Cert.DProjBRefIdeal.τ).loc Cert.DProjBRefIdeal.main_arg1) = m ((c.tc : Thread Cert.DProjBIdeal.nD Cert.DProjBIdeal.τ).loc Cert.DProjBIdeal.main_arg1)) →
    ∃ (v0 : (c : Dev Cert.DProjBIdeal.nD) → Buf (Elt Ideal) ((c.tc : Thread Cert.DProjBIdeal.nD Cert.DProjBIdeal.τ).loc Cert.DProjBIdeal.main_v0)),
      θ_run (Cert.DProjBIdeal.defs (F := Ideal)) (onTc (τ := Cert.DProjBIdeal.τ) (Cert.DProjBIdeal.main (F := Ideal))) ⟨m, fun _ => 0, g⟩ (fun r => ∀ c : Dev Cert.DProjBIdeal.nD,
          r.2.mem ((c.tc : Thread Cert.DProjBIdeal.nD Cert.DProjBIdeal.τ).loc Cert.DProjBIdeal.main_v0) = v0 c
          ∧ r.2.mem ((c.tc : Thread Cert.DProjBIdeal.nD Cert.DProjBIdeal.τ).loc Cert.DProjBIdeal.main_arg0) = m ((c.tc : Thread Cert.DProjBIdeal.nD Cert.DProjBIdeal.τ).loc Cert.DProjBIdeal.main_arg0)
          ∧ r.2.mem ((c.tc : Thread Cert.DProjBIdeal.nD Cert.DProjBIdeal.τ).loc Cert.DProjBIdeal.main_arg1) = m ((c.tc : Thread Cert.DProjBIdeal.nD Cert.DProjBIdeal.τ).loc Cert.DProjBIdeal.main_arg1))
      ∧ θ_run (Cert.DProjBRefIdeal.defs (F := Ideal)) (onTc (τ := Cert.DProjBRefIdeal.τ) (Cert.DProjBRefIdeal.main (F := Ideal))) ⟨m', fun _ => 0, g'⟩ (fun r => ∀ c : Dev Cert.DProjBRefIdeal.nD,
          r.2.mem ((c.tc : Thread Cert.DProjBRefIdeal.nD Cert.DProjBRefIdeal.τ).loc Cert.DProjBRefIdeal.main_v8) = v0 c
          ∧ r.2.mem ((c.tc : Thread Cert.DProjBRefIdeal.nD Cert.DProjBRefIdeal.τ).loc Cert.DProjBRefIdeal.main_arg0) = m' ((c.tc : Thread Cert.DProjBRefIdeal.nD Cert.DProjBRefIdeal.τ).loc Cert.DProjBRefIdeal.main_arg0)
          ∧ r.2.mem ((c.tc : Thread Cert.DProjBRefIdeal.nD Cert.DProjBRefIdeal.τ).loc Cert.DProjBRefIdeal.main_arg1) = m' ((c.tc : Thread Cert.DProjBRefIdeal.nD Cert.DProjBRefIdeal.τ).loc Cert.DProjBRefIdeal.main_arg1))

def preserves_DProjC_DProjCIdeal : Prop :=
  True

def algebraic_DProjCIdeal_DProjCRefIdeal [hDProjCIdeal : Cert.DProjCIdeal.Facts] [hDProjCRefIdeal : Cert.DProjCRefIdeal.Facts] : Prop :=
  ∀ (m : (ℓ : Loc Cert.DProjCIdeal.nD Cert.DProjCIdeal.τ Cert.DProjCIdeal.sig) → Buf (Elt Ideal) ℓ) (g : Dev Cert.DProjCIdeal.nD → PrngReg)
    (m' : (ℓ : Loc Cert.DProjCRefIdeal.nD Cert.DProjCRefIdeal.τ Cert.DProjCRefIdeal.sig) → Buf (Elt Ideal) ℓ) (g' : Dev Cert.DProjCRefIdeal.nD → PrngReg), Pre_DProjCIdeal m →
    (∀ c : Dev Cert.DProjCIdeal.nD,
      m' ((c.tc : Thread Cert.DProjCRefIdeal.nD Cert.DProjCRefIdeal.τ).loc Cert.DProjCRefIdeal.main_arg0) = m ((c.tc : Thread Cert.DProjCIdeal.nD Cert.DProjCIdeal.τ).loc Cert.DProjCIdeal.main_arg0)
      ∧ m' ((c.tc : Thread Cert.DProjCRefIdeal.nD Cert.DProjCRefIdeal.τ).loc Cert.DProjCRefIdeal.main_arg1) = m ((c.tc : Thread Cert.DProjCIdeal.nD Cert.DProjCIdeal.τ).loc Cert.DProjCIdeal.main_arg1)) →
    ∃ (v0 : (c : Dev Cert.DProjCIdeal.nD) → Buf (Elt Ideal) ((c.tc : Thread Cert.DProjCIdeal.nD Cert.DProjCIdeal.τ).loc Cert.DProjCIdeal.main_v0)),
      θ_run (Cert.DProjCIdeal.defs (F := Ideal)) (onTc (τ := Cert.DProjCIdeal.τ) (Cert.DProjCIdeal.main (F := Ideal))) ⟨m, fun _ => 0, g⟩ (fun r => ∀ c : Dev Cert.DProjCIdeal.nD,
          r.2.mem ((c.tc : Thread Cert.DProjCIdeal.nD Cert.DProjCIdeal.τ).loc Cert.DProjCIdeal.main_v0) = v0 c
          ∧ r.2.mem ((c.tc : Thread Cert.DProjCIdeal.nD Cert.DProjCIdeal.τ).loc Cert.DProjCIdeal.main_arg0) = m ((c.tc : Thread Cert.DProjCIdeal.nD Cert.DProjCIdeal.τ).loc Cert.DProjCIdeal.main_arg0)
          ∧ r.2.mem ((c.tc : Thread Cert.DProjCIdeal.nD Cert.DProjCIdeal.τ).loc Cert.DProjCIdeal.main_arg1) = m ((c.tc : Thread Cert.DProjCIdeal.nD Cert.DProjCIdeal.τ).loc Cert.DProjCIdeal.main_arg1))
      ∧ θ_run (Cert.DProjCRefIdeal.defs (F := Ideal)) (onTc (τ := Cert.DProjCRefIdeal.τ) (Cert.DProjCRefIdeal.main (F := Ideal))) ⟨m', fun _ => 0, g'⟩ (fun r => ∀ c : Dev Cert.DProjCRefIdeal.nD,
          r.2.mem ((c.tc : Thread Cert.DProjCRefIdeal.nD Cert.DProjCRefIdeal.τ).loc Cert.DProjCRefIdeal.main_v8) = v0 c
          ∧ r.2.mem ((c.tc : Thread Cert.DProjCRefIdeal.nD Cert.DProjCRefIdeal.τ).loc Cert.DProjCRefIdeal.main_arg0) = m' ((c.tc : Thread Cert.DProjCRefIdeal.nD Cert.DProjCRefIdeal.τ).loc Cert.DProjCRefIdeal.main_arg0)
          ∧ r.2.mem ((c.tc : Thread Cert.DProjCRefIdeal.nD Cert.DProjCRefIdeal.τ).loc Cert.DProjCRefIdeal.main_arg1) = m' ((c.tc : Thread Cert.DProjCRefIdeal.nD Cert.DProjCRefIdeal.τ).loc Cert.DProjCRefIdeal.main_arg1))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v6) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DGa_DGaIdeal : Prop :=
  True

def algebraic_DGaIdeal_DGaRefIdeal [hDGaIdeal : Cert.DGaIdeal.Facts] [hDGaRefIdeal : Cert.DGaRefIdeal.Facts] : Prop :=
  ∀ (m : (ℓ : Loc Cert.DGaIdeal.nD Cert.DGaIdeal.τ Cert.DGaIdeal.sig) → Buf (Elt Ideal) ℓ) (g : Dev Cert.DGaIdeal.nD → PrngReg)
    (m' : (ℓ : Loc Cert.DGaRefIdeal.nD Cert.DGaRefIdeal.τ Cert.DGaRefIdeal.sig) → Buf (Elt Ideal) ℓ) (g' : Dev Cert.DGaRefIdeal.nD → PrngReg), Pre_DGaIdeal m →
    (∀ c : Dev Cert.DGaIdeal.nD,
      m' ((c.tc : Thread Cert.DGaRefIdeal.nD Cert.DGaRefIdeal.τ).loc Cert.DGaRefIdeal.main_arg0) = m ((c.tc : Thread Cert.DGaIdeal.nD Cert.DGaIdeal.τ).loc Cert.DGaIdeal.main_arg0)
      ∧ m' ((c.tc : Thread Cert.DGaRefIdeal.nD Cert.DGaRefIdeal.τ).loc Cert.DGaRefIdeal.main_arg1) = m ((c.tc : Thread Cert.DGaIdeal.nD Cert.DGaIdeal.τ).loc Cert.DGaIdeal.main_arg1)) →
    ∃ (v0 : (c : Dev Cert.DGaIdeal.nD) → Buf (Elt Ideal) ((c.tc : Thread Cert.DGaIdeal.nD Cert.DGaIdeal.τ).loc Cert.DGaIdeal.main_v0)),
      θ_run (Cert.DGaIdeal.defs (F := Ideal)) (onTc (τ := Cert.DGaIdeal.τ) (Cert.DGaIdeal.main (F := Ideal))) ⟨m, fun _ => 0, g⟩ (fun r => ∀ c : Dev Cert.DGaIdeal.nD,
          r.2.mem ((c.tc : Thread Cert.DGaIdeal.nD Cert.DGaIdeal.τ).loc Cert.DGaIdeal.main_v0) = v0 c
          ∧ r.2.mem ((c.tc : Thread Cert.DGaIdeal.nD Cert.DGaIdeal.τ).loc Cert.DGaIdeal.main_arg0) = m ((c.tc : Thread Cert.DGaIdeal.nD Cert.DGaIdeal.τ).loc Cert.DGaIdeal.main_arg0)
          ∧ r.2.mem ((c.tc : Thread Cert.DGaIdeal.nD Cert.DGaIdeal.τ).loc Cert.DGaIdeal.main_arg1) = m ((c.tc : Thread Cert.DGaIdeal.nD Cert.DGaIdeal.τ).loc Cert.DGaIdeal.main_arg1))
      ∧ θ_run (Cert.DGaRefIdeal.defs (F := Ideal)) (onTc (τ := Cert.DGaRefIdeal.τ) (Cert.DGaRefIdeal.main (F := Ideal))) ⟨m', fun _ => 0, g'⟩ (fun r => ∀ c : Dev Cert.DGaRefIdeal.nD,
          r.2.mem ((c.tc : Thread Cert.DGaRefIdeal.nD Cert.DGaRefIdeal.τ).loc Cert.DGaRefIdeal.main_v6) = v0 c
          ∧ r.2.mem ((c.tc : Thread Cert.DGaRefIdeal.nD Cert.DGaRefIdeal.τ).loc Cert.DGaRefIdeal.main_arg0) = m' ((c.tc : Thread Cert.DGaRefIdeal.nD Cert.DGaRefIdeal.τ).loc Cert.DGaRefIdeal.main_arg0)
          ∧ r.2.mem ((c.tc : Thread Cert.DGaRefIdeal.nD Cert.DGaRefIdeal.τ).loc Cert.DGaRefIdeal.main_arg1) = m' ((c.tc : Thread Cert.DGaRefIdeal.nD Cert.DGaRefIdeal.τ).loc Cert.DGaRefIdeal.main_arg1))

def preserves_DAttn_DAttnIdeal : Prop :=
  True

def algebraic_DAttnIdeal_DAttnRefIdeal [hDAttnIdeal : Cert.DAttnIdeal.Facts] [hDAttnRefIdeal : Cert.DAttnRefIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v7) = v0 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_DU2_DU2Ideal : Prop :=
  True

def algebraic_DU2Ideal_DU2RefIdeal [hDU2Ideal : Cert.DU2Ideal.Facts] [hDU2RefIdeal : Cert.DU2RefIdeal.Facts] : Prop :=
  ∀ (m : (ℓ : Loc Cert.DU2Ideal.nD Cert.DU2Ideal.τ Cert.DU2Ideal.sig) → Buf (Elt Ideal) ℓ) (g : Dev Cert.DU2Ideal.nD → PrngReg)
    (m' : (ℓ : Loc Cert.DU2RefIdeal.nD Cert.DU2RefIdeal.τ Cert.DU2RefIdeal.sig) → Buf (Elt Ideal) ℓ) (g' : Dev Cert.DU2RefIdeal.nD → PrngReg), Pre_DU2Ideal m →
    (∀ c : Dev Cert.DU2Ideal.nD,
      m' ((c.tc : Thread Cert.DU2RefIdeal.nD Cert.DU2RefIdeal.τ).loc Cert.DU2RefIdeal.main_arg0) = m ((c.tc : Thread Cert.DU2Ideal.nD Cert.DU2Ideal.τ).loc Cert.DU2Ideal.main_arg0)
      ∧ m' ((c.tc : Thread Cert.DU2RefIdeal.nD Cert.DU2RefIdeal.τ).loc Cert.DU2RefIdeal.main_arg1) = m ((c.tc : Thread Cert.DU2Ideal.nD Cert.DU2Ideal.τ).loc Cert.DU2Ideal.main_arg1)) →
    ∃ (v0 : (c : Dev Cert.DU2Ideal.nD) → Buf (Elt Ideal) ((c.tc : Thread Cert.DU2Ideal.nD Cert.DU2Ideal.τ).loc Cert.DU2Ideal.main_v0)),
      θ_run (Cert.DU2Ideal.defs (F := Ideal)) (onTc (τ := Cert.DU2Ideal.τ) (Cert.DU2Ideal.main (F := Ideal))) ⟨m, fun _ => 0, g⟩ (fun r => ∀ c : Dev Cert.DU2Ideal.nD,
          r.2.mem ((c.tc : Thread Cert.DU2Ideal.nD Cert.DU2Ideal.τ).loc Cert.DU2Ideal.main_v0) = v0 c
          ∧ r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
          ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ θ_run (Cert.DU2RefIdeal.defs (F := Ideal)) (onTc (τ := Cert.DU2RefIdeal.τ) (Cert.DU2RefIdeal.main (F := Ideal))) ⟨m', fun _ => 0, g'⟩ (fun r => ∀ c : Dev Cert.DU2RefIdeal.nD,
          r.2.mem ((c.tc : Thread Cert.DU2RefIdeal.nD Cert.DU2RefIdeal.τ).loc Cert.DU2RefIdeal.main_v6) = v0 c
          ∧ r.2.mem ((c.tc : Thread Cert.DU2RefIdeal.nD Cert.DU2RefIdeal.τ).loc Cert.DU2RefIdeal.main_arg0) = m' ((c.tc : Thread Cert.DU2RefIdeal.nD Cert.DU2RefIdeal.τ).loc Cert.DU2RefIdeal.main_arg0)
          ∧ r.2.mem ((c.tc : Thread Cert.DU2RefIdeal.nD Cert.DU2RefIdeal.τ).loc Cert.DU2RefIdeal.main_arg1) = m' ((c.tc : Thread Cert.DU2RefIdeal.nD Cert.DU2RefIdeal.τ).loc Cert.DU2RefIdeal.main_arg1))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)) →
    ∃ (v0 : (c : Dev Cert.FwdInIdeal.nD) → Buf (Elt Ideal) ((c.tc : Thread Cert.FwdInIdeal.nD Cert.FwdInIdeal.τ).loc Cert.FwdInIdeal.main_v0)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0) = v0 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v3) = v0 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1))

def preserves_FwdUp_FwdUpIdeal : Prop :=
  True

def algebraic_FwdUpIdeal_FwdUpRefIdeal [hFwdUpIdeal : Cert.FwdUpIdeal.Facts] [hFwdUpRefIdeal : Cert.FwdUpRefIdeal.Facts] : Prop :=
  ∀ (m : (ℓ : Loc Cert.FwdUpIdeal.nD Cert.FwdUpIdeal.τ Cert.FwdUpIdeal.sig) → Buf (Elt Ideal) ℓ) (g : Dev Cert.FwdUpIdeal.nD → PrngReg)
    (m' : (ℓ : Loc Cert.FwdUpRefIdeal.nD Cert.FwdUpRefIdeal.τ Cert.FwdUpRefIdeal.sig) → Buf (Elt Ideal) ℓ) (g' : Dev Cert.FwdUpRefIdeal.nD → PrngReg), Pre_FwdUpIdeal m →
    (∀ c : Dev Cert.FwdUpIdeal.nD,
      m' ((c.tc : Thread Cert.FwdUpRefIdeal.nD Cert.FwdUpRefIdeal.τ).loc Cert.FwdUpRefIdeal.main_arg0) = m ((c.tc : Thread Cert.FwdUpIdeal.nD Cert.FwdUpIdeal.τ).loc Cert.FwdUpIdeal.main_arg0)
      ∧ m' ((c.tc : Thread Cert.FwdUpRefIdeal.nD Cert.FwdUpRefIdeal.τ).loc Cert.FwdUpRefIdeal.main_arg1) = m ((c.tc : Thread Cert.FwdUpIdeal.nD Cert.FwdUpIdeal.τ).loc Cert.FwdUpIdeal.main_arg1)) →
    ∃ (v0 : (c : Dev Cert.FwdUpIdeal.nD) → Buf (Elt Ideal) ((c.tc : Thread Cert.FwdUpIdeal.nD Cert.FwdUpIdeal.τ).loc Cert.FwdUpIdeal.main_v0_0)) (v1 : (c : Dev Cert.FwdUpIdeal.nD) → Buf (Elt Ideal) ((c.tc : Thread Cert.FwdUpIdeal.nD Cert.FwdUpIdeal.τ).loc Cert.FwdUpIdeal.main_v0_1)),
      θ_run (Cert.FwdUpIdeal.defs (F := Ideal)) (onTc (τ := Cert.FwdUpIdeal.τ) (Cert.FwdUpIdeal.main (F := Ideal))) ⟨m, fun _ => 0, g⟩ (fun r => ∀ c : Dev Cert.FwdUpIdeal.nD,
          r.2.mem ((c.tc : Thread Cert.FwdUpIdeal.nD Cert.FwdUpIdeal.τ).loc Cert.FwdUpIdeal.main_v0_0) = v0 c
          ∧ r.2.mem ((c.tc : Thread Cert.FwdUpIdeal.nD Cert.FwdUpIdeal.τ).loc Cert.FwdUpIdeal.main_v0_1) = v1 c
          ∧ r.2.mem ((c.tc : Thread Cert.FwdUpIdeal.nD Cert.FwdUpIdeal.τ).loc Cert.FwdUpIdeal.main_arg0) = m ((c.tc : Thread Cert.FwdUpIdeal.nD Cert.FwdUpIdeal.τ).loc Cert.FwdUpIdeal.main_arg0)
          ∧ r.2.mem ((c.tc : Thread Cert.FwdUpIdeal.nD Cert.FwdUpIdeal.τ).loc Cert.FwdUpIdeal.main_arg1) = m ((c.tc : Thread Cert.FwdUpIdeal.nD Cert.FwdUpIdeal.τ).loc Cert.FwdUpIdeal.main_arg1))
      ∧ θ_run (Cert.FwdUpRefIdeal.defs (F := Ideal)) (onTc (τ := Cert.FwdUpRefIdeal.τ) (Cert.FwdUpRefIdeal.main (F := Ideal))) ⟨m', fun _ => 0, g'⟩ (fun r => ∀ c : Dev Cert.FwdUpRefIdeal.nD,
          r.2.mem ((c.tc : Thread Cert.FwdUpRefIdeal.nD Cert.FwdUpRefIdeal.τ).loc Cert.FwdUpRefIdeal.main_v3) = v0 c
          ∧ r.2.mem ((c.tc : Thread Cert.FwdUpRefIdeal.nD Cert.FwdUpRefIdeal.τ).loc Cert.FwdUpRefIdeal.main_v6) = v1 c
          ∧ r.2.mem ((c.tc : Thread Cert.FwdUpRefIdeal.nD Cert.FwdUpRefIdeal.τ).loc Cert.FwdUpRefIdeal.main_arg0) = m' ((c.tc : Thread Cert.FwdUpRefIdeal.nD Cert.FwdUpRefIdeal.τ).loc Cert.FwdUpRefIdeal.main_arg0)
          ∧ r.2.mem ((c.tc : Thread Cert.FwdUpRefIdeal.nD Cert.FwdUpRefIdeal.τ).loc Cert.FwdUpRefIdeal.main_arg1) = m' ((c.tc : Thread Cert.FwdUpRefIdeal.nD Cert.FwdUpRefIdeal.τ).loc Cert.FwdUpRefIdeal.main_arg1))

def preserves_FwdDown_FwdDownIdeal : Prop :=
  True

def algebraic_FwdDownIdeal_FwdDownRefIdeal [hFwdDownIdeal : Cert.FwdDownIdeal.Facts] [hFwdDownRefIdeal : Cert.FwdDownRefIdeal.Facts] : Prop :=
  ∀ (m : (ℓ : Loc Cert.FwdDownIdeal.nD Cert.FwdDownIdeal.τ Cert.FwdDownIdeal.sig) → Buf (Elt Ideal) ℓ) (g : Dev Cert.FwdDownIdeal.nD → PrngReg)
    (m' : (ℓ : Loc Cert.FwdDownRefIdeal.nD Cert.FwdDownRefIdeal.τ Cert.FwdDownRefIdeal.sig) → Buf (Elt Ideal) ℓ) (g' : Dev Cert.FwdDownRefIdeal.nD → PrngReg), Pre_FwdDownIdeal m →
    (∀ c : Dev Cert.FwdDownIdeal.nD,
      m' ((c.tc : Thread Cert.FwdDownRefIdeal.nD Cert.FwdDownRefIdeal.τ).loc Cert.FwdDownRefIdeal.main_arg0) = m ((c.tc : Thread Cert.FwdDownIdeal.nD Cert.FwdDownIdeal.τ).loc Cert.FwdDownIdeal.main_arg0)
      ∧ m' ((c.tc : Thread Cert.FwdDownRefIdeal.nD Cert.FwdDownRefIdeal.τ).loc Cert.FwdDownRefIdeal.main_arg1) = m ((c.tc : Thread Cert.FwdDownIdeal.nD Cert.FwdDownIdeal.τ).loc Cert.FwdDownIdeal.main_arg1)) →
    ∃ (v0 : (c : Dev Cert.FwdDownIdeal.nD) → Buf (Elt Ideal) ((c.tc : Thread Cert.FwdDownIdeal.nD Cert.FwdDownIdeal.τ).loc Cert.FwdDownIdeal.main_v0)),
      θ_run (Cert.FwdDownIdeal.defs (F := Ideal)) (onTc (τ := Cert.FwdDownIdeal.τ) (Cert.FwdDownIdeal.main (F := Ideal))) ⟨m, fun _ => 0, g⟩ (fun r => ∀ c : Dev Cert.FwdDownIdeal.nD,
          r.2.mem ((c.tc : Thread Cert.FwdDownIdeal.nD Cert.FwdDownIdeal.τ).loc Cert.FwdDownIdeal.main_v0) = v0 c
          ∧ r.2.mem ((c.tc : Thread Cert.FwdDownIdeal.nD Cert.FwdDownIdeal.τ).loc Cert.FwdDownIdeal.main_arg0) = m ((c.tc : Thread Cert.FwdDownIdeal.nD Cert.FwdDownIdeal.τ).loc Cert.FwdDownIdeal.main_arg0)
          ∧ r.2.mem ((c.tc : Thread Cert.FwdDownIdeal.nD Cert.FwdDownIdeal.τ).loc Cert.FwdDownIdeal.main_arg1) = m ((c.tc : Thread Cert.FwdDownIdeal.nD Cert.FwdDownIdeal.τ).loc Cert.FwdDownIdeal.main_arg1))
      ∧ θ_run (Cert.FwdDownRefIdeal.defs (F := Ideal)) (onTc (τ := Cert.FwdDownRefIdeal.τ) (Cert.FwdDownRefIdeal.main (F := Ideal))) ⟨m', fun _ => 0, g'⟩ (fun r => ∀ c : Dev Cert.FwdDownRefIdeal.nD,
          r.2.mem ((c.tc : Thread Cert.FwdDownRefIdeal.nD Cert.FwdDownRefIdeal.τ).loc Cert.FwdDownRefIdeal.main_v2) = v0 c
          ∧ r.2.mem ((c.tc : Thread Cert.FwdDownRefIdeal.nD Cert.FwdDownRefIdeal.τ).loc Cert.FwdDownRefIdeal.main_arg0) = m' ((c.tc : Thread Cert.FwdDownRefIdeal.nD Cert.FwdDownRefIdeal.τ).loc Cert.FwdDownRefIdeal.main_arg0)
          ∧ r.2.mem ((c.tc : Thread Cert.FwdDownRefIdeal.nD Cert.FwdDownRefIdeal.τ).loc Cert.FwdDownRefIdeal.main_arg1) = m' ((c.tc : Thread Cert.FwdDownRefIdeal.nD Cert.FwdDownRefIdeal.τ).loc Cert.FwdDownRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_v26) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v36) = v0 c
          ∧ r.2.mem ((c.tc : Thread Cert.PreBwdRefIdeal.nD Cert.PreBwdRefIdeal.τ).loc Cert.PreBwdRefIdeal.main_v21) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v36) = v0 c
          ∧ r.2.mem ((c.tc : Thread Cert.PostBwdRefIdeal.nD Cert.PostBwdRefIdeal.τ).loc Cert.PostBwdRefIdeal.main_v21) = v1 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2))

def preserves_RmsFirst_RmsFirstIdeal : Prop :=
  True

def algebraic_RmsFirstIdeal_RmsFirstRefIdeal [hRmsFirstIdeal : Cert.RmsFirstIdeal.Facts] [hRmsFirstRefIdeal : Cert.RmsFirstRefIdeal.Facts] : Prop :=
  ∀ (m : (ℓ : Loc Cert.RmsFirstIdeal.nD Cert.RmsFirstIdeal.τ Cert.RmsFirstIdeal.sig) → Buf (Elt Ideal) ℓ) (g : Dev Cert.RmsFirstIdeal.nD → PrngReg)
    (m' : (ℓ : Loc Cert.RmsFirstRefIdeal.nD Cert.RmsFirstRefIdeal.τ Cert.RmsFirstRefIdeal.sig) → Buf (Elt Ideal) ℓ) (g' : Dev Cert.RmsFirstRefIdeal.nD → PrngReg), Pre_RmsFirstIdeal m →
    (∀ c : Dev Cert.RmsFirstIdeal.nD,
      m' ((c.tc : Thread Cert.RmsFirstRefIdeal.nD Cert.RmsFirstRefIdeal.τ).loc Cert.RmsFirstRefIdeal.main_arg0) = m ((c.tc : Thread Cert.RmsFirstIdeal.nD Cert.RmsFirstIdeal.τ).loc Cert.RmsFirstIdeal.main_arg0)
      ∧ m' ((c.tc : Thread Cert.RmsFirstRefIdeal.nD Cert.RmsFirstRefIdeal.τ).loc Cert.RmsFirstRefIdeal.main_arg1) = m ((c.tc : Thread Cert.RmsFirstIdeal.nD Cert.RmsFirstIdeal.τ).loc Cert.RmsFirstIdeal.main_arg1)) →
    ∃ (v0 : (c : Dev Cert.RmsFirstIdeal.nD) → Buf (Elt Ideal) ((c.tc : Thread Cert.RmsFirstIdeal.nD Cert.RmsFirstIdeal.τ).loc Cert.RmsFirstIdeal.main_v0)),
      θ_run (Cert.RmsFirstIdeal.defs (F := Ideal)) (onTc (τ := Cert.RmsFirstIdeal.τ) (Cert.RmsFirstIdeal.main (F := Ideal))) ⟨m, fun _ => 0, g⟩ (fun r => ∀ c : Dev Cert.RmsFirstIdeal.nD,
          r.2.mem ((c.tc : Thread Cert.RmsFirstIdeal.nD Cert.RmsFirstIdeal.τ).loc Cert.RmsFirstIdeal.main_v0) = v0 c
          ∧ r.2.mem ((c.tc : Thread Cert.RmsFirstIdeal.nD Cert.RmsFirstIdeal.τ).loc Cert.RmsFirstIdeal.main_arg0) = m ((c.tc : Thread Cert.RmsFirstIdeal.nD Cert.RmsFirstIdeal.τ).loc Cert.RmsFirstIdeal.main_arg0)
          ∧ r.2.mem ((c.tc : Thread Cert.RmsFirstIdeal.nD Cert.RmsFirstIdeal.τ).loc Cert.RmsFirstIdeal.main_arg1) = m ((c.tc : Thread Cert.RmsFirstIdeal.nD Cert.RmsFirstIdeal.τ).loc Cert.RmsFirstIdeal.main_arg1))
      ∧ θ_run (Cert.RmsFirstRefIdeal.defs (F := Ideal)) (onTc (τ := Cert.RmsFirstRefIdeal.τ) (Cert.RmsFirstRefIdeal.main (F := Ideal))) ⟨m', fun _ => 0, g'⟩ (fun r => ∀ c : Dev Cert.RmsFirstRefIdeal.nD,
          r.2.mem ((c.tc : Thread Cert.RmsFirstRefIdeal.nD Cert.RmsFirstRefIdeal.τ).loc Cert.RmsFirstRefIdeal.main_v14) = v0 c
          ∧ r.2.mem ((c.tc : Thread Cert.RmsFirstRefIdeal.nD Cert.RmsFirstRefIdeal.τ).loc Cert.RmsFirstRefIdeal.main_arg0) = m' ((c.tc : Thread Cert.RmsFirstRefIdeal.nD Cert.RmsFirstRefIdeal.τ).loc Cert.RmsFirstRefIdeal.main_arg0)
          ∧ r.2.mem ((c.tc : Thread Cert.RmsFirstRefIdeal.nD Cert.RmsFirstRefIdeal.τ).loc Cert.RmsFirstRefIdeal.main_arg1) = m' ((c.tc : Thread Cert.RmsFirstRefIdeal.nD Cert.RmsFirstRefIdeal.τ).loc Cert.RmsFirstRefIdeal.main_arg1))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v14) = v0 c
          ∧ r.2.mem ((c.tc : Thread Cert.ResidualRefIdeal.nD Cert.ResidualRefIdeal.τ).loc Cert.ResidualRefIdeal.main_v29) = v1 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v29) = v0 c
          ∧ r.2.mem ((c.tc : Thread Cert.LossHeadRefIdeal.nD Cert.LossHeadRefIdeal.τ).loc Cert.LossHeadRefIdeal.main_v30) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_CfNormFwd_CfNormFwdIdeal : Prop :=
  True

def algebraic_CfNormFwdIdeal_CfNormFwdRefIdeal [hCfNormFwdIdeal : Cert.CfNormFwdIdeal.Facts] [hCfNormFwdRefIdeal : Cert.CfNormFwdRefIdeal.Facts] : Prop :=
  ∀ (m : (ℓ : Loc Cert.CfNormFwdIdeal.nD Cert.CfNormFwdIdeal.τ Cert.CfNormFwdIdeal.sig) → Buf (Elt Ideal) ℓ) (g : Dev Cert.CfNormFwdIdeal.nD → PrngReg)
    (m' : (ℓ : Loc Cert.CfNormFwdRefIdeal.nD Cert.CfNormFwdRefIdeal.τ Cert.CfNormFwdRefIdeal.sig) → Buf (Elt Ideal) ℓ) (g' : Dev Cert.CfNormFwdRefIdeal.nD → PrngReg), Pre_CfNormFwdIdeal m →
    (∀ c : Dev Cert.CfNormFwdIdeal.nD,
      m' ((c.tc : Thread Cert.CfNormFwdRefIdeal.nD Cert.CfNormFwdRefIdeal.τ).loc Cert.CfNormFwdRefIdeal.main_arg0) = m ((c.tc : Thread Cert.CfNormFwdIdeal.nD Cert.CfNormFwdIdeal.τ).loc Cert.CfNormFwdIdeal.main_arg0)
      ∧ m' ((c.tc : Thread Cert.CfNormFwdRefIdeal.nD Cert.CfNormFwdRefIdeal.τ).loc Cert.CfNormFwdRefIdeal.main_arg1) = m ((c.tc : Thread Cert.CfNormFwdIdeal.nD Cert.CfNormFwdIdeal.τ).loc Cert.CfNormFwdIdeal.main_arg1)
      ∧ m' ((c.tc : Thread Cert.CfNormFwdRefIdeal.nD Cert.CfNormFwdRefIdeal.τ).loc Cert.CfNormFwdRefIdeal.main_arg2) = m ((c.tc : Thread Cert.CfNormFwdIdeal.nD Cert.CfNormFwdIdeal.τ).loc Cert.CfNormFwdIdeal.main_arg2)) →
    ∃ (v0 : (c : Dev Cert.CfNormFwdIdeal.nD) → Buf (Elt Ideal) ((c.tc : Thread Cert.CfNormFwdIdeal.nD Cert.CfNormFwdIdeal.τ).loc Cert.CfNormFwdIdeal.main_v0)),
      θ_run (Cert.CfNormFwdIdeal.defs (F := Ideal)) (onTc (τ := Cert.CfNormFwdIdeal.τ) (Cert.CfNormFwdIdeal.main (F := Ideal))) ⟨m, fun _ => 0, g⟩ (fun r => ∀ c : Dev Cert.CfNormFwdIdeal.nD,
          r.2.mem ((c.tc : Thread Cert.CfNormFwdIdeal.nD Cert.CfNormFwdIdeal.τ).loc Cert.CfNormFwdIdeal.main_v0) = v0 c
          ∧ r.2.mem ((c.tc : Thread Cert.CfNormFwdIdeal.nD Cert.CfNormFwdIdeal.τ).loc Cert.CfNormFwdIdeal.main_arg0) = m ((c.tc : Thread Cert.CfNormFwdIdeal.nD Cert.CfNormFwdIdeal.τ).loc Cert.CfNormFwdIdeal.main_arg0)
          ∧ r.2.mem ((c.tc : Thread Cert.CfNormFwdIdeal.nD Cert.CfNormFwdIdeal.τ).loc Cert.CfNormFwdIdeal.main_arg1) = m ((c.tc : Thread Cert.CfNormFwdIdeal.nD Cert.CfNormFwdIdeal.τ).loc Cert.CfNormFwdIdeal.main_arg1)
          ∧ r.2.mem ((c.tc : Thread Cert.CfNormFwdIdeal.nD Cert.CfNormFwdIdeal.τ).loc Cert.CfNormFwdIdeal.main_arg2) = m ((c.tc : Thread Cert.CfNormFwdIdeal.nD Cert.CfNormFwdIdeal.τ).loc Cert.CfNormFwdIdeal.main_arg2))
      ∧ θ_run (Cert.CfNormFwdRefIdeal.defs (F := Ideal)) (onTc (τ := Cert.CfNormFwdRefIdeal.τ) (Cert.CfNormFwdRefIdeal.main (F := Ideal))) ⟨m', fun _ => 0, g'⟩ (fun r => ∀ c : Dev Cert.CfNormFwdRefIdeal.nD,
          r.2.mem ((c.tc : Thread Cert.CfNormFwdRefIdeal.nD Cert.CfNormFwdRefIdeal.τ).loc Cert.CfNormFwdRefIdeal.main_v27) = v0 c
          ∧ r.2.mem ((c.tc : Thread Cert.CfNormFwdRefIdeal.nD Cert.CfNormFwdRefIdeal.τ).loc Cert.CfNormFwdRefIdeal.main_arg0) = m' ((c.tc : Thread Cert.CfNormFwdRefIdeal.nD Cert.CfNormFwdRefIdeal.τ).loc Cert.CfNormFwdRefIdeal.main_arg0)
          ∧ r.2.mem ((c.tc : Thread Cert.CfNormFwdRefIdeal.nD Cert.CfNormFwdRefIdeal.τ).loc Cert.CfNormFwdRefIdeal.main_arg1) = m' ((c.tc : Thread Cert.CfNormFwdRefIdeal.nD Cert.CfNormFwdRefIdeal.τ).loc Cert.CfNormFwdRefIdeal.main_arg1)
          ∧ r.2.mem ((c.tc : Thread Cert.CfNormFwdRefIdeal.nD Cert.CfNormFwdRefIdeal.τ).loc Cert.CfNormFwdRefIdeal.main_arg2) = m' ((c.tc : Thread Cert.CfNormFwdRefIdeal.nD Cert.CfNormFwdRefIdeal.τ).loc Cert.CfNormFwdRefIdeal.main_arg2))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v0)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v0) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v34) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg1) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamProjA_AdamProjAIdeal : Prop :=
  True

def algebraic_AdamProjAIdeal_AdamProjARefIdeal [hAdamProjAIdeal : Cert.AdamProjAIdeal.Facts] [hAdamProjARefIdeal : Cert.AdamProjARefIdeal.Facts] : Prop :=
  ∀ (m : (ℓ : Loc Cert.AdamProjAIdeal.nD Cert.AdamProjAIdeal.τ Cert.AdamProjAIdeal.sig) → Buf (Elt Ideal) ℓ) (g : Dev Cert.AdamProjAIdeal.nD → PrngReg)
    (m' : (ℓ : Loc Cert.AdamProjARefIdeal.nD Cert.AdamProjARefIdeal.τ Cert.AdamProjARefIdeal.sig) → Buf (Elt Ideal) ℓ) (g' : Dev Cert.AdamProjARefIdeal.nD → PrngReg), Pre_AdamProjAIdeal m →
    (∀ c : Dev Cert.AdamProjAIdeal.nD,
      m' ((c.tc : Thread Cert.AdamProjARefIdeal.nD Cert.AdamProjARefIdeal.τ).loc Cert.AdamProjARefIdeal.main_arg0) = m ((c.tc : Thread Cert.AdamProjAIdeal.nD Cert.AdamProjAIdeal.τ).loc Cert.AdamProjAIdeal.main_arg0)
      ∧ m' ((c.tc : Thread Cert.AdamProjARefIdeal.nD Cert.AdamProjARefIdeal.τ).loc Cert.AdamProjARefIdeal.main_arg1) = m ((c.tc : Thread Cert.AdamProjAIdeal.nD Cert.AdamProjAIdeal.τ).loc Cert.AdamProjAIdeal.main_arg1)
      ∧ m' ((c.tc : Thread Cert.AdamProjARefIdeal.nD Cert.AdamProjARefIdeal.τ).loc Cert.AdamProjARefIdeal.main_arg2) = m ((c.tc : Thread Cert.AdamProjAIdeal.nD Cert.AdamProjAIdeal.τ).loc Cert.AdamProjAIdeal.main_arg2)
      ∧ m' ((c.tc : Thread Cert.AdamProjARefIdeal.nD Cert.AdamProjARefIdeal.τ).loc Cert.AdamProjARefIdeal.main_arg3) = m ((c.tc : Thread Cert.AdamProjAIdeal.nD Cert.AdamProjAIdeal.τ).loc Cert.AdamProjAIdeal.main_arg3)) →
    ∃ (v0 : (c : Dev Cert.AdamProjAIdeal.nD) → Buf (Elt Ideal) ((c.tc : Thread Cert.AdamProjAIdeal.nD Cert.AdamProjAIdeal.τ).loc Cert.AdamProjAIdeal.main_v0_0)) (v1 : (c : Dev Cert.AdamProjAIdeal.nD) → Buf (Elt Ideal) ((c.tc : Thread Cert.AdamProjAIdeal.nD Cert.AdamProjAIdeal.τ).loc Cert.AdamProjAIdeal.main_v0_1)) (v2 : (c : Dev Cert.AdamProjAIdeal.nD) → Buf (Elt Ideal) ((c.tc : Thread Cert.AdamProjAIdeal.nD Cert.AdamProjAIdeal.τ).loc Cert.AdamProjAIdeal.main_v0_2)) (v3 : (c : Dev Cert.AdamProjAIdeal.nD) → Buf (Elt Ideal) ((c.tc : Thread Cert.AdamProjAIdeal.nD Cert.AdamProjAIdeal.τ).loc Cert.AdamProjAIdeal.main_v0_3)),
      θ_run (Cert.AdamProjAIdeal.defs (F := Ideal)) (onTc (τ := Cert.AdamProjAIdeal.τ) (Cert.AdamProjAIdeal.main (F := Ideal))) ⟨m, fun _ => 0, g⟩ (fun r => ∀ c : Dev Cert.AdamProjAIdeal.nD,
          r.2.mem ((c.tc : Thread Cert.AdamProjAIdeal.nD Cert.AdamProjAIdeal.τ).loc Cert.AdamProjAIdeal.main_v0_0) = v0 c
          ∧ r.2.mem ((c.tc : Thread Cert.AdamProjAIdeal.nD Cert.AdamProjAIdeal.τ).loc Cert.AdamProjAIdeal.main_v0_1) = v1 c
          ∧ r.2.mem ((c.tc : Thread Cert.AdamProjAIdeal.nD Cert.AdamProjAIdeal.τ).loc Cert.AdamProjAIdeal.main_v0_2) = v2 c
          ∧ r.2.mem ((c.tc : Thread Cert.AdamProjAIdeal.nD Cert.AdamProjAIdeal.τ).loc Cert.AdamProjAIdeal.main_v0_3) = v3 c
          ∧ r.2.mem ((c.tc : Thread Cert.AdamProjAIdeal.nD Cert.AdamProjAIdeal.τ).loc Cert.AdamProjAIdeal.main_arg0) = m ((c.tc : Thread Cert.AdamProjAIdeal.nD Cert.AdamProjAIdeal.τ).loc Cert.AdamProjAIdeal.main_arg0)
          ∧ r.2.mem ((c.tc : Thread Cert.AdamProjAIdeal.nD Cert.AdamProjAIdeal.τ).loc Cert.AdamProjAIdeal.main_arg1) = m ((c.tc : Thread Cert.AdamProjAIdeal.nD Cert.AdamProjAIdeal.τ).loc Cert.AdamProjAIdeal.main_arg1)
          ∧ r.2.mem ((c.tc : Thread Cert.AdamProjAIdeal.nD Cert.AdamProjAIdeal.τ).loc Cert.AdamProjAIdeal.main_arg2) = m ((c.tc : Thread Cert.AdamProjAIdeal.nD Cert.AdamProjAIdeal.τ).loc Cert.AdamProjAIdeal.main_arg2)
          ∧ r.2.mem ((c.tc : Thread Cert.AdamProjAIdeal.nD Cert.AdamProjAIdeal.τ).loc Cert.AdamProjAIdeal.main_arg3) = m ((c.tc : Thread Cert.AdamProjAIdeal.nD Cert.AdamProjAIdeal.τ).loc Cert.AdamProjAIdeal.main_arg3))
      ∧ θ_run (Cert.AdamProjARefIdeal.defs (F := Ideal)) (onTc (τ := Cert.AdamProjARefIdeal.τ) (Cert.AdamProjARefIdeal.main (F := Ideal))) ⟨m', fun _ => 0, g'⟩ (fun r => ∀ c : Dev Cert.AdamProjARefIdeal.nD,
          r.2.mem ((c.tc : Thread Cert.AdamProjARefIdeal.nD Cert.AdamProjARefIdeal.τ).loc Cert.AdamProjARefIdeal.main_v23) = v0 c
          ∧ r.2.mem ((c.tc : Thread Cert.AdamProjARefIdeal.nD Cert.AdamProjARefIdeal.τ).loc Cert.AdamProjARefIdeal.main_v4) = v1 c
          ∧ r.2.mem ((c.tc : Thread Cert.AdamProjARefIdeal.nD Cert.AdamProjARefIdeal.τ).loc Cert.AdamProjARefIdeal.main_v10) = v2 c
          ∧ r.2.mem ((c.tc : Thread Cert.AdamProjARefIdeal.nD Cert.AdamProjARefIdeal.τ).loc Cert.AdamProjARefIdeal.main_arg1) = v3 c
          ∧ r.2.mem ((c.tc : Thread Cert.AdamProjARefIdeal.nD Cert.AdamProjARefIdeal.τ).loc Cert.AdamProjARefIdeal.main_arg0) = m' ((c.tc : Thread Cert.AdamProjARefIdeal.nD Cert.AdamProjARefIdeal.τ).loc Cert.AdamProjARefIdeal.main_arg0)
          ∧ r.2.mem ((c.tc : Thread Cert.AdamProjARefIdeal.nD Cert.AdamProjARefIdeal.τ).loc Cert.AdamProjARefIdeal.main_arg1) = m' ((c.tc : Thread Cert.AdamProjARefIdeal.nD Cert.AdamProjARefIdeal.τ).loc Cert.AdamProjARefIdeal.main_arg1)
          ∧ r.2.mem ((c.tc : Thread Cert.AdamProjARefIdeal.nD Cert.AdamProjARefIdeal.τ).loc Cert.AdamProjARefIdeal.main_arg2) = m' ((c.tc : Thread Cert.AdamProjARefIdeal.nD Cert.AdamProjARefIdeal.τ).loc Cert.AdamProjARefIdeal.main_arg2)
          ∧ r.2.mem ((c.tc : Thread Cert.AdamProjARefIdeal.nD Cert.AdamProjARefIdeal.τ).loc Cert.AdamProjARefIdeal.main_arg3) = m' ((c.tc : Thread Cert.AdamProjARefIdeal.nD Cert.AdamProjARefIdeal.τ).loc Cert.AdamProjARefIdeal.main_arg3))

def preserves_AdamProjB_AdamProjBIdeal : Prop :=
  True

def algebraic_AdamProjBIdeal_AdamProjBRefIdeal [hAdamProjBIdeal : Cert.AdamProjBIdeal.Facts] [hAdamProjBRefIdeal : Cert.AdamProjBRefIdeal.Facts] : Prop :=
  ∀ (m : (ℓ : Loc Cert.AdamProjBIdeal.nD Cert.AdamProjBIdeal.τ Cert.AdamProjBIdeal.sig) → Buf (Elt Ideal) ℓ) (g : Dev Cert.AdamProjBIdeal.nD → PrngReg)
    (m' : (ℓ : Loc Cert.AdamProjBRefIdeal.nD Cert.AdamProjBRefIdeal.τ Cert.AdamProjBRefIdeal.sig) → Buf (Elt Ideal) ℓ) (g' : Dev Cert.AdamProjBRefIdeal.nD → PrngReg), Pre_AdamProjBIdeal m →
    (∀ c : Dev Cert.AdamProjBIdeal.nD,
      m' ((c.tc : Thread Cert.AdamProjBRefIdeal.nD Cert.AdamProjBRefIdeal.τ).loc Cert.AdamProjBRefIdeal.main_arg0) = m ((c.tc : Thread Cert.AdamProjBIdeal.nD Cert.AdamProjBIdeal.τ).loc Cert.AdamProjBIdeal.main_arg0)
      ∧ m' ((c.tc : Thread Cert.AdamProjBRefIdeal.nD Cert.AdamProjBRefIdeal.τ).loc Cert.AdamProjBRefIdeal.main_arg1) = m ((c.tc : Thread Cert.AdamProjBIdeal.nD Cert.AdamProjBIdeal.τ).loc Cert.AdamProjBIdeal.main_arg1)
      ∧ m' ((c.tc : Thread Cert.AdamProjBRefIdeal.nD Cert.AdamProjBRefIdeal.τ).loc Cert.AdamProjBRefIdeal.main_arg2) = m ((c.tc : Thread Cert.AdamProjBIdeal.nD Cert.AdamProjBIdeal.τ).loc Cert.AdamProjBIdeal.main_arg2)
      ∧ m' ((c.tc : Thread Cert.AdamProjBRefIdeal.nD Cert.AdamProjBRefIdeal.τ).loc Cert.AdamProjBRefIdeal.main_arg3) = m ((c.tc : Thread Cert.AdamProjBIdeal.nD Cert.AdamProjBIdeal.τ).loc Cert.AdamProjBIdeal.main_arg3)) →
    ∃ (v0 : (c : Dev Cert.AdamProjBIdeal.nD) → Buf (Elt Ideal) ((c.tc : Thread Cert.AdamProjBIdeal.nD Cert.AdamProjBIdeal.τ).loc Cert.AdamProjBIdeal.main_v0_0)) (v1 : (c : Dev Cert.AdamProjBIdeal.nD) → Buf (Elt Ideal) ((c.tc : Thread Cert.AdamProjBIdeal.nD Cert.AdamProjBIdeal.τ).loc Cert.AdamProjBIdeal.main_v0_1)) (v2 : (c : Dev Cert.AdamProjBIdeal.nD) → Buf (Elt Ideal) ((c.tc : Thread Cert.AdamProjBIdeal.nD Cert.AdamProjBIdeal.τ).loc Cert.AdamProjBIdeal.main_v0_2)) (v3 : (c : Dev Cert.AdamProjBIdeal.nD) → Buf (Elt Ideal) ((c.tc : Thread Cert.AdamProjBIdeal.nD Cert.AdamProjBIdeal.τ).loc Cert.AdamProjBIdeal.main_v0_3)),
      θ_run (Cert.AdamProjBIdeal.defs (F := Ideal)) (onTc (τ := Cert.AdamProjBIdeal.τ) (Cert.AdamProjBIdeal.main (F := Ideal))) ⟨m, fun _ => 0, g⟩ (fun r => ∀ c : Dev Cert.AdamProjBIdeal.nD,
          r.2.mem ((c.tc : Thread Cert.AdamProjBIdeal.nD Cert.AdamProjBIdeal.τ).loc Cert.AdamProjBIdeal.main_v0_0) = v0 c
          ∧ r.2.mem ((c.tc : Thread Cert.AdamProjBIdeal.nD Cert.AdamProjBIdeal.τ).loc Cert.AdamProjBIdeal.main_v0_1) = v1 c
          ∧ r.2.mem ((c.tc : Thread Cert.AdamProjBIdeal.nD Cert.AdamProjBIdeal.τ).loc Cert.AdamProjBIdeal.main_v0_2) = v2 c
          ∧ r.2.mem ((c.tc : Thread Cert.AdamProjBIdeal.nD Cert.AdamProjBIdeal.τ).loc Cert.AdamProjBIdeal.main_v0_3) = v3 c
          ∧ r.2.mem ((c.tc : Thread Cert.AdamProjBIdeal.nD Cert.AdamProjBIdeal.τ).loc Cert.AdamProjBIdeal.main_arg0) = m ((c.tc : Thread Cert.AdamProjBIdeal.nD Cert.AdamProjBIdeal.τ).loc Cert.AdamProjBIdeal.main_arg0)
          ∧ r.2.mem ((c.tc : Thread Cert.AdamProjBIdeal.nD Cert.AdamProjBIdeal.τ).loc Cert.AdamProjBIdeal.main_arg1) = m ((c.tc : Thread Cert.AdamProjBIdeal.nD Cert.AdamProjBIdeal.τ).loc Cert.AdamProjBIdeal.main_arg1)
          ∧ r.2.mem ((c.tc : Thread Cert.AdamProjBIdeal.nD Cert.AdamProjBIdeal.τ).loc Cert.AdamProjBIdeal.main_arg2) = m ((c.tc : Thread Cert.AdamProjBIdeal.nD Cert.AdamProjBIdeal.τ).loc Cert.AdamProjBIdeal.main_arg2)
          ∧ r.2.mem ((c.tc : Thread Cert.AdamProjBIdeal.nD Cert.AdamProjBIdeal.τ).loc Cert.AdamProjBIdeal.main_arg3) = m ((c.tc : Thread Cert.AdamProjBIdeal.nD Cert.AdamProjBIdeal.τ).loc Cert.AdamProjBIdeal.main_arg3))
      ∧ θ_run (Cert.AdamProjBRefIdeal.defs (F := Ideal)) (onTc (τ := Cert.AdamProjBRefIdeal.τ) (Cert.AdamProjBRefIdeal.main (F := Ideal))) ⟨m', fun _ => 0, g'⟩ (fun r => ∀ c : Dev Cert.AdamProjBRefIdeal.nD,
          r.2.mem ((c.tc : Thread Cert.AdamProjBRefIdeal.nD Cert.AdamProjBRefIdeal.τ).loc Cert.AdamProjBRefIdeal.main_v23) = v0 c
          ∧ r.2.mem ((c.tc : Thread Cert.AdamProjBRefIdeal.nD Cert.AdamProjBRefIdeal.τ).loc Cert.AdamProjBRefIdeal.main_v4) = v1 c
          ∧ r.2.mem ((c.tc : Thread Cert.AdamProjBRefIdeal.nD Cert.AdamProjBRefIdeal.τ).loc Cert.AdamProjBRefIdeal.main_v10) = v2 c
          ∧ r.2.mem ((c.tc : Thread Cert.AdamProjBRefIdeal.nD Cert.AdamProjBRefIdeal.τ).loc Cert.AdamProjBRefIdeal.main_arg1) = v3 c
          ∧ r.2.mem ((c.tc : Thread Cert.AdamProjBRefIdeal.nD Cert.AdamProjBRefIdeal.τ).loc Cert.AdamProjBRefIdeal.main_arg0) = m' ((c.tc : Thread Cert.AdamProjBRefIdeal.nD Cert.AdamProjBRefIdeal.τ).loc Cert.AdamProjBRefIdeal.main_arg0)
          ∧ r.2.mem ((c.tc : Thread Cert.AdamProjBRefIdeal.nD Cert.AdamProjBRefIdeal.τ).loc Cert.AdamProjBRefIdeal.main_arg1) = m' ((c.tc : Thread Cert.AdamProjBRefIdeal.nD Cert.AdamProjBRefIdeal.τ).loc Cert.AdamProjBRefIdeal.main_arg1)
          ∧ r.2.mem ((c.tc : Thread Cert.AdamProjBRefIdeal.nD Cert.AdamProjBRefIdeal.τ).loc Cert.AdamProjBRefIdeal.main_arg2) = m' ((c.tc : Thread Cert.AdamProjBRefIdeal.nD Cert.AdamProjBRefIdeal.τ).loc Cert.AdamProjBRefIdeal.main_arg2)
          ∧ r.2.mem ((c.tc : Thread Cert.AdamProjBRefIdeal.nD Cert.AdamProjBRefIdeal.τ).loc Cert.AdamProjBRefIdeal.main_arg3) = m' ((c.tc : Thread Cert.AdamProjBRefIdeal.nD Cert.AdamProjBRefIdeal.τ).loc Cert.AdamProjBRefIdeal.main_arg3))

def preserves_AdamWO_AdamWOIdeal : Prop :=
  True

def algebraic_AdamWOIdeal_AdamWORefIdeal [hAdamWOIdeal : Cert.AdamWOIdeal.Facts] [hAdamWORefIdeal : Cert.AdamWORefIdeal.Facts] : Prop :=
  ∀ (m : (ℓ : Loc Cert.AdamWOIdeal.nD Cert.AdamWOIdeal.τ Cert.AdamWOIdeal.sig) → Buf (Elt Ideal) ℓ) (g : Dev Cert.AdamWOIdeal.nD → PrngReg)
    (m' : (ℓ : Loc Cert.AdamWORefIdeal.nD Cert.AdamWORefIdeal.τ Cert.AdamWORefIdeal.sig) → Buf (Elt Ideal) ℓ) (g' : Dev Cert.AdamWORefIdeal.nD → PrngReg), Pre_AdamWOIdeal m →
    (∀ c : Dev Cert.AdamWOIdeal.nD,
      m' ((c.tc : Thread Cert.AdamWORefIdeal.nD Cert.AdamWORefIdeal.τ).loc Cert.AdamWORefIdeal.main_arg0) = m ((c.tc : Thread Cert.AdamWOIdeal.nD Cert.AdamWOIdeal.τ).loc Cert.AdamWOIdeal.main_arg0)
      ∧ m' ((c.tc : Thread Cert.AdamWORefIdeal.nD Cert.AdamWORefIdeal.τ).loc Cert.AdamWORefIdeal.main_arg1) = m ((c.tc : Thread Cert.AdamWOIdeal.nD Cert.AdamWOIdeal.τ).loc Cert.AdamWOIdeal.main_arg1)
      ∧ m' ((c.tc : Thread Cert.AdamWORefIdeal.nD Cert.AdamWORefIdeal.τ).loc Cert.AdamWORefIdeal.main_arg2) = m ((c.tc : Thread Cert.AdamWOIdeal.nD Cert.AdamWOIdeal.τ).loc Cert.AdamWOIdeal.main_arg2)
      ∧ m' ((c.tc : Thread Cert.AdamWORefIdeal.nD Cert.AdamWORefIdeal.τ).loc Cert.AdamWORefIdeal.main_arg3) = m ((c.tc : Thread Cert.AdamWOIdeal.nD Cert.AdamWOIdeal.τ).loc Cert.AdamWOIdeal.main_arg3)) →
    ∃ (v0 : (c : Dev Cert.AdamWOIdeal.nD) → Buf (Elt Ideal) ((c.tc : Thread Cert.AdamWOIdeal.nD Cert.AdamWOIdeal.τ).loc Cert.AdamWOIdeal.main_v0_0)) (v1 : (c : Dev Cert.AdamWOIdeal.nD) → Buf (Elt Ideal) ((c.tc : Thread Cert.AdamWOIdeal.nD Cert.AdamWOIdeal.τ).loc Cert.AdamWOIdeal.main_v0_1)) (v2 : (c : Dev Cert.AdamWOIdeal.nD) → Buf (Elt Ideal) ((c.tc : Thread Cert.AdamWOIdeal.nD Cert.AdamWOIdeal.τ).loc Cert.AdamWOIdeal.main_v0_2)) (v3 : (c : Dev Cert.AdamWOIdeal.nD) → Buf (Elt Ideal) ((c.tc : Thread Cert.AdamWOIdeal.nD Cert.AdamWOIdeal.τ).loc Cert.AdamWOIdeal.main_v0_3)),
      θ_run (Cert.AdamWOIdeal.defs (F := Ideal)) (onTc (τ := Cert.AdamWOIdeal.τ) (Cert.AdamWOIdeal.main (F := Ideal))) ⟨m, fun _ => 0, g⟩ (fun r => ∀ c : Dev Cert.AdamWOIdeal.nD,
          r.2.mem ((c.tc : Thread Cert.AdamWOIdeal.nD Cert.AdamWOIdeal.τ).loc Cert.AdamWOIdeal.main_v0_0) = v0 c
          ∧ r.2.mem ((c.tc : Thread Cert.AdamWOIdeal.nD Cert.AdamWOIdeal.τ).loc Cert.AdamWOIdeal.main_v0_1) = v1 c
          ∧ r.2.mem ((c.tc : Thread Cert.AdamWOIdeal.nD Cert.AdamWOIdeal.τ).loc Cert.AdamWOIdeal.main_v0_2) = v2 c
          ∧ r.2.mem ((c.tc : Thread Cert.AdamWOIdeal.nD Cert.AdamWOIdeal.τ).loc Cert.AdamWOIdeal.main_v0_3) = v3 c
          ∧ r.2.mem ((c.tc : Thread Cert.AdamWOIdeal.nD Cert.AdamWOIdeal.τ).loc Cert.AdamWOIdeal.main_arg0) = m ((c.tc : Thread Cert.AdamWOIdeal.nD Cert.AdamWOIdeal.τ).loc Cert.AdamWOIdeal.main_arg0)
          ∧ r.2.mem ((c.tc : Thread Cert.AdamWOIdeal.nD Cert.AdamWOIdeal.τ).loc Cert.AdamWOIdeal.main_arg1) = m ((c.tc : Thread Cert.AdamWOIdeal.nD Cert.AdamWOIdeal.τ).loc Cert.AdamWOIdeal.main_arg1)
          ∧ r.2.mem ((c.tc : Thread Cert.AdamWOIdeal.nD Cert.AdamWOIdeal.τ).loc Cert.AdamWOIdeal.main_arg2) = m ((c.tc : Thread Cert.AdamWOIdeal.nD Cert.AdamWOIdeal.τ).loc Cert.AdamWOIdeal.main_arg2)
          ∧ r.2.mem ((c.tc : Thread Cert.AdamWOIdeal.nD Cert.AdamWOIdeal.τ).loc Cert.AdamWOIdeal.main_arg3) = m ((c.tc : Thread Cert.AdamWOIdeal.nD Cert.AdamWOIdeal.τ).loc Cert.AdamWOIdeal.main_arg3))
      ∧ θ_run (Cert.AdamWORefIdeal.defs (F := Ideal)) (onTc (τ := Cert.AdamWORefIdeal.τ) (Cert.AdamWORefIdeal.main (F := Ideal))) ⟨m', fun _ => 0, g'⟩ (fun r => ∀ c : Dev Cert.AdamWORefIdeal.nD,
          r.2.mem ((c.tc : Thread Cert.AdamWORefIdeal.nD Cert.AdamWORefIdeal.τ).loc Cert.AdamWORefIdeal.main_v23) = v0 c
          ∧ r.2.mem ((c.tc : Thread Cert.AdamWORefIdeal.nD Cert.AdamWORefIdeal.τ).loc Cert.AdamWORefIdeal.main_v4) = v1 c
          ∧ r.2.mem ((c.tc : Thread Cert.AdamWORefIdeal.nD Cert.AdamWORefIdeal.τ).loc Cert.AdamWORefIdeal.main_v10) = v2 c
          ∧ r.2.mem ((c.tc : Thread Cert.AdamWORefIdeal.nD Cert.AdamWORefIdeal.τ).loc Cert.AdamWORefIdeal.main_arg1) = v3 c
          ∧ r.2.mem ((c.tc : Thread Cert.AdamWORefIdeal.nD Cert.AdamWORefIdeal.τ).loc Cert.AdamWORefIdeal.main_arg0) = m' ((c.tc : Thread Cert.AdamWORefIdeal.nD Cert.AdamWORefIdeal.τ).loc Cert.AdamWORefIdeal.main_arg0)
          ∧ r.2.mem ((c.tc : Thread Cert.AdamWORefIdeal.nD Cert.AdamWORefIdeal.τ).loc Cert.AdamWORefIdeal.main_arg1) = m' ((c.tc : Thread Cert.AdamWORefIdeal.nD Cert.AdamWORefIdeal.τ).loc Cert.AdamWORefIdeal.main_arg1)
          ∧ r.2.mem ((c.tc : Thread Cert.AdamWORefIdeal.nD Cert.AdamWORefIdeal.τ).loc Cert.AdamWORefIdeal.main_arg2) = m' ((c.tc : Thread Cert.AdamWORefIdeal.nD Cert.AdamWORefIdeal.τ).loc Cert.AdamWORefIdeal.main_arg2)
          ∧ r.2.mem ((c.tc : Thread Cert.AdamWORefIdeal.nD Cert.AdamWORefIdeal.τ).loc Cert.AdamWORefIdeal.main_arg3) = m' ((c.tc : Thread Cert.AdamWORefIdeal.nD Cert.AdamWORefIdeal.τ).loc Cert.AdamWORefIdeal.main_arg3))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v23) = v0 c
          ∧ r.2.mem ((c.tc : Thread Cert.AdamMlpRefIdeal.nD Cert.AdamMlpRefIdeal.τ).loc Cert.AdamMlpRefIdeal.main_v4) = v1 c
          ∧ r.2.mem ((c.tc : Thread Cert.AdamMlpRefIdeal.nD Cert.AdamMlpRefIdeal.τ).loc Cert.AdamMlpRefIdeal.main_v10) = v2 c
          ∧ r.2.mem ((c.tc : Thread Cert.AdamMlpRefIdeal.nD Cert.AdamMlpRefIdeal.τ).loc Cert.AdamMlpRefIdeal.main_arg1) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg1) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![2048, 2048]⟩ ⟨2, ![16384, 2048]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![2048, 2048]⟩ ⟨2, ![16384, 2048]⟩ 0 8 c (m' (((0 : Dev Cert.LossRefIdeal.nD).tc : Thread Cert.LossRefIdeal.nD Cert.LossRefIdeal.τ).loc Cert.LossRefIdeal.main_arg1))
      ∧ m ((c.tc : Thread Cert.LossIdeal.nD Cert.LossIdeal.τ).loc Cert.LossIdeal.main_arg2) = m' (((0 : Dev Cert.LossRefIdeal.nD).tc : Thread Cert.LossRefIdeal.nD Cert.LossRefIdeal.τ).loc Cert.LossRefIdeal.main_arg2)
      ∧ m ((c.tc : Thread Cert.LossIdeal.nD Cert.LossIdeal.τ).loc Cert.LossIdeal.main_arg3) = Layout.block ⟨2, ![2048, 2048]⟩ ⟨2, ![16384, 2048]⟩ 0 8 c (m' (((0 : Dev Cert.LossRefIdeal.nD).tc : Thread Cert.LossRefIdeal.nD Cert.LossRefIdeal.τ).loc Cert.LossRefIdeal.main_arg3))) →
    ∃ (v0 : Buf (Elt Ideal) (((0 : Dev Cert.LossRefIdeal.nD).tc : Thread Cert.LossRefIdeal.nD Cert.LossRefIdeal.τ).loc Cert.LossRefIdeal.main_v21)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v21) = v0
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1)
          ∧ r.2.mem (((0 : Dev Cert.LossRefIdeal.nD).tc : Thread Cert.LossRefIdeal.nD Cert.LossRefIdeal.τ).loc Cert.LossRefIdeal.main_arg2) = m' (((0 : Dev Cert.LossRefIdeal.nD).tc : Thread Cert.LossRefIdeal.nD Cert.LossRefIdeal.τ).loc Cert.LossRefIdeal.main_arg2)
          ∧ r.2.mem (((0 : Dev Cert.LossRefIdeal.nD).tc : Thread Cert.LossRefIdeal.nD Cert.LossRefIdeal.τ).loc Cert.LossRefIdeal.main_arg3) = m' (((0 : Dev Cert.LossRefIdeal.nD).tc : Thread Cert.LossRefIdeal.nD Cert.LossRefIdeal.τ).loc Cert.LossRefIdeal.main_arg3))

def preserves_PutColumns_PutColumnsIdeal : Prop :=
  True

def algebraic_PutColumnsIdeal_PutColumnsRefIdeal [hPutColumnsIdeal : Cert.PutColumnsIdeal.Facts] [hPutColumnsRefIdeal : Cert.PutColumnsRefIdeal.Facts] : Prop :=
  ∀ (m : (ℓ : Loc Cert.PutColumnsIdeal.nD Cert.PutColumnsIdeal.τ Cert.PutColumnsIdeal.sig) → Buf (Elt Ideal) ℓ) (g : Dev Cert.PutColumnsIdeal.nD → PrngReg)
    (m' : (ℓ : Loc Cert.PutColumnsRefIdeal.nD Cert.PutColumnsRefIdeal.τ Cert.PutColumnsRefIdeal.sig) → Buf (Elt Ideal) ℓ) (g' : Dev Cert.PutColumnsRefIdeal.nD → PrngReg), Pre_PutColumnsIdeal m →
    (∀ c : Dev Cert.PutColumnsIdeal.nD,
      m' ((c.tc : Thread Cert.PutColumnsRefIdeal.nD Cert.PutColumnsRefIdeal.τ).loc Cert.PutColumnsRefIdeal.main_arg0) = m ((c.tc : Thread Cert.PutColumnsIdeal.nD Cert.PutColumnsIdeal.τ).loc Cert.PutColumnsIdeal.main_arg0)
      ∧ m' ((c.tc : Thread Cert.PutColumnsRefIdeal.nD Cert.PutColumnsRefIdeal.τ).loc Cert.PutColumnsRefIdeal.main_arg1) = m ((c.tc : Thread Cert.PutColumnsIdeal.nD Cert.PutColumnsIdeal.τ).loc Cert.PutColumnsIdeal.main_arg1)
      ∧ m' ((c.tc : Thread Cert.PutColumnsRefIdeal.nD Cert.PutColumnsRefIdeal.τ).loc Cert.PutColumnsRefIdeal.main_arg2) = m ((c.tc : Thread Cert.PutColumnsIdeal.nD Cert.PutColumnsIdeal.τ).loc Cert.PutColumnsIdeal.main_arg2)
      ∧ m' ((c.tc : Thread Cert.PutColumnsRefIdeal.nD Cert.PutColumnsRefIdeal.τ).loc Cert.PutColumnsRefIdeal.main_arg3) = m ((c.tc : Thread Cert.PutColumnsIdeal.nD Cert.PutColumnsIdeal.τ).loc Cert.PutColumnsIdeal.main_arg3)
      ∧ m' ((c.tc : Thread Cert.PutColumnsRefIdeal.nD Cert.PutColumnsRefIdeal.τ).loc Cert.PutColumnsRefIdeal.main_arg4) = m ((c.tc : Thread Cert.PutColumnsIdeal.nD Cert.PutColumnsIdeal.τ).loc Cert.PutColumnsIdeal.main_arg4)
      ∧ m' ((c.tc : Thread Cert.PutColumnsRefIdeal.nD Cert.PutColumnsRefIdeal.τ).loc Cert.PutColumnsRefIdeal.main_arg5) = m ((c.tc : Thread Cert.PutColumnsIdeal.nD Cert.PutColumnsIdeal.τ).loc Cert.PutColumnsIdeal.main_arg5)) →
    ∃ (v0 : (c : Dev Cert.PutColumnsIdeal.nD) → Buf (Elt Ideal) ((c.tc : Thread Cert.PutColumnsIdeal.nD Cert.PutColumnsIdeal.τ).loc Cert.PutColumnsIdeal.main_v0)),
      θ_run (Cert.PutColumnsIdeal.defs (F := Ideal)) (onTc (τ := Cert.PutColumnsIdeal.τ) (Cert.PutColumnsIdeal.main (F := Ideal))) ⟨m, fun _ => 0, g⟩ (fun r => ∀ c : Dev Cert.PutColumnsIdeal.nD,
          r.2.mem ((c.tc : Thread Cert.PutColumnsIdeal.nD Cert.PutColumnsIdeal.τ).loc Cert.PutColumnsIdeal.main_v0) = v0 c
          ∧ r.2.mem ((c.tc : Thread Cert.PutColumnsIdeal.nD Cert.PutColumnsIdeal.τ).loc Cert.PutColumnsIdeal.main_arg0) = m ((c.tc : Thread Cert.PutColumnsIdeal.nD Cert.PutColumnsIdeal.τ).loc Cert.PutColumnsIdeal.main_arg0)
          ∧ r.2.mem ((c.tc : Thread Cert.PutColumnsIdeal.nD Cert.PutColumnsIdeal.τ).loc Cert.PutColumnsIdeal.main_arg1) = m ((c.tc : Thread Cert.PutColumnsIdeal.nD Cert.PutColumnsIdeal.τ).loc Cert.PutColumnsIdeal.main_arg1)
          ∧ r.2.mem ((c.tc : Thread Cert.PutColumnsIdeal.nD Cert.PutColumnsIdeal.τ).loc Cert.PutColumnsIdeal.main_arg2) = m ((c.tc : Thread Cert.PutColumnsIdeal.nD Cert.PutColumnsIdeal.τ).loc Cert.PutColumnsIdeal.main_arg2)
          ∧ r.2.mem ((c.tc : Thread Cert.PutColumnsIdeal.nD Cert.PutColumnsIdeal.τ).loc Cert.PutColumnsIdeal.main_arg3) = m ((c.tc : Thread Cert.PutColumnsIdeal.nD Cert.PutColumnsIdeal.τ).loc Cert.PutColumnsIdeal.main_arg3)
          ∧ r.2.mem ((c.tc : Thread Cert.PutColumnsIdeal.nD Cert.PutColumnsIdeal.τ).loc Cert.PutColumnsIdeal.main_arg4) = m ((c.tc : Thread Cert.PutColumnsIdeal.nD Cert.PutColumnsIdeal.τ).loc Cert.PutColumnsIdeal.main_arg4)
          ∧ r.2.mem ((c.tc : Thread Cert.PutColumnsIdeal.nD Cert.PutColumnsIdeal.τ).loc Cert.PutColumnsIdeal.main_arg5) = m ((c.tc : Thread Cert.PutColumnsIdeal.nD Cert.PutColumnsIdeal.τ).loc Cert.PutColumnsIdeal.main_arg5))
      ∧ θ_run (Cert.PutColumnsRefIdeal.defs (F := Ideal)) (onTc (τ := Cert.PutColumnsRefIdeal.τ) (Cert.PutColumnsRefIdeal.main (F := Ideal))) ⟨m', fun _ => 0, g'⟩ (fun r => ∀ c : Dev Cert.PutColumnsRefIdeal.nD,
          r.2.mem ((c.tc : Thread Cert.PutColumnsRefIdeal.nD Cert.PutColumnsRefIdeal.τ).loc Cert.PutColumnsRefIdeal.main_v2) = v0 c
          ∧ r.2.mem ((c.tc : Thread Cert.PutColumnsRefIdeal.nD Cert.PutColumnsRefIdeal.τ).loc Cert.PutColumnsRefIdeal.main_arg0) = m' ((c.tc : Thread Cert.PutColumnsRefIdeal.nD Cert.PutColumnsRefIdeal.τ).loc Cert.PutColumnsRefIdeal.main_arg0)
          ∧ r.2.mem ((c.tc : Thread Cert.PutColumnsRefIdeal.nD Cert.PutColumnsRefIdeal.τ).loc Cert.PutColumnsRefIdeal.main_arg1) = m' ((c.tc : Thread Cert.PutColumnsRefIdeal.nD Cert.PutColumnsRefIdeal.τ).loc Cert.PutColumnsRefIdeal.main_arg1)
          ∧ r.2.mem ((c.tc : Thread Cert.PutColumnsRefIdeal.nD Cert.PutColumnsRefIdeal.τ).loc Cert.PutColumnsRefIdeal.main_arg2) = m' ((c.tc : Thread Cert.PutColumnsRefIdeal.nD Cert.PutColumnsRefIdeal.τ).loc Cert.PutColumnsRefIdeal.main_arg2)
          ∧ r.2.mem ((c.tc : Thread Cert.PutColumnsRefIdeal.nD Cert.PutColumnsRefIdeal.τ).loc Cert.PutColumnsRefIdeal.main_arg3) = m' ((c.tc : Thread Cert.PutColumnsRefIdeal.nD Cert.PutColumnsRefIdeal.τ).loc Cert.PutColumnsRefIdeal.main_arg3)
          ∧ r.2.mem ((c.tc : Thread Cert.PutColumnsRefIdeal.nD Cert.PutColumnsRefIdeal.τ).loc Cert.PutColumnsRefIdeal.main_arg4) = m' ((c.tc : Thread Cert.PutColumnsRefIdeal.nD Cert.PutColumnsRefIdeal.τ).loc Cert.PutColumnsRefIdeal.main_arg4)
          ∧ r.2.mem ((c.tc : Thread Cert.PutColumnsRefIdeal.nD Cert.PutColumnsRefIdeal.τ).loc Cert.PutColumnsRefIdeal.main_arg5) = m' ((c.tc : Thread Cert.PutColumnsRefIdeal.nD Cert.PutColumnsRefIdeal.τ).loc Cert.PutColumnsRefIdeal.main_arg5))

def Claim : Prop :=
  ∃ (hMergeBwd : Cert.MergeBwd.Facts) (hMergeBwdIdeal : Cert.MergeBwdIdeal.Facts) (hMergeBwdRefIdeal : Cert.MergeBwdRefIdeal.Facts) (hDUp : Cert.DUp.Facts) (hDUpIdeal : Cert.DUpIdeal.Facts) (hDUpRefIdeal : Cert.DUpRefIdeal.Facts) (hDWDown : Cert.DWDown.Facts) (hDWDownIdeal : Cert.DWDownIdeal.Facts) (hDWDownRefIdeal : Cert.DWDownRefIdeal.Facts) (hDWUp : Cert.DWUp.Facts) (hDWUpIdeal : Cert.DWUpIdeal.Facts) (hDWUpRefIdeal : Cert.DWUpRefIdeal.Facts) (hDWO : Cert.DWO.Facts) (hDWOIdeal : Cert.DWOIdeal.Facts) (hDWORefIdeal : Cert.DWORefIdeal.Facts) (hDProjA : Cert.DProjA.Facts) (hDProjAIdeal : Cert.DProjAIdeal.Facts) (hDProjARefIdeal : Cert.DProjARefIdeal.Facts) (hDProjB : Cert.DProjB.Facts) (hDProjBIdeal : Cert.DProjBIdeal.Facts) (hDProjBRefIdeal : Cert.DProjBRefIdeal.Facts) (hDProjC : Cert.DProjC.Facts) (hDProjCIdeal : Cert.DProjCIdeal.Facts) (hDProjCRefIdeal : Cert.DProjCRefIdeal.Facts) (hDWIn : Cert.DWIn.Facts) (hDWInIdeal : Cert.DWInIdeal.Facts) (hDWInRefIdeal : Cert.DWInRefIdeal.Facts) (hDMerged : Cert.DMerged.Facts) (hDMergedIdeal : Cert.DMergedIdeal.Facts) (hDMergedRefIdeal : Cert.DMergedRefIdeal.Facts) (hDGa : Cert.DGa.Facts) (hDGaIdeal : Cert.DGaIdeal.Facts) (hDGaRefIdeal : Cert.DGaRefIdeal.Facts) (hDAttn : Cert.DAttn.Facts) (hDAttnIdeal : Cert.DAttnIdeal.Facts) (hDAttnRefIdeal : Cert.DAttnRefIdeal.Facts) (hDU2 : Cert.DU2.Facts) (hDU2Ideal : Cert.DU2Ideal.Facts) (hDU2RefIdeal : Cert.DU2RefIdeal.Facts) (hFwdIn : Cert.FwdIn.Facts) (hFwdInIdeal : Cert.FwdInIdeal.Facts) (hFwdInRefIdeal : Cert.FwdInRefIdeal.Facts) (hFwdUp : Cert.FwdUp.Facts) (hFwdUpIdeal : Cert.FwdUpIdeal.Facts) (hFwdUpRefIdeal : Cert.FwdUpRefIdeal.Facts) (hFwdDown : Cert.FwdDown.Facts) (hFwdDownIdeal : Cert.FwdDownIdeal.Facts) (hFwdDownRefIdeal : Cert.FwdDownRefIdeal.Facts) (hMergeFwd : Cert.MergeFwd.Facts) (hMergeFwdIdeal : Cert.MergeFwdIdeal.Facts) (hMergeFwdRefIdeal : Cert.MergeFwdRefIdeal.Facts) (hPreBwd : Cert.PreBwd.Facts) (hPreBwdIdeal : Cert.PreBwdIdeal.Facts) (hPreBwdRefIdeal : Cert.PreBwdRefIdeal.Facts) (hPostBwd : Cert.PostBwd.Facts) (hPostBwdIdeal : Cert.PostBwdIdeal.Facts) (hPostBwdRefIdeal : Cert.PostBwdRefIdeal.Facts) (hRmsFirst : Cert.RmsFirst.Facts) (hRmsFirstIdeal : Cert.RmsFirstIdeal.Facts) (hRmsFirstRefIdeal : Cert.RmsFirstRefIdeal.Facts) (hResidual : Cert.Residual.Facts) (hResidualIdeal : Cert.ResidualIdeal.Facts) (hResidualRefIdeal : Cert.ResidualRefIdeal.Facts) (hLossHead : Cert.LossHead.Facts) (hLossHeadIdeal : Cert.LossHeadIdeal.Facts) (hLossHeadRefIdeal : Cert.LossHeadRefIdeal.Facts) (hCfNormFwd : Cert.CfNormFwd.Facts) (hCfNormFwdIdeal : Cert.CfNormFwdIdeal.Facts) (hCfNormFwdRefIdeal : Cert.CfNormFwdRefIdeal.Facts) (hScFwd : Cert.ScFwd.Facts) (hScFwdIdeal : Cert.ScFwdIdeal.Facts) (hScFwdRefIdeal : Cert.ScFwdRefIdeal.Facts) (hAdamWIn : Cert.AdamWIn.Facts) (hAdamWInIdeal : Cert.AdamWInIdeal.Facts) (hAdamWInRefIdeal : Cert.AdamWInRefIdeal.Facts) (hAdamProjA : Cert.AdamProjA.Facts) (hAdamProjAIdeal : Cert.AdamProjAIdeal.Facts) (hAdamProjARefIdeal : Cert.AdamProjARefIdeal.Facts) (hAdamProjB : Cert.AdamProjB.Facts) (hAdamProjBIdeal : Cert.AdamProjBIdeal.Facts) (hAdamProjBRefIdeal : Cert.AdamProjBRefIdeal.Facts) (hAdamWO : Cert.AdamWO.Facts) (hAdamWOIdeal : Cert.AdamWOIdeal.Facts) (hAdamWORefIdeal : Cert.AdamWORefIdeal.Facts) (hAdamMlp : Cert.AdamMlp.Facts) (hAdamMlpIdeal : Cert.AdamMlpIdeal.Facts) (hAdamMlpRefIdeal : Cert.AdamMlpRefIdeal.Facts) (hAdamSmall : Cert.AdamSmall.Facts) (hAdamSmallIdeal : Cert.AdamSmallIdeal.Facts) (hAdamSmallRefIdeal : Cert.AdamSmallRefIdeal.Facts) (hSumSlots : Cert.SumSlots.Facts) (hSumSlotsIdeal : Cert.SumSlotsIdeal.Facts) (hSumSlotsRefIdeal : Cert.SumSlotsRefIdeal.Facts) (hLoss : Cert.Loss.Facts) (hLossIdeal : Cert.LossIdeal.Facts) (hLossRefIdeal : Cert.LossRefIdeal.Facts) (hPutColumns : Cert.PutColumns.Facts) (hPutColumnsIdeal : Cert.PutColumnsIdeal.Facts) (hPutColumnsRefIdeal : Cert.PutColumnsRefIdeal.Facts) (hOn_gate_columns : Cert.On_gate_columns.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_DUp (hDUp := hDUp)
    ∧ quiescent_DUpIdeal (hDUpIdeal := hDUpIdeal)
    ∧ quiescent_DUpRefIdeal (hDUpRefIdeal := hDUpRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DWUp (hDWUp := hDWUp)
    ∧ quiescent_DWUpIdeal (hDWUpIdeal := hDWUpIdeal)
    ∧ quiescent_DWUpRefIdeal (hDWUpRefIdeal := hDWUpRefIdeal)
    ∧ quiescent_DWO (hDWO := hDWO)
    ∧ quiescent_DWOIdeal (hDWOIdeal := hDWOIdeal)
    ∧ quiescent_DWORefIdeal (hDWORefIdeal := hDWORefIdeal)
    ∧ quiescent_DProjA (hDProjA := hDProjA)
    ∧ quiescent_DProjAIdeal (hDProjAIdeal := hDProjAIdeal)
    ∧ quiescent_DProjARefIdeal (hDProjARefIdeal := hDProjARefIdeal)
    ∧ quiescent_DProjB (hDProjB := hDProjB)
    ∧ quiescent_DProjBIdeal (hDProjBIdeal := hDProjBIdeal)
    ∧ quiescent_DProjBRefIdeal (hDProjBRefIdeal := hDProjBRefIdeal)
    ∧ quiescent_DProjC (hDProjC := hDProjC)
    ∧ quiescent_DProjCIdeal (hDProjCIdeal := hDProjCIdeal)
    ∧ quiescent_DProjCRefIdeal (hDProjCRefIdeal := hDProjCRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DGa (hDGa := hDGa)
    ∧ quiescent_DGaIdeal (hDGaIdeal := hDGaIdeal)
    ∧ quiescent_DGaRefIdeal (hDGaRefIdeal := hDGaRefIdeal)
    ∧ quiescent_DAttn (hDAttn := hDAttn)
    ∧ quiescent_DAttnIdeal (hDAttnIdeal := hDAttnIdeal)
    ∧ quiescent_DAttnRefIdeal (hDAttnRefIdeal := hDAttnRefIdeal)
    ∧ quiescent_DU2 (hDU2 := hDU2)
    ∧ quiescent_DU2Ideal (hDU2Ideal := hDU2Ideal)
    ∧ quiescent_DU2RefIdeal (hDU2RefIdeal := hDU2RefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdUp (hFwdUp := hFwdUp)
    ∧ quiescent_FwdUpIdeal (hFwdUpIdeal := hFwdUpIdeal)
    ∧ quiescent_FwdUpRefIdeal (hFwdUpRefIdeal := hFwdUpRefIdeal)
    ∧ quiescent_FwdDown (hFwdDown := hFwdDown)
    ∧ quiescent_FwdDownIdeal (hFwdDownIdeal := hFwdDownIdeal)
    ∧ quiescent_FwdDownRefIdeal (hFwdDownRefIdeal := hFwdDownRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_RmsFirst (hRmsFirst := hRmsFirst)
    ∧ quiescent_RmsFirstIdeal (hRmsFirstIdeal := hRmsFirstIdeal)
    ∧ quiescent_RmsFirstRefIdeal (hRmsFirstRefIdeal := hRmsFirstRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_CfNormFwd (hCfNormFwd := hCfNormFwd)
    ∧ quiescent_CfNormFwdIdeal (hCfNormFwdIdeal := hCfNormFwdIdeal)
    ∧ quiescent_CfNormFwdRefIdeal (hCfNormFwdRefIdeal := hCfNormFwdRefIdeal)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamProjA (hAdamProjA := hAdamProjA)
    ∧ quiescent_AdamProjAIdeal (hAdamProjAIdeal := hAdamProjAIdeal)
    ∧ quiescent_AdamProjARefIdeal (hAdamProjARefIdeal := hAdamProjARefIdeal)
    ∧ quiescent_AdamProjB (hAdamProjB := hAdamProjB)
    ∧ quiescent_AdamProjBIdeal (hAdamProjBIdeal := hAdamProjBIdeal)
    ∧ quiescent_AdamProjBRefIdeal (hAdamProjBRefIdeal := hAdamProjBRefIdeal)
    ∧ quiescent_AdamWO (hAdamWO := hAdamWO)
    ∧ quiescent_AdamWOIdeal (hAdamWOIdeal := hAdamWOIdeal)
    ∧ quiescent_AdamWORefIdeal (hAdamWORefIdeal := hAdamWORefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_Loss (hLoss := hLoss)
    ∧ quiescent_LossIdeal (hLossIdeal := hLossIdeal)
    ∧ quiescent_LossRefIdeal (hLossRefIdeal := hLossRefIdeal)
    ∧ quiescent_PutColumns (hPutColumns := hPutColumns)
    ∧ quiescent_PutColumnsIdeal (hPutColumnsIdeal := hPutColumnsIdeal)
    ∧ quiescent_PutColumnsRefIdeal (hPutColumnsRefIdeal := hPutColumnsRefIdeal)
    ∧ preserves_MergeBwd_MergeBwdIdeal
    ∧ algebraic_MergeBwdIdeal_MergeBwdRefIdeal_on_gate_columns (hMergeBwdIdeal := hMergeBwdIdeal) (hMergeBwdRefIdeal := hMergeBwdRefIdeal) (hOn_gate_columns := hOn_gate_columns)
    ∧ preserves_DUp_DUpIdeal
    ∧ algebraic_DUpIdeal_DUpRefIdeal (hDUpIdeal := hDUpIdeal) (hDUpRefIdeal := hDUpRefIdeal)
    ∧ preserves_DWDown_DWDownIdeal
    ∧ algebraic_DWDownIdeal_DWDownRefIdeal (hDWDownIdeal := hDWDownIdeal) (hDWDownRefIdeal := hDWDownRefIdeal)
    ∧ preserves_DWUp_DWUpIdeal
    ∧ algebraic_DWUpIdeal_DWUpRefIdeal (hDWUpIdeal := hDWUpIdeal) (hDWUpRefIdeal := hDWUpRefIdeal)
    ∧ preserves_DWO_DWOIdeal
    ∧ algebraic_DWOIdeal_DWORefIdeal (hDWOIdeal := hDWOIdeal) (hDWORefIdeal := hDWORefIdeal)
    ∧ preserves_DProjA_DProjAIdeal
    ∧ algebraic_DProjAIdeal_DProjARefIdeal (hDProjAIdeal := hDProjAIdeal) (hDProjARefIdeal := hDProjARefIdeal)
    ∧ preserves_DProjB_DProjBIdeal
    ∧ algebraic_DProjBIdeal_DProjBRefIdeal (hDProjBIdeal := hDProjBIdeal) (hDProjBRefIdeal := hDProjBRefIdeal)
    ∧ preserves_DProjC_DProjCIdeal
    ∧ algebraic_DProjCIdeal_DProjCRefIdeal (hDProjCIdeal := hDProjCIdeal) (hDProjCRefIdeal := hDProjCRefIdeal)
    ∧ preserves_DWIn_DWInIdeal
    ∧ algebraic_DWInIdeal_DWInRefIdeal (hDWInIdeal := hDWInIdeal) (hDWInRefIdeal := hDWInRefIdeal)
    ∧ preserves_DMerged_DMergedIdeal
    ∧ algebraic_DMergedIdeal_DMergedRefIdeal (hDMergedIdeal := hDMergedIdeal) (hDMergedRefIdeal := hDMergedRefIdeal)
    ∧ preserves_DGa_DGaIdeal
    ∧ algebraic_DGaIdeal_DGaRefIdeal (hDGaIdeal := hDGaIdeal) (hDGaRefIdeal := hDGaRefIdeal)
    ∧ preserves_DAttn_DAttnIdeal
    ∧ algebraic_DAttnIdeal_DAttnRefIdeal (hDAttnIdeal := hDAttnIdeal) (hDAttnRefIdeal := hDAttnRefIdeal)
    ∧ preserves_DU2_DU2Ideal
    ∧ algebraic_DU2Ideal_DU2RefIdeal (hDU2Ideal := hDU2Ideal) (hDU2RefIdeal := hDU2RefIdeal)
    ∧ preserves_FwdIn_FwdInIdeal
    ∧ algebraic_FwdInIdeal_FwdInRefIdeal (hFwdInIdeal := hFwdInIdeal) (hFwdInRefIdeal := hFwdInRefIdeal)
    ∧ preserves_FwdUp_FwdUpIdeal
    ∧ algebraic_FwdUpIdeal_FwdUpRefIdeal (hFwdUpIdeal := hFwdUpIdeal) (hFwdUpRefIdeal := hFwdUpRefIdeal)
    ∧ preserves_FwdDown_FwdDownIdeal
    ∧ algebraic_FwdDownIdeal_FwdDownRefIdeal (hFwdDownIdeal := hFwdDownIdeal) (hFwdDownRefIdeal := hFwdDownRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PreBwd_PreBwdIdeal
    ∧ algebraic_PreBwdIdeal_PreBwdRefIdeal (hPreBwdIdeal := hPreBwdIdeal) (hPreBwdRefIdeal := hPreBwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_RmsFirst_RmsFirstIdeal
    ∧ algebraic_RmsFirstIdeal_RmsFirstRefIdeal (hRmsFirstIdeal := hRmsFirstIdeal) (hRmsFirstRefIdeal := hRmsFirstRefIdeal)
    ∧ preserves_Residual_ResidualIdeal
    ∧ algebraic_ResidualIdeal_ResidualRefIdeal (hResidualIdeal := hResidualIdeal) (hResidualRefIdeal := hResidualRefIdeal)
    ∧ preserves_LossHead_LossHeadIdeal
    ∧ algebraic_LossHeadIdeal_LossHeadRefIdeal (hLossHeadIdeal := hLossHeadIdeal) (hLossHeadRefIdeal := hLossHeadRefIdeal)
    ∧ preserves_CfNormFwd_CfNormFwdIdeal
    ∧ algebraic_CfNormFwdIdeal_CfNormFwdRefIdeal (hCfNormFwdIdeal := hCfNormFwdIdeal) (hCfNormFwdRefIdeal := hCfNormFwdRefIdeal)
    ∧ preserves_ScFwd_ScFwdIdeal
    ∧ algebraic_ScFwdIdeal_ScFwdRefIdeal (hScFwdIdeal := hScFwdIdeal) (hScFwdRefIdeal := hScFwdRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamProjA_AdamProjAIdeal
    ∧ algebraic_AdamProjAIdeal_AdamProjARefIdeal (hAdamProjAIdeal := hAdamProjAIdeal) (hAdamProjARefIdeal := hAdamProjARefIdeal)
    ∧ preserves_AdamProjB_AdamProjBIdeal
    ∧ algebraic_AdamProjBIdeal_AdamProjBRefIdeal (hAdamProjBIdeal := hAdamProjBIdeal) (hAdamProjBRefIdeal := hAdamProjBRefIdeal)
    ∧ preserves_AdamWO_AdamWOIdeal
    ∧ algebraic_AdamWOIdeal_AdamWORefIdeal (hAdamWOIdeal := hAdamWOIdeal) (hAdamWORefIdeal := hAdamWORefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_Loss_LossIdeal
    ∧ algebraic_LossIdeal_LossRefIdeal (hLossIdeal := hLossIdeal) (hLossRefIdeal := hLossRefIdeal)
    ∧ preserves_PutColumns_PutColumnsIdeal
    ∧ algebraic_PutColumnsIdeal_PutColumnsRefIdeal (hPutColumnsIdeal := hPutColumnsIdeal) (hPutColumnsRefIdeal := hPutColumnsRefIdeal)
-- ==== On_gate_columns.lean ====
abbrev S2048x2048 : Shape := ⟨2, ![2048, 2048]⟩
abbrev S3x2048x2048 : Shape := ⟨3, ![3, 2048, 2048]⟩
abbrev S2048x11776 : Shape := ⟨2, ![2048, 11776]⟩
abbrev S_ : Shape := ⟨0, ![]⟩

class Facts : Prop where
  bcast_S_S3x2048x2048 : S_.BroadcastsInDim S3x2048x2048 (![] : Fin 0 → Fin S3x2048x2048.rank)
  bcast_S_S2048x11776 : S_.BroadcastsInDim S2048x11776 (![] : Fin 0 → Fin S2048x11776.rank)

variable [Facts]

def fn {F : FTy → Type} [FloatOps F] (main_arg0 : FVec F S2048x2048 .f32) (main_arg1 : FVec F S3x2048x2048 .bf16) (main_arg2 : FVec F S2048x11776 .bf16) : IVec S3x2048x2048 1 × IVec S2048x11776 1 :=
  let main_v0 : IVec S2048x11776 32 := iotaInDim S2048x11776 32 1
  let main_c : IVec S_ 1 := constantI S_ 1 1#1
  let main_v1 : IVec S3x2048x2048 1 := broadcastInDim S3x2048x2048 ![] bcast_S_S3x2048x2048 main_c
  let main_c_0 : IVec S_ 32 := constantI S_ 32 5632#32
  let main_v2 : IVec S2048x11776 32 := broadcastInDim S2048x11776 ![] bcast_S_S2048x11776 main_c_0
  let main_v3 : IVec S2048x11776 1 := cmpi .sge main_v0 main_v2
  (main_v1, main_v3)
-- ==== MergeBwd.lean ====
abbrev S2048x2048 : Shape := ⟨2, ![2048, 2048]⟩
abbrev S3x2048x2048 : Shape := ⟨3, ![3, 2048, 2048]⟩
abbrev S2048x11776 : Shape := ⟨2, ![2048, 11776]⟩
abbrev S1024x512 : Shape := ⟨2, ![1024, 512]⟩
abbrev S1x1024x512 : Shape := ⟨3, ![1, 1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x11776, .bf16⟩
  | .hbm, ⟨3, _⟩ => ⟨S3x2048x2048, .bf16⟩
  | .hbm, ⟨4, _⟩ => ⟨S2048x11776, .bf16⟩
  | .local _ .vmem, ⟨0, _⟩ => ⟨S1024x512, .f32⟩
  | .local _ .vmem, ⟨1, _⟩ => ⟨S1024x512, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x512, .bf16⟩
  | .local _ .vmem, ⟨9, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c11_i32 : BitVec 32 := 11#32
  let v1 : BitVec 32 := Scalar.addi c11_i32 v0
  let v2 : BitVec 32 := Scalar.addi v1 arg1
  let c0_i32 : BitVec 32 := 0#32
  ![arg0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c11_i32 : BitVec 32 := 11#32
  let v1 : BitVec 32 := Scalar.addi c11_i32 v0
  let v2 : BitVec 32 := Scalar.addi v1 arg1
  let c0_i32 : BitVec 32 := 0#32
  ![arg0.toNat, v2.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MergeBwdRefIdeal.lean ====
abbrev S2048x2048 : Shape := ⟨2, ![2048, 2048]⟩
abbrev S3x2048x2048 : Shape := ⟨3, ![3, 2048, 2048]⟩
abbrev S2048x11776 : Shape := ⟨2, ![2048, 11776]⟩
abbrev S2048x6144 : Shape := ⟨2, ![2048, 6144]⟩
abbrev S2048x3x2048 : Shape := ⟨3, ![2048, 3, 2048]⟩
abbrev S_ : Shape := ⟨0, ![]⟩
abbrev S2048x5632 : Shape := ⟨2, ![2048, 5632]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x11776, .bf16⟩
  | .hbm, ⟨3, _⟩ => ⟨S2048x6144, .bf16⟩
  | .hbm, ⟨4, _⟩ => ⟨S2048x6144, .f32⟩
  | .hbm, ⟨5, _⟩ => ⟨S2048x3x2048, .f32⟩
  | .hbm, ⟨6, _⟩ => ⟨S3x2048x2048, .f32⟩
  | .hbm, ⟨7, _⟩ => ⟨S3x2048x2048, .f32⟩
  | .hbm, ⟨8, _⟩ => ⟨S3x2048x2048, .f32⟩
  | .hbm, ⟨9, _⟩ => ⟨S3x2048x2048, .f32⟩
  | .hbm, ⟨10, _⟩ => ⟨S_, .f32⟩
  | .hbm, ⟨11, _⟩ => ⟨S3x2048x2048, .f32⟩
  | .hbm, ⟨12, _⟩ => ⟨S3x2048x2048, .f32⟩
  | .hbm, ⟨13, _⟩ => ⟨S_, .f32⟩
  | .hbm, ⟨14, _⟩ => ⟨S3x2048x2048, .f32⟩
  | .hbm, ⟨15, _⟩ => ⟨S3x2048x2048, .f32⟩
  | .hbm, ⟨16, _⟩ => ⟨S_, .f32⟩
  | .hbm, ⟨17, _⟩ => ⟨S3x2048x2048, .f32⟩
  | .hbm, ⟨18, _⟩ => ⟨S3x2048x2048, .f32⟩
  | .hbm, ⟨19, _⟩ => ⟨S3x2048x2048, .f32⟩
  | .hbm, ⟨20, _⟩ => ⟨S3x2048x2048, .f32⟩
  | .hbm, ⟨21, _⟩ => ⟨S_, .f32⟩
  | .hbm, ⟨22, _⟩ => ⟨S2048x2048, .f32⟩
  | .hbm, ⟨23, _⟩ => ⟨S3x2048x2048, .f32⟩
  | .hbm, ⟨24, _⟩ => ⟨S3x2048x2048, .f32⟩
  | .hbm, ⟨25, _⟩ => ⟨S3x2048x2048, .f32⟩
  | .hbm, ⟨26, _⟩ => ⟨S3x2048x2048, .f32⟩
  | .hbm, ⟨27, _⟩ => ⟨S2048x3x2048, .f32⟩
  | .hbm, ⟨28, _⟩ => ⟨S2048x6144, .f32⟩
  | .hbm, ⟨29, _⟩ => ⟨S2048x6144, .bf16⟩
  | .hbm, ⟨30, _⟩ => ⟨S3x2048x2048, .bf16⟩
  | .hbm, ⟨31, _⟩ => ⟨S_, .bf16⟩
  | .hbm, ⟨32, _⟩ => ⟨S2048x5632, .bf16⟩
  | .hbm, ⟨33, _⟩ => ⟨S2048x11776, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== DUp.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUpRefIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S8192x2048, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DWDown.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWUp.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWUpRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWO.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWORefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DProjA.lean ====
abbrev S2048x512 : Shape := ⟨2, ![2048, 512]⟩
abbrev S3x2048x2048 : Shape := ⟨3, ![3, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S3x2048x2048, .bf16⟩
  | .hbm, ⟨2, _⟩ => ⟨S512x2048, .bf16⟩
  | .local _ .vmem, ⟨0, _⟩ => ⟨S2048x512, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DProjARefIdeal.lean ====
abbrev S2048x512 : Shape := ⟨2, ![2048, 512]⟩
abbrev S3x2048x2048 : Shape := ⟨3, ![3, 2048, 2048]⟩
abbrev S1x2048x2048 : Shape := ⟨3, ![1, 2048, 2048]⟩
abbrev S2048x2048 : Shape := ⟨2, ![2048, 2048]⟩
abbrev S_ : Shape := ⟨0, ![]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S3x2048x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S512x2048, .f32⟩
  | .hbm, ⟨6, _⟩ => ⟨S2048x512, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S512x2048, .f32⟩
  | .hbm, ⟨11, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DProjB.lean ====
abbrev S2048x1024 : Shape := ⟨2, ![2048, 1024]⟩
abbrev S3x2048x2048 : Shape := ⟨3, ![3, 2048, 2048]⟩
abbrev S1024x2048 : Shape := ⟨2, ![1024, 2048]⟩
abbrev S1x2048x1024 : Shape := ⟨3, ![1, 2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3x2048x2048, .bf16⟩
  | .hbm, ⟨2, _⟩ => ⟨S1024x2048, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DProjBRefIdeal.lean ====
abbrev S2048x1024 : Shape := ⟨2, ![2048, 1024]⟩
abbrev S3x2048x2048 : Shape := ⟨3, ![3, 2048, 2048]⟩
abbrev S1x2048x2048 : Shape := ⟨3, ![1, 2048, 2048]⟩
abbrev S2048x2048 : Shape := ⟨2, ![2048, 2048]⟩
abbrev S_ : Shape := ⟨0, ![]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S1024x2048, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DProjC.lean ====
abbrev S2048x512 : Shape := ⟨2, ![2048, 512]⟩
abbrev S3x2048x2048 : Shape := ⟨3, ![3, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S3x2048x2048, .bf16⟩
  | .hbm, ⟨2, _⟩ => ⟨S512x2048, .bf16⟩
  | .local _ .vmem, ⟨0, _⟩ => ⟨S2048x512, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S512x1024, .bf16⟩
  | .local _ .vmem, ⟨4, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DProjCRefIdeal.lean ====
abbrev S2048x512 : Shape := ⟨2, ![2048, 512]⟩
abbrev S3x2048x2048 : Shape := ⟨3, ![3, 2048, 2048]⟩
abbrev S1x2048x2048 : Shape := ⟨3, ![1, 2048, 2048]⟩
abbrev S2048x2048 : Shape := ⟨2, ![2048, 2048]⟩
abbrev S_ : Shape := ⟨0, ![]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S3x2048x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S512x2048, .f32⟩
  | .hbm, ⟨6, _⟩ => ⟨S2048x512, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S512x2048, .f32⟩
  | .hbm, ⟨11, _⟩ => ⟨S512x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DWIn.lean ====
abbrev S2048x2048 : Shape := ⟨2, ![2048, 2048]⟩
abbrev S2048x11776 : Shape := ⟨2, ![2048, 11776]⟩
abbrev S2048x1024 : Shape := ⟨2, ![2048, 1024]⟩
abbrev S2048x2944 : Shape := ⟨2, ![2048, 2944]⟩
abbrev S1024x2944 : Shape := ⟨2, ![1024, 2944]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S2048x11776, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2944, .bf16⟩
  | .local _ .vmem, ⟨3, _⟩ => ⟨S2048x2944, .bf16⟩
  | .local _ .vmem, ⟨4, _⟩ => ⟨S1024x2944, .bf16⟩
  | .local _ .vmem, ⟨5, _⟩ => ⟨S1024x2944, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S2048x2048 : Shape := ⟨2, ![2048, 2048]⟩
abbrev S2048x11776 : Shape := ⟨2, ![2048, 11776]⟩
abbrev S_ : Shape := ⟨0, ![]⟩
abbrev S11776x2048 : Shape := ⟨2, ![11776, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S_, .f32⟩
  | .hbm, ⟨3, _⟩ => ⟨S2048x11776, .f32⟩
  | .hbm, ⟨4, _⟩ => ⟨S2048x2048, .f32⟩
  | .hbm, ⟨5, _⟩ => ⟨S2048x11776, .f32⟩
  | .hbm, ⟨6, _⟩ => ⟨S2048x11776, .f32⟩
  | .hbm, ⟨7, _⟩ => ⟨S11776x2048, .f32⟩
  | .hbm, ⟨8, _⟩ => ⟨S2048x11776, .f32⟩
  | .hbm, ⟨9, _⟩ => ⟨S2048x11776, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMerged.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DGa.lean ====
abbrev S3x2048x2048 : Shape := ⟨3, ![3, 2048, 2048]⟩
abbrev S512x2048 : Shape := ⟨2, ![512, 2048]⟩
abbrev S2048x512 : Shape := ⟨2, ![2048, 512]⟩
abbrev S1x1024x2048 : Shape := ⟨3, ![1, 1024, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S3x2048x2048, .bf16⟩
  | .hbm, ⟨1, _⟩ => ⟨S512x2048, .bf16⟩
  | .hbm, ⟨2, _⟩ => ⟨S2048x512, .f32⟩
  | .local _ .vmem, ⟨0, _⟩ => ⟨S1x1024x2048, .bf16⟩
  | .local _ .vmem, ⟨1, _⟩ => ⟨S1x1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGaRefIdeal.lean ====
abbrev S3x2048x2048 : Shape := ⟨3, ![3, 2048, 2048]⟩
abbrev S512x2048 : Shape := ⟨2, ![512, 2048]⟩
abbrev S1x2048x2048 : Shape := ⟨3, ![1, 2048, 2048]⟩
abbrev S2048x2048 : Shape := ⟨2, ![2048, 2048]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S3x2048x2048, .bf16⟩
  | .hbm, ⟨1, _⟩ => ⟨S512x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S2048x512, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | _, _ => ⟨S3x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAttn.lean ====
abbrev S3x2048x2048 : Shape := ⟨3, ![3, 2048, 2048]⟩
abbrev S1024x2048 : Shape := ⟨2, ![1024, 2048]⟩
abbrev S2048x1024 : Shape := ⟨2, ![2048, 1024]⟩
abbrev S1x1024x2048 : Shape := ⟨3, ![1, 1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S3x2048x2048, .bf16⟩
  | .hbm, ⟨1, _⟩ => ⟨S1024x2048, .bf16⟩
  | .hbm, ⟨2, _⟩ => ⟨S2048x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnRefIdeal.lean ====
abbrev S3x2048x2048 : Shape := ⟨3, ![3, 2048, 2048]⟩
abbrev S1024x2048 : Shape := ⟨2, ![1024, 2048]⟩
abbrev S1x2048x2048 : Shape := ⟨3, ![1, 2048, 2048]⟩
abbrev S2048x2048 : Shape := ⟨2, ![2048, 2048]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S3x2048x2048, .bf16⟩
  | .hbm, ⟨1, _⟩ => ⟨S1024x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S3x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DU2.lean ====
abbrev S3x2048x2048 : Shape := ⟨3, ![3, 2048, 2048]⟩
abbrev S512x2048 : Shape := ⟨2, ![512, 2048]⟩
abbrev S2048x512 : Shape := ⟨2, ![2048, 512]⟩
abbrev S1x1024x2048 : Shape := ⟨3, ![1, 1024, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S3x2048x2048, .bf16⟩
  | .hbm, ⟨1, _⟩ => ⟨S512x2048, .bf16⟩
  | .hbm, ⟨2, _⟩ => ⟨S2048x512, .f32⟩
  | .local _ .vmem, ⟨0, _⟩ => ⟨S1x1024x2048, .bf16⟩
  | .local _ .vmem, ⟨1, _⟩ => ⟨S1x1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU2RefIdeal.lean ====
abbrev S3x2048x2048 : Shape := ⟨3, ![3, 2048, 2048]⟩
abbrev S512x2048 : Shape := ⟨2, ![512, 2048]⟩
abbrev S1x2048x2048 : Shape := ⟨3, ![1, 2048, 2048]⟩
abbrev S2048x2048 : Shape := ⟨2, ![2048, 2048]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S3x2048x2048, .bf16⟩
  | .hbm, ⟨1, _⟩ => ⟨S512x2048, .bf16⟩
  | .hbm, ⟨2, _⟩ => ⟨S1x2048x2048, .bf16⟩
  | .hbm, ⟨3, _⟩ => ⟨S2048x2048, .bf16⟩
  | .hbm, ⟨4, _⟩ => ⟨S_, .f32⟩
  | .hbm, ⟨5, _⟩ => ⟨S2048x512, .f32⟩
  | .hbm, ⟨6, _⟩ => ⟨S512x2048, .f32⟩
  | .hbm, ⟨7, _⟩ => ⟨S2048x2048, .f32⟩
  | .hbm, ⟨8, _⟩ => ⟨S2048x2048, .f32⟩
  | .hbm, ⟨9, _⟩ => ⟨S2048x512, .f32⟩
  | _, _ => ⟨S3x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FwdIn.lean ====
abbrev S2048x2048 : Shape := ⟨2, ![2048, 2048]⟩
abbrev S2048x11776 : Shape := ⟨2, ![2048, 11776]⟩
abbrev S1024x2048 : Shape := ⟨2, ![1024, 2048]⟩
abbrev S2048x2944 : Shape := ⟨2, ![2048, 2944]⟩
abbrev S1024x2944 : Shape := ⟨2, ![1024, 2944]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S2048x11776, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2944, .bf16⟩
  | .local _ .vmem, ⟨3, _⟩ => ⟨S2048x2944, .bf16⟩
  | .local _ .vmem, ⟨4, _⟩ => ⟨S1024x2944, .bf16⟩
  | .local _ .vmem, ⟨5, _⟩ => ⟨S1024x2944, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdInRefIdeal.lean ====
abbrev S2048x2048 : Shape := ⟨2, ![2048, 2048]⟩
abbrev S2048x11776 : Shape := ⟨2, ![2048, 11776]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S2048x2048, .f32⟩
  | .hbm, ⟨3, _⟩ => ⟨S2048x11776, .f32⟩
  | .hbm, ⟨4, _⟩ => ⟨S2048x11776, .f32⟩
  | .hbm, ⟨5, _⟩ => ⟨S2048x11776, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FwdUp.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwdUpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x8192, .bf16⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FwdDown.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FwdDownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeFwd.lean ====
abbrev S2048x512 : Shape := ⟨2, ![2048, 512]⟩
abbrev S2048x1024 : Shape := ⟨2, ![2048, 1024]⟩
abbrev S512x2048 : Shape := ⟨2, ![512, 2048]⟩
abbrev S1024x2048 : Shape := ⟨2, ![1024, 2048]⟩
abbrev S2048x11776 : Shape := ⟨2, ![2048, 11776]⟩
abbrev S3x2048x2048 : Shape := ⟨3, ![3, 2048, 2048]⟩
abbrev S2048x2048 : Shape := ⟨2, ![2048, 2048]⟩
abbrev S1024x512 : Shape := ⟨2, ![1024, 512]⟩
abbrev S1024x1024 : Shape := ⟨2, ![1024, 1024]⟩
abbrev S512x512 : Shape := ⟨2, ![512, 512]⟩
abbrev S3x1024x512 : Shape := ⟨3, ![3, 1024, 512]⟩
abbrev S1x1024x512 : Shape := ⟨3, ![1, 1024, 512]⟩

abbrev nBuf : Space → Nat
  | .hbm => 9
  | .vmem => 22
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x512, .bf16⟩
  | .hbm, ⟨3, _⟩ => ⟨S512x2048, .bf16⟩
  | .hbm, ⟨4, _⟩ => ⟨S1024x2048, .bf16⟩
  | .hbm, ⟨5, _⟩ => ⟨S512x2048, .bf16⟩
  | .hbm, ⟨6, _⟩ => ⟨S2048x11776, .bf16⟩
  | .hbm, ⟨7, _⟩ => ⟨S3x2048x2048, .bf16⟩
  | .hbm, ⟨8, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S3x1024x512, .bf16⟩
  | .local _ .vmem, ⟨19, _⟩ => ⟨S3x1024x512, .bf16⟩
  | .local _ .vmem, ⟨20, _⟩ => ⟨S1024x512, .bf16⟩
  | .local _ .vmem, ⟨21, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeFwdRefIdeal.lean ====
abbrev S2048x512 : Shape := ⟨2, ![2048, 512]⟩
abbrev S2048x1024 : Shape := ⟨2, ![2048, 1024]⟩
abbrev S512x2048 : Shape := ⟨2, ![512, 2048]⟩
abbrev S1024x2048 : Shape := ⟨2, ![1024, 2048]⟩
abbrev S2048x11776 : Shape := ⟨2, ![2048, 11776]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S2048x6144 : Shape := ⟨2, ![2048, 6144]⟩
abbrev S2048x3x2048 : Shape := ⟨3, ![2048, 3, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x512, .bf16⟩
  | .hbm, ⟨3, _⟩ => ⟨S512x2048, .bf16⟩
  | .hbm, ⟨4, _⟩ => ⟨S1024x2048, .bf16⟩
  | .hbm, ⟨5, _⟩ => ⟨S512x2048, .bf16⟩
  | .hbm, ⟨6, _⟩ => ⟨S2048x11776, .bf16⟩
  | .hbm, ⟨7, _⟩ => ⟨S2048x512, .f32⟩
  | .hbm, ⟨8, _⟩ => ⟨S512x2048, .f32⟩
  | .hbm, ⟨9, _⟩ => ⟨S2048x2048, .f32⟩
  | .hbm, ⟨10, _⟩ => ⟨S2048x1024, .f32⟩
  | .hbm, ⟨11, _⟩ => ⟨S1024x2048, .f32⟩
  | .hbm, ⟨12, _⟩ => ⟨S2048x2048, .f32⟩
  | .hbm, ⟨13, _⟩ => ⟨S2048x512, .f32⟩
  | .hbm, ⟨14, _⟩ => ⟨S512x2048, .f32⟩
  | .hbm, ⟨15, _⟩ => ⟨S2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S3x2048x2048, .f32⟩
  | .hbm, ⟨20, _⟩ => ⟨S2048x6144, .bf16⟩
  | .hbm, ⟨21, _⟩ => ⟨S2048x6144, .f32⟩
  | .hbm, ⟨22, _⟩ => ⟨S2048x3x2048, .f32⟩
  | .hbm, ⟨23, _⟩ => ⟨S3x2048x2048, .f32⟩
  | .hbm, ⟨24, _⟩ => ⟨S3x2048x2048, .bf16⟩
  | .hbm, ⟨25, _⟩ => ⟨S3x2048x2048, .f32⟩
  | .hbm, ⟨26, _⟩ => ⟨S3x2048x2048, .f32⟩
  | .hbm, ⟨27, _⟩ => ⟨S_, .f32⟩
  | .hbm, ⟨28, _⟩ => ⟨S3x2048x2048, .f32⟩
  | .hbm, ⟨29, _⟩ => ⟨S3x2048x2048, .f32⟩
  | .hbm, ⟨30, _⟩ => ⟨S_, .f32⟩
  | .hbm, ⟨31, _⟩ => ⟨S3x2048x2048, .f32⟩
  | .hbm, ⟨32, _⟩ => ⟨S3x2048x2048, .f32⟩
  | .hbm, ⟨33, _⟩ => ⟨S3x2048x2048, .f32⟩
  | .hbm, ⟨34, _⟩ => ⟨S_, .f32⟩
  | .hbm, ⟨35, _⟩ => ⟨S2048x2048, .f32⟩
  | .hbm, ⟨36, _⟩ => ⟨S2048x2048, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== PreBwd.lean ====
abbrev S2048x2048 : Shape := ⟨2, ![2048, 2048]⟩
abbrev S4x1x2048 : Shape := ⟨3, ![4, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreBwdRefIdeal.lean ====
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x1x2048, .f32⟩
  | .hbm, ⟨4, _⟩ => ⟨S1x1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== PostBwd.lean ====
abbrev S2048x2048 : Shape := ⟨2, ![2048, 2048]⟩
abbrev S4x1x2048 : Shape := ⟨3, ![4, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S2048x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBwdRefIdeal.lean ====
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S1x1x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== RmsFirst.lean ====
abbrev S2048x2048 : Shape := ⟨2, ![2048, 2048]⟩
abbrev S4x1x2048 : Shape := ⟨3, ![4, 1, 2048]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S4x1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFirstRefIdeal.lean ====
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1x2048, .f32⟩
  | .hbm, ⟨2, _⟩ => ⟨S1x1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Residual.lean ====
abbrev S2048x2048 : Shape := ⟨2, ![2048, 2048]⟩
abbrev S4x1x2048 : Shape := ⟨3, ![4, 1, 2048]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S4x1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidualRefIdeal.lean ====
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S4x1x2048, .f32⟩
  | .hbm, ⟨4, _⟩ => ⟨S1x1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S1x1x2048, .f32⟩
  | .hbm, ⟨23, _⟩ => ⟨S1x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== LossHead.lean ====
abbrev S2048x2048 : Shape := ⟨2, ![2048, 2048]⟩
abbrev S4x1x2048 : Shape := ⟨3, ![4, 1, 2048]⟩
abbrev S8x128 : Shape := ⟨2, ![8, 128]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S2048x2048, .f32⟩
  | .hbm, ⟨4, _⟩ => ⟨S2048x2048, .f32⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S2048x2048 : Shape := ⟨2, ![2048, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S2048x2048, .f32⟩
  | .hbm, ⟨4, _⟩ => ⟨S1x1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== CfNormFwd.lean ====
abbrev S2048x512 : Shape := ⟨2, ![2048, 512]⟩
abbrev S4x1x512 : Shape := ⟨3, ![4, 1, 512]⟩
abbrev S256x512 : Shape := ⟨2, ![256, 512]⟩
abbrev S1x1x512 : Shape := ⟨3, ![1, 1, 512]⟩
abbrev S256 : Shape := ⟨1, ![256]⟩
abbrev S256x1 : Shape := ⟨2, ![256, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S4x1x512, .f32⟩
  | .hbm, ⟨2, _⟩ => ⟨S4x1x512, .f32⟩
  | .hbm, ⟨3, _⟩ => ⟨S2048x512, .bf16⟩
  | .local _ .vmem, ⟨0, _⟩ => ⟨S256x512, .f32⟩
  | .local _ .vmem, ⟨1, _⟩ => ⟨S256x512, .f32⟩
  | .local _ .vmem, ⟨2, _⟩ => ⟨S1x1x512, .f32⟩
  | .local _ .vmem, ⟨3, _⟩ => ⟨S1x1x512, .f32⟩
  | .local _ .vmem, ⟨4, _⟩ => ⟨S256x512, .bf16⟩
  | .local _ .vmem, ⟨5, _⟩ => ⟨S256x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CfNormFwdRefIdeal.lean ====
abbrev S2048x512 : Shape := ⟨2, ![2048, 512]⟩
abbrev S4x1x512 : Shape := ⟨3, ![4, 1, 512]⟩
abbrev S1x1x512 : Shape := ⟨3, ![1, 1, 512]⟩
abbrev S1x512 : Shape := ⟨2, ![1, 512]⟩
abbrev S_ : Shape := ⟨0, ![]⟩
abbrev S2048 : Shape := ⟨1, ![2048]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x1x512, .f32⟩
  | .hbm, ⟨2, _⟩ => ⟨S4x1x512, .f32⟩
  | .hbm, ⟨3, _⟩ => ⟨S1x1x512, .f32⟩
  | .hbm, ⟨4, _⟩ => ⟨S1x512, .f32⟩
  | .hbm, ⟨5, _⟩ => ⟨S1x1x512, .f32⟩
  | .hbm, ⟨6, _⟩ => ⟨S1x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== ScFwd.lean ====
abbrev S2048x11776 : Shape := ⟨2, ![2048, 11776]⟩
abbrev S4x3x512 : Shape := ⟨3, ![4, 3, 512]⟩
abbrev S2048x512 : Shape := ⟨2, ![2048, 512]⟩
abbrev S2048x128 : Shape := ⟨2, ![2048, 128]⟩
abbrev S1x3x128 : Shape := ⟨3, ![1, 3, 128]⟩
abbrev S2112x128 : Shape := ⟨2, ![2112, 128]⟩
abbrev S32x128 : Shape := ⟨2, ![32, 128]⟩
abbrev S1x1x128 : Shape := ⟨3, ![1, 1, 128]⟩
abbrev S1x128 : Shape := ⟨2, ![1, 128]⟩
abbrev S256x128 : Shape := ⟨2, ![256, 128]⟩

abbrev nBuf : Space → Nat
  | .hbm => 3
  | .vmem => 11
  | .smem => 0
  | _ => 0

abbrev bufTy : (tb : Table) → Fin (tcTables nBuf tb) → BufTy
  | .hbm, ⟨0, _⟩ => ⟨S2048x11776, .bf16⟩
  | .hbm, ⟨1, _⟩ => ⟨S4x3x512, .f32⟩
  | .hbm, ⟨2, _⟩ => ⟨S2048x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x3x128, .f32⟩
  | .local _ .vmem, ⟨7, _⟩ => ⟨S1x3x128, .f32⟩
  | .local _ .vmem, ⟨8, _⟩ => ⟨S2048x128, .bf16⟩
  | .local _ .vmem, ⟨9, _⟩ => ⟨S2048x128, .bf16⟩
  | .local _ .vmem, ⟨10, _⟩ => ⟨S2112x128, .f32⟩
  | _, _ => ⟨S2048x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScFwdRefIdeal.lean ====
abbrev S2048x11776 : Shape := ⟨2, ![2048, 11776]⟩
abbrev S4x3x512 : Shape := ⟨3, ![4, 3, 512]⟩
abbrev S2048x512 : Shape := ⟨2, ![2048, 512]⟩
abbrev S1x3x512 : Shape := ⟨3, ![1, 3, 512]⟩
abbrev S3x512 : Shape := ⟨2, ![3, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 39
  | .vmem => 0
  | .smem => 0
  | _ => 0

abbrev bufTy : (tb : Table) → Fin (tcTables nBuf tb) → BufTy
  | .hbm, ⟨0, _⟩ => ⟨S2048x11776, .bf16⟩
  | .hbm, ⟨1, _⟩ => ⟨S4x3x512, .f32⟩
  | .hbm, ⟨2, _⟩ => ⟨S2048x512, .bf16⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x512, .bf16⟩
  | .hbm, ⟨7, _⟩ => ⟨S2048x512, .f32⟩
  | .hbm, ⟨8, _⟩ => ⟨S1x3x512, .f32⟩
  | .hbm, ⟨9, _⟩ => ⟨S3x512, .f32⟩
  | .hbm, ⟨10, _⟩ => ⟨S2048x512, .f32⟩
  | .hbm, ⟨11, _⟩ => ⟨S_, .f32⟩
  | .hbm, ⟨12, _⟩ => ⟨S2x512, .f32⟩
  | .hbm, ⟨13, _⟩ => ⟨S2050x512, .f32⟩
  | .hbm, ⟨14, _⟩ => ⟨S1x512, .f32⟩
  | .hbm, ⟨15, _⟩ => ⟨S512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S1x512, .f32⟩
  | .hbm, ⟨24, _⟩ => ⟨S512, .f32⟩
  | .hbm, ⟨25, _⟩ => ⟨S2048x512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S1x512, .f32⟩
  | .hbm, ⟨31, _⟩ => ⟨S512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .bf16⟩
  | _, _ => ⟨S2048x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== AdamWIn.lean ====
abbrev S8192x2944 : Shape := ⟨2, ![8192, 2944]⟩
abbrev S128x2944 : Shape := ⟨2, ![128, 2944]⟩

abbrev nBuf : Space → Nat
  | .hbm => 8
  | .vmem => 16
  | .smem => 0
  | _ => 0

abbrev bufTy : (tb : Table) → Fin (tcTables nBuf tb) → BufTy
  | .hbm, ⟨0, _⟩ => ⟨S8192x2944, .f32⟩
  | .hbm, ⟨1, _⟩ => ⟨S8192x2944, .f32⟩
  | .hbm, ⟨2, _⟩ => ⟨S8192x2944, .f32⟩
  | .hbm, ⟨3, _⟩ => ⟨S8192x2944, .f32⟩
  | .hbm, ⟨4, _⟩ => ⟨S8192x2944, .f32⟩
  | .hbm, ⟨5, _⟩ => ⟨S8192x2944, .f32⟩
  | .hbm, ⟨6, _⟩ => ⟨S8192x2944, .f32⟩
  | .hbm, ⟨7, _⟩ => ⟨S8192x2944, .f32⟩
  | .local _ .vmem, ⟨0, _⟩ => ⟨S128x2944, .f32⟩
  | .local _ .vmem, ⟨1, _⟩ => ⟨S128x2944, .f32⟩
  | .local _ .vmem, ⟨2, _⟩ => ⟨S128x2944, .f32⟩
  | .local _ .vmem, ⟨3, _⟩ => ⟨S128x2944, .f32⟩
  | .local _ .vmem, ⟨4, _⟩ => ⟨S128x2944, .f32⟩
  | .local _ .vmem, ⟨5, _⟩ => ⟨S128x2944, .f32⟩
  | .local _ .vmem, ⟨6, _⟩ => ⟨S128x2944, .f32⟩
  | .local _ .vmem, ⟨7, _⟩ => ⟨S128x2944, .f32⟩
  | .local _ .vmem, ⟨8, _⟩ => ⟨S128x2944, .f32⟩
  | .local _ .vmem, ⟨9, _⟩ => ⟨S128x2944, .f32⟩
  | .local _ .vmem, ⟨10, _⟩ => ⟨S128x2944, .f32⟩
  | .local _ .vmem, ⟨11, _⟩ => ⟨S128x2944, .f32⟩
  | .local _ .vmem, ⟨12, _⟩ => ⟨S128x2944, .f32⟩
  | .local _ .vmem, ⟨13, _⟩ => ⟨S128x2944, .f32⟩
  | .local _ .vmem, ⟨14, _⟩ => ⟨S128x2944, .f32⟩
  | .local _ .vmem, ⟨15, _⟩ => ⟨S128x2944, .f32⟩
  | _, _ => ⟨S8192x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWInIdeal.lean ====
abbrev S8192x2944 : Shape := ⟨2, ![8192, 2944]⟩
abbrev S128x2944 : Shape := ⟨2, ![128, 2944]⟩

abbrev nBuf : Space → Nat
  | .hbm => 8
  | .vmem => 16
  | .smem => 0
  | _ => 0

abbrev bufTy : (tb : Table) → Fin (tcTables nBuf tb) → BufTy
  | .hbm, ⟨0, _⟩ => ⟨S8192x2944, .f32⟩
  | .hbm, ⟨1, _⟩ => ⟨S8192x2944, .f32⟩
  | .hbm, ⟨2, _⟩ => ⟨S8192x2944, .f32⟩
  | .hbm, ⟨3, _⟩ => ⟨S8192x2944, .f32⟩
  | .hbm, ⟨4, _⟩ => ⟨S8192x2944, .f32⟩
  | .hbm, ⟨5, _⟩ => ⟨S8192x2944, .f32⟩
  | .hbm, ⟨6, _⟩ => ⟨S8192x2944, .f32⟩
  | .hbm, ⟨7, _⟩ => ⟨S8192x2944, .f32⟩
  | .local _ .vmem, ⟨0, _⟩ => ⟨S128x2944, .f32⟩
  | .local _ .vmem, ⟨1, _⟩ => ⟨S128x2944, .f32⟩
  | .local _ .vmem, ⟨2, _⟩ => ⟨S128x2944, .f32⟩
  | .local _ .vmem, ⟨3, _⟩ => ⟨S128x2944, .f32⟩
  | .local _ .vmem, ⟨4, _⟩ => ⟨S128x2944, .f32⟩
  | .local _ .vmem, ⟨5, _⟩ => ⟨S128x2944, .f32⟩
  | .local _ .vmem, ⟨6, _⟩ => ⟨S128x2944, .f32⟩
  | .local _ .vmem, ⟨7, _⟩ => ⟨S128x2944, .f32⟩
  | .local _ .vmem, ⟨8, _⟩ => ⟨S128x2944, .f32⟩
  | .local _ .vmem, ⟨9, _⟩ => ⟨S128x2944, .f32⟩
  | .local _ .vmem, ⟨10, _⟩ => ⟨S128x2944, .f32⟩
  | .local _ .vmem, ⟨11, _⟩ => ⟨S128x2944, .f32⟩
  | .local _ .vmem, ⟨12, _⟩ => ⟨S128x2944, .f32⟩
  | .local _ .vmem, ⟨13, _⟩ => ⟨S128x2944, .f32⟩
  | .local _ .vmem, ⟨14, _⟩ => ⟨S128x2944, .f32⟩
  | .local _ .vmem, ⟨15, _⟩ => ⟨S128x2944, .f32⟩
  | _, _ => ⟨S8192x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2944 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2944 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2944 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWInRefIdeal.lean ====
abbrev S8192x2944 : Shape := ⟨2, ![8192, 2944]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2944, .f32⟩
  | .hbm, ⟨1, _⟩ => ⟨S8192x2944, .f32⟩
  | .hbm, ⟨2, _⟩ => ⟨S8192x2944, .f32⟩
  | .hbm, ⟨3, _⟩ => ⟨S8192x2944, .f32⟩
  | .hbm, ⟨4, _⟩ => ⟨S_, .f32⟩
  | .hbm, ⟨5, _⟩ => ⟨S8192x2944, .f32⟩
  | .hbm, ⟨6, _⟩ => ⟨S8192x2944, .f32⟩
  | .hbm, ⟨7, _⟩ => ⟨S_, .f32⟩
  | .hbm, ⟨8, _⟩ => ⟨S8192x2944, .f32⟩
  | .hbm, ⟨9, _⟩ => ⟨S8192x2944, .f32⟩
  | .hbm, ⟨10, _⟩ => ⟨S8192x2944, .f32⟩
  | .hbm, ⟨11, _⟩ => ⟨S_, .f32⟩
  | .hbm, ⟨12, _⟩ => ⟨S8192x2944, .f32⟩
  | .hbm, ⟨13, _⟩ => ⟨S8192x2944, .f32⟩
  | .hbm, ⟨14, _⟩ => ⟨S8192x2944, .f32⟩
  | .hbm, ⟨15, _⟩ => ⟨S_, .f32⟩
  | .hbm, ⟨16, _⟩ => ⟨S8192x2944, .f32⟩
  | .hbm, ⟨17, _⟩ => ⟨S8192x2944, .f32⟩
  | .hbm, ⟨18, _⟩ => ⟨S8192x2944, .f32⟩
  | .hbm, ⟨19, _⟩ => ⟨S_, .f32⟩
  | .hbm, ⟨20, _⟩ => ⟨S8192x2944, .f32⟩
  | .hbm, ⟨21, _⟩ => ⟨S8192x2944, .f32⟩
  | .hbm, ⟨22, _⟩ => ⟨S_, .f32⟩
  | .hbm, ⟨23, _⟩ => ⟨S8192x2944, .f32⟩
  | .hbm, ⟨24, _⟩ => ⟨S8192x2944, .f32⟩
  | .hbm, ⟨25, _⟩ => ⟨S8192x2944, .f32⟩
  | .hbm, ⟨26, _⟩ => ⟨S_, .f32⟩
  | .hbm, ⟨27, _⟩ => ⟨S8192x2944, .f32⟩
  | .hbm, ⟨28, _⟩ => ⟨S8192x2944, .f32⟩
  | .hbm, ⟨29, _⟩ => ⟨S8192x2944, .f32⟩
  | .hbm, ⟨30, _⟩ => ⟨S_, .f32⟩
  | .hbm, ⟨31, _⟩ => ⟨S8192x2944, .f32⟩
  | .hbm, ⟨32, _⟩ => ⟨S8192x2944, .f32⟩
  | .hbm, ⟨33, _⟩ => ⟨S8192x2944, .f32⟩
  | .hbm, ⟨34, _⟩ => ⟨S_, .f32⟩
  | .hbm, ⟨35, _⟩ => ⟨S8192x2944, .f32⟩
  | .hbm, ⟨36, _⟩ => ⟨S8192x2944, .f32⟩
  | _, _ => ⟨S8192x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjA.lean ====
abbrev S2048x512 : Shape := ⟨2, ![2048, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjAIdeal.lean ====
abbrev S2048x512 : Shape := ⟨2, ![2048, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjARefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProjB.lean ====
abbrev S4096x512 : Shape := ⟨2, ![4096, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjBIdeal.lean ====
abbrev S4096x512 : Shape := ⟨2, ![4096, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamProjBRefIdeal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWO.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWOIdeal.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWORefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlp.lean ====
abbrev S8192x2048 : Shape := ⟨2, ![8192, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMlpIdeal.lean ====
abbrev S8192x2048 : Shape := ⟨2, ![8192, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamMlpRefIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S440x128 : Shape := ⟨2, ![440, 128]⟩

abbrev nBuf : Space → Nat
  | .hbm => 8
  | .vmem => 8
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S440x128, .f32⟩
  | .hbm, ⟨5, _⟩ => ⟨S440x128, .f32⟩
  | .hbm, ⟨6, _⟩ => ⟨S440x128, .f32⟩
  | .hbm, ⟨7, _⟩ => ⟨S440x128, .f32⟩
  | .local _ .vmem, ⟨0, _⟩ => ⟨S440x128, .f32⟩
  | .local _ .vmem, ⟨1, _⟩ => ⟨S440x128, .f32⟩
  | .local _ .vmem, ⟨2, _⟩ => ⟨S440x128, .f32⟩
  | .local _ .vmem, ⟨3, _⟩ => ⟨S440x128, .f32⟩
  | .local _ .vmem, ⟨4, _⟩ => ⟨S440x128, .f32⟩
  | .local _ .vmem, ⟨5, _⟩ => ⟨S440x128, .f32⟩
  | .local _ .vmem, ⟨6, _⟩ => ⟨S440x128, .f32⟩
  | .local _ .vmem, ⟨7, _⟩ => ⟨S440x128, .f32⟩
  | _, _ => ⟨S440x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S440x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S440x128 : Shape := ⟨2, ![440, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S440x128, .f32⟩
  | .hbm, ⟨1, _⟩ => ⟨S440x128, .f32⟩
  | .hbm, ⟨2, _⟩ => ⟨S440x128, .f32⟩
  | .hbm, ⟨3, _⟩ => ⟨S440x128, .f32⟩
  | .hbm, ⟨4, _⟩ => ⟨S_, .f32⟩
  | .hbm, ⟨5, _⟩ => ⟨S440x128, .f32⟩
  | .hbm, ⟨6, _⟩ => ⟨S440x128, .f32⟩
  | .hbm, ⟨7, _⟩ => ⟨S_, .f32⟩
  | .hbm, ⟨8, _⟩ => ⟨S440x128, .f32⟩
  | .hbm, ⟨9, _⟩ => ⟨S440x128, .f32⟩
  | .hbm, ⟨10, _⟩ => ⟨S440x128, .f32⟩
  | .hbm, ⟨11, _⟩ => ⟨S_, .f32⟩
  | .hbm, ⟨12, _⟩ => ⟨S440x128, .f32⟩
  | .hbm, ⟨13, _⟩ => ⟨S440x128, .f32⟩
  | .hbm, ⟨14, _⟩ => ⟨S440x128, .f32⟩
  | .hbm, ⟨15, _⟩ => ⟨S_, .f32⟩
  | .hbm, ⟨16, _⟩ => ⟨S440x128, .f32⟩
  | .hbm, ⟨17, _⟩ => ⟨S440x128, .f32⟩
  | .hbm, ⟨18, _⟩ => ⟨S440x128, .f32⟩
  | .hbm, ⟨19, _⟩ => ⟨S_, .f32⟩
  | .hbm, ⟨20, _⟩ => ⟨S440x128, .f32⟩
  | .hbm, ⟨21, _⟩ => ⟨S440x128, .f32⟩
  | .hbm, ⟨22, _⟩ => ⟨S_, .f32⟩
  | .hbm, ⟨23, _⟩ => ⟨S440x128, .f32⟩
  | .hbm, ⟨24, _⟩ => ⟨S440x128, .f32⟩
  | .hbm, ⟨25, _⟩ => ⟨S440x128, .f32⟩
  | .hbm, ⟨26, _⟩ => ⟨S_, .f32⟩
  | .hbm, ⟨27, _⟩ => ⟨S440x128, .f32⟩
  | .hbm, ⟨28, _⟩ => ⟨S440x128, .f32⟩
  | .hbm, ⟨29, _⟩ => ⟨S440x128, .f32⟩
  | .hbm, ⟨30, _⟩ => ⟨S_, .f32⟩
  | .hbm, ⟨31, _⟩ => ⟨S440x128, .f32⟩
  | .hbm, ⟨32, _⟩ => ⟨S440x128, .f32⟩
  | .hbm, ⟨33, _⟩ => ⟨S440x128, .f32⟩
  | .hbm, ⟨34, _⟩ => ⟨S_, .f32⟩
  | .hbm, ⟨35, _⟩ => ⟨S440x128, .f32⟩
  | .hbm, ⟨36, _⟩ => ⟨S440x128, .f32⟩
  | _, _ => ⟨S440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSlots.lean ====
abbrev S8x848x128 : Shape := ⟨3, ![8, 848, 128]⟩
abbrev S848x128 : Shape := ⟨2, ![848, 128]⟩
abbrev S1x848x128 : Shape := ⟨3, ![1, 848, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x848x128, .f32⟩
  | .hbm, ⟨1, _⟩ => ⟨S848x128, .f32⟩
  | .local _ .vmem, ⟨0, _⟩ => ⟨S8x848x128, .f32⟩
  | .local _ .vmem, ⟨1, _⟩ => ⟨S848x128, .f32⟩
  | _, _ => ⟨S8x848x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x848x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S848x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSlotsRefIdeal.lean ====
abbrev S8x848x128 : Shape := ⟨3, ![8, 848, 128]⟩
abbrev S_ : Shape := ⟨0, ![]⟩
abbrev S848x128 : Shape := ⟨2, ![848, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x848x128, .f32⟩
  | .hbm, ⟨1, _⟩ => ⟨S_, .f32⟩
  | .hbm, ⟨2, _⟩ => ⟨S848x128, .f32⟩
  | _, _ => ⟨S8x848x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S2048x2048 : Shape := ⟨2, ![2048, 2048]⟩
abbrev S4x1x2048 : Shape := ⟨3, ![4, 1, 2048]⟩
abbrev S8x128 : Shape := ⟨2, ![8, 128]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x1x2048, .f32⟩
  | .hbm, ⟨3, _⟩ => ⟨S2048x2048, .f32⟩
  | .hbm, ⟨4, _⟩ => ⟨S2048x2048, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | _ => false

abbrev sig : RefSig :=
  ofTc nBuf bufTy 1 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v4_s0 : Ref sig .tc := ⟨.hbm, 9, rfl⟩
abbrev main_v4_s1 : Ref sig .tc := ⟨.hbm, 10, rfl⟩
abbrev main_v4_s2 : Ref sig .tc := ⟨.hbm, 11, rfl⟩
abbrev main_v4_s3 : Ref sig .tc := ⟨.hbm, 12, rfl⟩
abbrev main_v4_s4 : Ref sig .tc := ⟨.hbm, 13, rfl⟩
abbrev main_v4_s5 : Ref sig .tc := ⟨.hbm, 14, rfl⟩
abbrev main_v4_s6 : Ref sig .tc := ⟨.hbm, 15, rfl⟩
abbrev main_v4_s7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev ar0_recv : DmaSem sig := 10
abbrev ar0_send : DmaSem sig := 11
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x2048 : Shape := ⟨2, ![16384, 2048]⟩
abbrev S4x1x2048 : Shape := ⟨3, ![4, 1, 2048]⟩
abbrev S1x1x2048 : Shape := ⟨3, ![1, 1, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4x1x2048, .f32⟩
  | .hbm, ⟨3, _⟩ => ⟨S16384x2048, .f32⟩
  | .hbm, ⟨4, _⟩ => ⟨S1x1x2048, .f32⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== PutColumns.lean ====
abbrev S2048x11776 : Shape := ⟨2, ![2048, 11776]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x11776, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x11776, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PutColumnsRefIdeal.lean ====
abbrev S2048x11776 : Shape := ⟨2, ![2048, 11776]⟩
abbrev S2048x512 : Shape := ⟨2, ![2048, 512]⟩
abbrev S2048x3072 : Shape := ⟨2, ![2048, 3072]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S2048x11776, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x3072, .bf16⟩
  | .hbm, ⟨7, _⟩ => ⟨S2048x6144, .bf16⟩
  | .hbm, ⟨8, _⟩ => ⟨S2048x11776, .bf16⟩
  | _, _ => ⟨S2048x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Proof.MergeBwd.lean ====
/- The gradient of the gated sum of the three branches: what the kernel `MergeBwdIdeal` leaves in its two result
   arrays. It writes the gate's columns of the second array only, those from 5632 on. -/
module

public import proofs.«01_k».proof.Proof.Gen.MergeBwdIdeal.Frame
public import proofs.«01_k».proof.Proof.Gen.MergeBwdRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.MergeBwdIdeal.Gradient

open Cert.MergeBwdIdeal Cert.MergeBwdIdeal.Gen

variable (m : (ℓ : Loc nD τ sig) → Buf (Elt Ideal) ℓ)

/-- The logistic function of the gate's columns, one plane per branch. -/
abbrev gate (proj : FVec Ideal S2048x11776 .bf16) : FVec Ideal S3x2048x2048 .f32 :=
  Host.divf (broadcastInDim Cert.MergeBwdRefIdeal.S3x2048x2048 ![] Cert.MergeBwdRefIdeal.Gen.bcast_S_S3x2048x2048 (constant Cert.MergeBwdRefIdeal.S_ .f32 0x3F800000#32)) (addf (broadcastInDim Cert.MergeBwdRefIdeal.S3x2048x2048 ![] Cert.MergeBwdRefIdeal.Gen.bcast_S_S3x2048x2048 (constant Cert.MergeBwdRefIdeal.S_ .f32 0x3F800000#32)) (Host.exp (Host.negf (transpose Cert.MergeBwdRefIdeal.S3x2048x2048 [1, 0, 2] (shapeCast _ (extf .f32 (extractStridedSlice Cert.MergeBwdRefIdeal.S2048x6144 ![0, 5632] proj Cert.MergeBwdRefIdeal.Gen.slices_S2048x11776_S2048x6144_0_5632) Cert.MergeBwdRefIdeal.Gen.bitsLt_bf16_f32) Cert.MergeBwdRefIdeal.Gen.shapeCasts_S2048x6144_S2048x3x2048) Cert.MergeBwdRefIdeal.Gen.transposes_S2048x3x2048_S3x2048x2048_1_0_2))))

/-- The gradient of the branches. -/
abbrev gradBranches (dm : FVec Ideal S2048x2048 .f32) (proj : FVec Ideal S2048x11776 .bf16) : FVec Ideal S3x2048x2048 .bf16 :=
  truncf .bf16 (mulf (gate proj) (broadcastInDim Cert.MergeBwdRefIdeal.S3x2048x2048 ![1, 2] Cert.MergeBwdRefIdeal.Gen.bcast_S2048x2048_S3x2048x2048_1_2 dm)) Cert.MergeBwdRefIdeal.Gen.bitsLt_bf16_f32

/-- The gradient of the gate's columns, with zeros in the columns before them. -/
abbrev gradGate (dm : FVec Ideal S2048x2048 .f32) (y3 : FVec Ideal S3x2048x2048 .bf16) (proj : FVec Ideal S2048x11776 .bf16) :
    FVec Ideal S2048x11776 .bf16 :=
  concatenate Cert.MergeBwdRefIdeal.S2048x11776 1 [⟨Cert.MergeBwdRefIdeal.S2048x5632, (broadcastInDim Cert.MergeBwdRefIdeal.S2048x5632 ![] Cert.MergeBwdRefIdeal.Gen.bcast_S_S2048x5632 (constant Cert.MergeBwdRefIdeal.S_ .bf16 0x0000#16))⟩, ⟨Cert.MergeBwdRefIdeal.S2048x6144, (truncf .bf16 (shapeCast _ (transpose Cert.MergeBwdRefIdeal.S2048x3x2048 [1, 0, 2] (mulf (mulf (broadcastInDim Cert.MergeBwdRefIdeal.S3x2048x2048 ![1, 2] Cert.MergeBwdRefIdeal.Gen.bcast_S2048x2048_S3x2048x2048_1_2 dm) (extf .f32 y3 Cert.MergeBwdRefIdeal.Gen.bitsLt_bf16_f32)) (mulf (gate proj) (subf (broadcastInDim Cert.MergeBwdRefIdeal.S3x2048x2048 ![] Cert.MergeBwdRefIdeal.Gen.bcast_S_S3x2048x2048 (constant Cert.MergeBwdRefIdeal.S_ .f32 0x3F800000#32)) (gate proj)))) Cert.MergeBwdRefIdeal.Gen.transposes_S3x2048x2048_S2048x3x2048_1_0_2) Cert.MergeBwdRefIdeal.Gen.shapeCasts_S2048x3x2048_S2048x6144) Cert.MergeBwdRefIdeal.Gen.bitsLt_bf16_f32)⟩] Cert.MergeBwdRefIdeal.Gen.concatenates_S2048x5632_S2048x6144_S2048x11776_d1

/-- The windows' block indices at every grid point: row block, branch and column block; the gate's columns begin at the
    eleventh column block and a branch has four of them. -/
theorem idx : ∀ t : Fin cfg0.N,
    win0_0.index t = ![t.val / 12, t.val / 3 % 4] ∧ win0_1.index t = ![t.val % 3, t.val / 12, t.val / 3 % 4]
    ∧ win0_2.index t = ![t.val / 12, 11 + t.val % 3 * 4 + t.val / 3 % 4]
    ∧ win0_3.index t = ![t.val % 3, t.val / 12, t.val / 3 % 4]
    ∧ win0_4.index t = ![t.val / 12, 11 + t.val % 3 * 4 + t.val / 3 % 4] :=
  (by decide +kernel : ∀ t : Fin grid0.N, _)

theorem pointBranches (c : Dev nD) (t : Fin cfg0.N) (y) : k0_pay2 (iblk m c 0 t) (iblk m c 2 t) y
    = gradBranches (m ((c : Thread nD τ).loc main_arg0)) (m ((c : Thread nD τ).loc main_arg2)) (((cfg0.win 3).blk t).view.emb y) := by
  pointwise [k0_pay2, k0_pay1, gradBranches, gate]
  refine Eq.trans ?_ (mul_comm _ _)
  simp only [zero_sub]
  blk_point [iblk, V, idx t]

theorem finalBranches (c : Dev nD) : (dats m 0 c).arrAt 3 (cfgs 0).N
    = gradBranches (m ((c : Thread nD τ).loc main_arg0)) (m ((c : Thread nD τ).loc main_arg2)) := by
  refine (dats m 0 c).arrAt_eq_of_covers 3 _ (by decide +kernel) fun t _ y => ?_
  blk_simp
  rw [after0_3]
  frame_out
  exact pointBranches m c t y

set_option maxHeartbeats 1600000 in
theorem pointGate (c : Dev nD) (t : Fin cfg0.N) (y) : k0_pay3 (iblk m c 0 t) (iblk m c 2 t) (iblk m c 1 t) y
    = gradGate (m ((c : Thread nD τ).loc main_arg0)) (m ((c : Thread nD τ).loc main_arg1))
        (m ((c : Thread nD τ).loc main_arg2)) (((cfg0.win 4).blk t).view.emb y) := by
  pointwise [k0_pay3, k0_pay1, gradGate, gate]
  rw [dif_neg (by blk_simp [idx t]; omega)]
  refine (mul_assoc _ _ _).trans ?_
  simp only [zero_sub]
  blk_point [iblk, V, idx t]

theorem finalGate (c : Dev nD) : (dats m 0 c).arrAt 4 (cfgs 0).N
    = fun i => if 11 * 512 ≤ (i 1 : ℕ) then gradGate (m ((c : Thread nD τ).loc main_arg0)) (m ((c : Thread nD τ).loc main_arg1))
        (m ((c : Thread nD τ).loc main_arg2)) i else V m c main_v0_1 i := by
  refine (dats m 0 c).arrAt_eq_of_coversWhere 4 _ (fun β => 11 ≤ β 1) (by decide +kernel) (fun t hf y => ?_)
    (fun j => by blk_simp [Pipeline.Window.cell_apply]; omega)
  blk_simp
  rw [after0_4]
  frame_out
  exact pointGate m c t y

end Cert.MergeBwdIdeal.Gradient

end
-- ==== Proof.DUp.lean ====
/- The gradient of the squared rectifier: what the kernel `DUpIdeal` leaves in its result array. -/
module

public import proofs.«01_k».proof.Proof.Gen.DUpIdeal.Frame
public import proofs.«01_k».proof.Proof.Gen.DUpRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DUpIdeal.Gradient

open Cert.DUpIdeal Cert.DUpIdeal.Gen

variable (m : (ℓ : Loc nD τ sig) → Buf (Elt Ideal) ℓ)

/-- The reference's own term: `df · w_downᵀ` times twice the positive part of `up`, where `up` is positive. -/
abbrev gradUp (df : FVec Ideal S2048x2048 .bf16) (w : FVec Ideal S8192x2048 .bf16) (up : FVec Ideal S2048x8192 .bf16) :
    FVec Ideal S2048x8192 .bf16 :=
  truncf .bf16 (select (cmpf .ogt (extf .f32 up Cert.DUpRefIdeal.Gen.bitsLt_bf16_f32) (broadcastInDim Cert.DUpRefIdeal.S2048x8192 ![] Cert.DUpRefIdeal.Gen.bcast_S_S2048x8192 (constant Cert.DUpRefIdeal.S_ .f32 0x00000000#32)))
    (mulf (Host.dotGeneral Cert.DUpRefIdeal.dot_S2048x2048_S8192x2048_S2048x8192_1_1_0_0_n_n none (extf .f32 df Cert.DUpRefIdeal.Gen.bitsLt_bf16_f32) (extf .f32 w Cert.DUpRefIdeal.Gen.bitsLt_bf16_f32))
      (mulf (broadcastInDim Cert.DUpRefIdeal.S2048x8192 ![] Cert.DUpRefIdeal.Gen.bcast_S_S2048x8192 (constant Cert.DUpRefIdeal.S_ .f32 0x40000000#32))
        (maximumf (extf .f32 up Cert.DUpRefIdeal.Gen.bitsLt_bf16_f32) (broadcastInDim Cert.DUpRefIdeal.S2048x8192 ![] Cert.DUpRefIdeal.Gen.bcast_S_S2048x8192 (constant Cert.DUpRefIdeal.S_ .f32 0x00000000#32)))))
    (broadcastInDim Cert.DUpRefIdeal.S2048x8192 ![] Cert.DUpRefIdeal.Gen.bcast_S_S2048x8192 (constant Cert.DUpRefIdeal.S_ .f32 0x00000000#32))) Cert.DUpRefIdeal.Gen.bitsLt_bf16_f32

/-- The windows' block indices at every grid point: rows follow the first coordinate, columns the second. -/
theorem idx : ∀ t : Fin cfg0.N,
    win0_0.index t = ![(grid0.coords t 0).val, 0] ∧ win0_1.index t = ![(grid0.coords t 1).val, 0]
    ∧ win0_2.index t = ![(grid0.coords t 0).val, (grid0.coords t 1).val]
    ∧ win0_3.index t = ![(grid0.coords t 0).val, (grid0.coords t 1).val] :=
  (by decide +kernel : ∀ t : Fin grid0.N, _)

/-- Where `x` is not positive its positive part is zero, so the selection changes nothing. -/
theorem select_positive (a k x : EReal) : (if 0 < x then a * (k * max x 0) else 0) = a * (k * max x 0) := by
  split
  · rfl
  · rename_i h
    rw [max_eq_right (not_lt.mp h), mul_zero, mul_zero]

/-- What the body stores at an index of point `t`'s block is the gradient at the array index it sits at. -/
theorem point (c : Dev nD) (t : Fin cfg0.N) (y) : k0_pay1 (iblk m c 0 t) (iblk m c 1 t) (iblk m c 2 t) y
    = gradUp (m ((c : Thread nD τ).loc main_arg0)) (m ((c : Thread nD τ).loc main_arg1))
        (m ((c : Thread nD τ).loc main_arg2)) (((cfg0.win 3).blk t).view.emb y) := by
  pointwise [k0_pay1, gradUp]
  refine Eq.trans ?_ (select_positive _ _ _).symm
  blk_point [iblk, V, idx t]

/-- The blocks tile the result array, which therefore ends as the gradient. -/
theorem final (c : Dev nD) : (dats m 0 c).arrAt 3 (cfgs 0).N
    = gradUp (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.DUpIdeal.Gradient

end
-- ==== Proof.SmallSum.lean ====
/- The sum over the devices of the small weights' gradients. -/
module

public import proofs.«01_k».proof.Proof.Gen.SumSlotsIdeal.Frame
public import proofs.«01_k».proof.Proof.Gen.SumSlotsRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.SumSlotsRefIdeal.Term

open Cert.SumSlotsRefIdeal Cert.SumSlotsRefIdeal.Gen

/-- The reference's sum over the devices. -/
abbrev total (x0 : FVec Ideal S8x848x128 .f32) :=
  (Host.reduceAdd (x0) (constant S_ .f32 0x00000000#32) reducesTo_S8x848x128_S848x128_d0 h_S_ : FVec Ideal S848x128 .f32)

end Cert.SumSlotsRefIdeal.Term

namespace Cert.SumSlotsIdeal.Sum

open Cert.SumSlotsIdeal Cert.SumSlotsIdeal.Gen

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

/-- The eight slots, added in order, are the reference's sum over the first axis. -/
theorem point_total (c : Dev nD) (t : Fin cfg0.N) (y) : k0_pay1 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y
    = Cert.SumSlotsRefIdeal.Term.total (m ((c : Thread nD τ).loc main_arg0)) (((cfg0.win 1).blk t).view.emb y) := by
  pointwise [k0_pay1, Cert.SumSlotsRefIdeal.Term.total]
  simp only [Fin.sum_univ_eight]
  blk_point [iblk, V, idx t]

theorem final_total (c : Dev nD) : (dats m 0 c).arrAt 1 (cfgs 0).N
    = Cert.SumSlotsRefIdeal.Term.total (m ((c : Thread nD τ).loc main_arg0)) := by
  refine (dats m 0 c).arrAt_eq_of_covers 1 _ (by decide +kernel) fun t _ y => ?_
  blk_simp
  rw [after0_1]
  frame_out
  exact point_total m c t y

end Cert.SumSlotsIdeal.Sum

end
-- ==== Proof.Optimiser.lean ====
/- The optimiser: one step of AdamW at each shape of a weight. -/
module

public import proofs.«01_k».proof.Proof.Gen.AdamWInIdeal.Frame
public import proofs.«01_k».proof.Proof.Gen.AdamWInRefIdeal
public import proofs.«01_k».proof.Proof.Gen.AdamProjAIdeal.Frame
public import proofs.«01_k».proof.Proof.Gen.AdamProjARefIdeal
public import proofs.«01_k».proof.Proof.Gen.AdamProjBIdeal.Frame
public import proofs.«01_k».proof.Proof.Gen.AdamProjBRefIdeal
public import proofs.«01_k».proof.Proof.Gen.AdamWOIdeal.Frame
public import proofs.«01_k».proof.Proof.Gen.AdamWORefIdeal
public import proofs.«01_k».proof.Proof.Gen.AdamMlpIdeal.Frame
public import proofs.«01_k».proof.Proof.Gen.AdamMlpRefIdeal
public import proofs.«01_k».proof.Proof.Gen.AdamSmallIdeal.Frame
public import proofs.«01_k».proof.Proof.Gen.AdamSmallRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.AdamWInRefIdeal.Term

open Cert.AdamWInRefIdeal Cert.AdamWInRefIdeal.Gen

/-- The reference's step. -/
abbrev delta (x0 : FVec Ideal S8192x2944 .f32) (x1 : FVec Ideal S8192x2944 .f32) (x2 : FVec Ideal S8192x2944 .f32) (x3 : FVec Ideal S8192x2944 .f32) :=
  (mulf (broadcastInDim S8192x2944 ![] bcast_S_S8192x2944 (constant S_ .f32 0xBA83126F#32)) (addf (Host.divf (Host.divf (addf (mulf (broadcastInDim S8192x2944 ![] bcast_S_S8192x2944 (constant S_ .f32 0x3F666666#32)) (x2)) (mulf (broadcastInDim S8192x2944 ![] bcast_S_S8192x2944 (constant S_ .f32 0x3DCCCCCD#32)) (x1))) (broadcastInDim S8192x2944 ![] bcast_S_S8192x2944 (constant S_ .f32 0x3F26BD02#32))) (addf (Host.sqrt (Host.divf (addf (mulf (broadcastInDim S8192x2944 ![] bcast_S_S8192x2944 (constant S_ .f32 0x3F7FBE77#32)) (x3)) (mulf (broadcastInDim S8192x2944 ![] bcast_S_S8192x2944 (constant S_ .f32 0x3A83126F#32)) (mulf (x1) (x1)))) (broadcastInDim S8192x2944 ![] bcast_S_S8192x2944 (constant S_ .f32 0x3C231ACC#32)))) (broadcastInDim S8192x2944 ![] bcast_S_S8192x2944 (constant S_ .f32 0x322BCC77#32)))) (mulf (broadcastInDim S8192x2944 ![] bcast_S_S8192x2944 (constant S_ .f32 0x3C23D70A#32)) (x0))) : FVec Ideal S8192x2944 .f32)

/-- The reference's new first moment. -/
abbrev moment (x1 : FVec Ideal S8192x2944 .f32) (x2 : FVec Ideal S8192x2944 .f32) :=
  (addf (mulf (broadcastInDim S8192x2944 ![] bcast_S_S8192x2944 (constant S_ .f32 0x3F666666#32)) (x2)) (mulf (broadcastInDim S8192x2944 ![] bcast_S_S8192x2944 (constant S_ .f32 0x3DCCCCCD#32)) (x1)) : FVec Ideal S8192x2944 .f32)

/-- The reference's new second moment. -/
abbrev second (x1 : FVec Ideal S8192x2944 .f32) (x3 : FVec Ideal S8192x2944 .f32) :=
  (addf (mulf (broadcastInDim S8192x2944 ![] bcast_S_S8192x2944 (constant S_ .f32 0x3F7FBE77#32)) (x3)) (mulf (broadcastInDim S8192x2944 ![] bcast_S_S8192x2944 (constant S_ .f32 0x3A83126F#32)) (mulf (x1) (x1))) : FVec Ideal S8192x2944 .f32)

end Cert.AdamWInRefIdeal.Term

namespace Cert.AdamWInIdeal.Optimiser

open Cert.AdamWInIdeal Cert.AdamWInIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamWInRefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamWInRefIdeal.Term.delta]
  blk_point [iblk, V, idx t]

/-- The blocks tile the result array. -/
theorem final_delta (c : Dev nD) : (dats m 0 c).arrAt 4 (cfgs 0).N
    = Cert.AdamWInRefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamWInRefIdeal.Term.moment (m ((c : Thread nD τ).loc main_arg1)) (m ((c : Thread nD τ).loc main_arg2)) (((cfg0.win 5).blk t).view.emb y) := by
  pointwise [k0_pay1, k0_pay2, k0_pay3, Cert.AdamWInRefIdeal.Term.moment]
  blk_point [iblk, V, idx t]

/-- The blocks tile the result array. -/
theorem final_moment (c : Dev nD) : (dats m 0 c).arrAt 5 (cfgs 0).N
    = Cert.AdamWInRefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamWInRefIdeal.Term.second (m ((c : Thread nD τ).loc main_arg1)) (m ((c : Thread nD τ).loc main_arg3)) (((cfg0.win 6).blk t).view.emb y) := by
  pointwise [k0_pay1, k0_pay2, k0_pay3, Cert.AdamWInRefIdeal.Term.second]
  blk_point [iblk, V, idx t]

/-- The blocks tile the result array. -/
theorem final_second (c : Dev nD) : (dats m 0 c).arrAt 6 (cfgs 0).N
    = Cert.AdamWInRefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamWInIdeal.Optimiser

namespace Cert.AdamProjARefIdeal.Term

open Cert.AdamProjARefIdeal Cert.AdamProjARefIdeal.Gen

/-- The reference's step. -/
abbrev delta (x0 : FVec Ideal S2048x512 .f32) (x1 : FVec Ideal S2048x512 .f32) (x2 : FVec Ideal S2048x512 .f32) (x3 : FVec Ideal S2048x512 .f32) :=
  (mulf (broadcastInDim S2048x512 ![] bcast_S_S2048x512 (constant S_ .f32 0xBA83126F#32)) (addf (Host.divf (Host.divf (addf (mulf (broadcastInDim S2048x512 ![] bcast_S_S2048x512 (constant S_ .f32 0x3F666666#32)) (x2)) (mulf (broadcastInDim S2048x512 ![] bcast_S_S2048x512 (constant S_ .f32 0x3DCCCCCD#32)) (x1))) (broadcastInDim S2048x512 ![] bcast_S_S2048x512 (constant S_ .f32 0x3F26BD02#32))) (addf (Host.sqrt (Host.divf (addf (mulf (broadcastInDim S2048x512 ![] bcast_S_S2048x512 (constant S_ .f32 0x3F7FBE77#32)) (x3)) (mulf (broadcastInDim S2048x512 ![] bcast_S_S2048x512 (constant S_ .f32 0x3A83126F#32)) (mulf (x1) (x1)))) (broadcastInDim S2048x512 ![] bcast_S_S2048x512 (constant S_ .f32 0x3C231ACC#32)))) (broadcastInDim S2048x512 ![] bcast_S_S2048x512 (constant S_ .f32 0x322BCC77#32)))) (mulf (broadcastInDim S2048x512 ![] bcast_S_S2048x512 (constant S_ .f32 0x3C23D70A#32)) (x0))) : FVec Ideal S2048x512 .f32)

/-- The reference's new first moment. -/
abbrev moment (x1 : FVec Ideal S2048x512 .f32) (x2 : FVec Ideal S2048x512 .f32) :=
  (addf (mulf (broadcastInDim S2048x512 ![] bcast_S_S2048x512 (constant S_ .f32 0x3F666666#32)) (x2)) (mulf (broadcastInDim S2048x512 ![] bcast_S_S2048x512 (constant S_ .f32 0x3DCCCCCD#32)) (x1)) : FVec Ideal S2048x512 .f32)

/-- The reference's new second moment. -/
abbrev second (x1 : FVec Ideal S2048x512 .f32) (x3 : FVec Ideal S2048x512 .f32) :=
  (addf (mulf (broadcastInDim S2048x512 ![] bcast_S_S2048x512 (constant S_ .f32 0x3F7FBE77#32)) (x3)) (mulf (broadcastInDim S2048x512 ![] bcast_S_S2048x512 (constant S_ .f32 0x3A83126F#32)) (mulf (x1) (x1))) : FVec Ideal S2048x512 .f32)

end Cert.AdamProjARefIdeal.Term

namespace Cert.AdamProjAIdeal.Optimiser

open Cert.AdamProjAIdeal Cert.AdamProjAIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamProjARefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamProjARefIdeal.Term.delta]
  blk_point [iblk, V, idx t]

/-- The blocks tile the result array. -/
theorem final_delta (c : Dev nD) : (dats m 0 c).arrAt 4 (cfgs 0).N
    = Cert.AdamProjARefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamProjARefIdeal.Term.moment (m ((c : Thread nD τ).loc main_arg1)) (m ((c : Thread nD τ).loc main_arg2)) (((cfg0.win 5).blk t).view.emb y) := by
  pointwise [k0_pay1, k0_pay2, k0_pay3, Cert.AdamProjARefIdeal.Term.moment]
  blk_point [iblk, V, idx t]

/-- The blocks tile the result array. -/
theorem final_moment (c : Dev nD) : (dats m 0 c).arrAt 5 (cfgs 0).N
    = Cert.AdamProjARefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamProjARefIdeal.Term.second (m ((c : Thread nD τ).loc main_arg1)) (m ((c : Thread nD τ).loc main_arg3)) (((cfg0.win 6).blk t).view.emb y) := by
  pointwise [k0_pay1, k0_pay2, k0_pay3, Cert.AdamProjARefIdeal.Term.second]
  blk_point [iblk, V, idx t]

/-- The blocks tile the result array. -/
theorem final_second (c : Dev nD) : (dats m 0 c).arrAt 6 (cfgs 0).N
    = Cert.AdamProjARefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamProjAIdeal.Optimiser

namespace Cert.AdamProjBRefIdeal.Term

open Cert.AdamProjBRefIdeal Cert.AdamProjBRefIdeal.Gen

/-- The reference's step. -/
abbrev delta (x0 : FVec Ideal S4096x512 .f32) (x1 : FVec Ideal S4096x512 .f32) (x2 : FVec Ideal S4096x512 .f32) (x3 : FVec Ideal S4096x512 .f32) :=
  (mulf (broadcastInDim S4096x512 ![] bcast_S_S4096x512 (constant S_ .f32 0xBA83126F#32)) (addf (Host.divf (Host.divf (addf (mulf (broadcastInDim S4096x512 ![] bcast_S_S4096x512 (constant S_ .f32 0x3F666666#32)) (x2)) (mulf (broadcastInDim S4096x512 ![] bcast_S_S4096x512 (constant S_ .f32 0x3DCCCCCD#32)) (x1))) (broadcastInDim S4096x512 ![] bcast_S_S4096x512 (constant S_ .f32 0x3F26BD02#32))) (addf (Host.sqrt (Host.divf (addf (mulf (broadcastInDim S4096x512 ![] bcast_S_S4096x512 (constant S_ .f32 0x3F7FBE77#32)) (x3)) (mulf (broadcastInDim S4096x512 ![] bcast_S_S4096x512 (constant S_ .f32 0x3A83126F#32)) (mulf (x1) (x1)))) (broadcastInDim S4096x512 ![] bcast_S_S4096x512 (constant S_ .f32 0x3C231ACC#32)))) (broadcastInDim S4096x512 ![] bcast_S_S4096x512 (constant S_ .f32 0x322BCC77#32)))) (mulf (broadcastInDim S4096x512 ![] bcast_S_S4096x512 (constant S_ .f32 0x3C23D70A#32)) (x0))) : FVec Ideal S4096x512 .f32)

/-- The reference's new first moment. -/
abbrev moment (x1 : FVec Ideal S4096x512 .f32) (x2 : FVec Ideal S4096x512 .f32) :=
  (addf (mulf (broadcastInDim S4096x512 ![] bcast_S_S4096x512 (constant S_ .f32 0x3F666666#32)) (x2)) (mulf (broadcastInDim S4096x512 ![] bcast_S_S4096x512 (constant S_ .f32 0x3DCCCCCD#32)) (x1)) : FVec Ideal S4096x512 .f32)

/-- The reference's new second moment. -/
abbrev second (x1 : FVec Ideal S4096x512 .f32) (x3 : FVec Ideal S4096x512 .f32) :=
  (addf (mulf (broadcastInDim S4096x512 ![] bcast_S_S4096x512 (constant S_ .f32 0x3F7FBE77#32)) (x3)) (mulf (broadcastInDim S4096x512 ![] bcast_S_S4096x512 (constant S_ .f32 0x3A83126F#32)) (mulf (x1) (x1))) : FVec Ideal S4096x512 .f32)

end Cert.AdamProjBRefIdeal.Term

namespace Cert.AdamProjBIdeal.Optimiser

open Cert.AdamProjBIdeal Cert.AdamProjBIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamProjBRefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamProjBRefIdeal.Term.delta]
  blk_point [iblk, V, idx t]

/-- The blocks tile the result array. -/
theorem final_delta (c : Dev nD) : (dats m 0 c).arrAt 4 (cfgs 0).N
    = Cert.AdamProjBRefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamProjBRefIdeal.Term.moment (m ((c : Thread nD τ).loc main_arg1)) (m ((c : Thread nD τ).loc main_arg2)) (((cfg0.win 5).blk t).view.emb y) := by
  pointwise [k0_pay1, k0_pay2, k0_pay3, Cert.AdamProjBRefIdeal.Term.moment]
  blk_point [iblk, V, idx t]

/-- The blocks tile the result array. -/
theorem final_moment (c : Dev nD) : (dats m 0 c).arrAt 5 (cfgs 0).N
    = Cert.AdamProjBRefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamProjBRefIdeal.Term.second (m ((c : Thread nD τ).loc main_arg1)) (m ((c : Thread nD τ).loc main_arg3)) (((cfg0.win 6).blk t).view.emb y) := by
  pointwise [k0_pay1, k0_pay2, k0_pay3, Cert.AdamProjBRefIdeal.Term.second]
  blk_point [iblk, V, idx t]

/-- The blocks tile the result array. -/
theorem final_second (c : Dev nD) : (dats m 0 c).arrAt 6 (cfgs 0).N
    = Cert.AdamProjBRefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamProjBIdeal.Optimiser

namespace Cert.AdamWORefIdeal.Term

open Cert.AdamWORefIdeal Cert.AdamWORefIdeal.Gen

/-- The reference's step. -/
abbrev delta (x0 : FVec Ideal S2048x2048 .f32) (x1 : FVec Ideal S2048x2048 .f32) (x2 : FVec Ideal S2048x2048 .f32) (x3 : FVec Ideal S2048x2048 .f32) :=
  (mulf (broadcastInDim S2048x2048 ![] bcast_S_S2048x2048 (constant S_ .f32 0xBA83126F#32)) (addf (Host.divf (Host.divf (addf (mulf (broadcastInDim S2048x2048 ![] bcast_S_S2048x2048 (constant S_ .f32 0x3F666666#32)) (x2)) (mulf (broadcastInDim S2048x2048 ![] bcast_S_S2048x2048 (constant S_ .f32 0x3DCCCCCD#32)) (x1))) (broadcastInDim S2048x2048 ![] bcast_S_S2048x2048 (constant S_ .f32 0x3F26BD02#32))) (addf (Host.sqrt (Host.divf (addf (mulf (broadcastInDim S2048x2048 ![] bcast_S_S2048x2048 (constant S_ .f32 0x3F7FBE77#32)) (x3)) (mulf (broadcastInDim S2048x2048 ![] bcast_S_S2048x2048 (constant S_ .f32 0x3A83126F#32)) (mulf (x1) (x1)))) (broadcastInDim S2048x2048 ![] bcast_S_S2048x2048 (constant S_ .f32 0x3C231ACC#32)))) (broadcastInDim S2048x2048 ![] bcast_S_S2048x2048 (constant S_ .f32 0x322BCC77#32)))) (mulf (broadcastInDim S2048x2048 ![] bcast_S_S2048x2048 (constant S_ .f32 0x3C23D70A#32)) (x0))) : FVec Ideal S2048x2048 .f32)

/-- The reference's new first moment. -/
abbrev moment (x1 : FVec Ideal S2048x2048 .f32) (x2 : FVec Ideal S2048x2048 .f32) :=
  (addf (mulf (broadcastInDim S2048x2048 ![] bcast_S_S2048x2048 (constant S_ .f32 0x3F666666#32)) (x2)) (mulf (broadcastInDim S2048x2048 ![] bcast_S_S2048x2048 (constant S_ .f32 0x3DCCCCCD#32)) (x1)) : FVec Ideal S2048x2048 .f32)

/-- The reference's new second moment. -/
abbrev second (x1 : FVec Ideal S2048x2048 .f32) (x3 : FVec Ideal S2048x2048 .f32) :=
  (addf (mulf (broadcastInDim S2048x2048 ![] bcast_S_S2048x2048 (constant S_ .f32 0x3F7FBE77#32)) (x3)) (mulf (broadcastInDim S2048x2048 ![] bcast_S_S2048x2048 (constant S_ .f32 0x3A83126F#32)) (mulf (x1) (x1))) : FVec Ideal S2048x2048 .f32)

end Cert.AdamWORefIdeal.Term

namespace Cert.AdamWOIdeal.Optimiser

open Cert.AdamWOIdeal Cert.AdamWOIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamWORefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamWORefIdeal.Term.delta]
  blk_point [iblk, V, idx t]

/-- The blocks tile the result array. -/
theorem final_delta (c : Dev nD) : (dats m 0 c).arrAt 4 (cfgs 0).N
    = Cert.AdamWORefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamWORefIdeal.Term.moment (m ((c : Thread nD τ).loc main_arg1)) (m ((c : Thread nD τ).loc main_arg2)) (((cfg0.win 5).blk t).view.emb y) := by
  pointwise [k0_pay1, k0_pay2, k0_pay3, Cert.AdamWORefIdeal.Term.moment]
  blk_point [iblk, V, idx t]

/-- The blocks tile the result array. -/
theorem final_moment (c : Dev nD) : (dats m 0 c).arrAt 5 (cfgs 0).N
    = Cert.AdamWORefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamWORefIdeal.Term.second (m ((c : Thread nD τ).loc main_arg1)) (m ((c : Thread nD τ).loc main_arg3)) (((cfg0.win 6).blk t).view.emb y) := by
  pointwise [k0_pay1, k0_pay2, k0_pay3, Cert.AdamWORefIdeal.Term.second]
  blk_point [iblk, V, idx t]

/-- The blocks tile the result array. -/
theorem final_second (c : Dev nD) : (dats m 0 c).arrAt 6 (cfgs 0).N
    = Cert.AdamWORefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamWOIdeal.Optimiser

namespace Cert.AdamMlpRefIdeal.Term

open Cert.AdamMlpRefIdeal Cert.AdamMlpRefIdeal.Gen

/-- The reference's step. -/
abbrev delta (x0 : FVec Ideal S8192x2048 .f32) (x1 : FVec Ideal S8192x2048 .f32) (x2 : FVec Ideal S8192x2048 .f32) (x3 : FVec Ideal S8192x2048 .f32) :=
  (mulf (broadcastInDim S8192x2048 ![] bcast_S_S8192x2048 (constant S_ .f32 0xBA83126F#32)) (addf (Host.divf (Host.divf (addf (mulf (broadcastInDim S8192x2048 ![] bcast_S_S8192x2048 (constant S_ .f32 0x3F666666#32)) (x2)) (mulf (broadcastInDim S8192x2048 ![] bcast_S_S8192x2048 (constant S_ .f32 0x3DCCCCCD#32)) (x1))) (broadcastInDim S8192x2048 ![] bcast_S_S8192x2048 (constant S_ .f32 0x3F26BD02#32))) (addf (Host.sqrt (Host.divf (addf (mulf (broadcastInDim S8192x2048 ![] bcast_S_S8192x2048 (constant S_ .f32 0x3F7FBE77#32)) (x3)) (mulf (broadcastInDim S8192x2048 ![] bcast_S_S8192x2048 (constant S_ .f32 0x3A83126F#32)) (mulf (x1) (x1)))) (broadcastInDim S8192x2048 ![] bcast_S_S8192x2048 (constant S_ .f32 0x3C231ACC#32)))) (broadcastInDim S8192x2048 ![] bcast_S_S8192x2048 (constant S_ .f32 0x322BCC77#32)))) (mulf (broadcastInDim S8192x2048 ![] bcast_S_S8192x2048 (constant S_ .f32 0x3C23D70A#32)) (x0))) : FVec Ideal S8192x2048 .f32)

/-- The reference's new first moment. -/
abbrev moment (x1 : FVec Ideal S8192x2048 .f32) (x2 : FVec Ideal S8192x2048 .f32) :=
  (addf (mulf (broadcastInDim S8192x2048 ![] bcast_S_S8192x2048 (constant S_ .f32 0x3F666666#32)) (x2)) (mulf (broadcastInDim S8192x2048 ![] bcast_S_S8192x2048 (constant S_ .f32 0x3DCCCCCD#32)) (x1)) : FVec Ideal S8192x2048 .f32)

/-- The reference's new second moment. -/
abbrev second (x1 : FVec Ideal S8192x2048 .f32) (x3 : FVec Ideal S8192x2048 .f32) :=
  (addf (mulf (broadcastInDim S8192x2048 ![] bcast_S_S8192x2048 (constant S_ .f32 0x3F7FBE77#32)) (x3)) (mulf (broadcastInDim S8192x2048 ![] bcast_S_S8192x2048 (constant S_ .f32 0x3A83126F#32)) (mulf (x1) (x1))) : FVec Ideal S8192x2048 .f32)

end Cert.AdamMlpRefIdeal.Term

namespace Cert.AdamMlpIdeal.Optimiser

open Cert.AdamMlpIdeal Cert.AdamMlpIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamMlpRefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamMlpRefIdeal.Term.delta]
  blk_point [iblk, V, idx t]

/-- The blocks tile the result array. -/
theorem final_delta (c : Dev nD) : (dats m 0 c).arrAt 4 (cfgs 0).N
    = Cert.AdamMlpRefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamMlpRefIdeal.Term.moment (m ((c : Thread nD τ).loc main_arg1)) (m ((c : Thread nD τ).loc main_arg2)) (((cfg0.win 5).blk t).view.emb y) := by
  pointwise [k0_pay1, k0_pay2, k0_pay3, Cert.AdamMlpRefIdeal.Term.moment]
  blk_point [iblk, V, idx t]

/-- The blocks tile the result array. -/
theorem final_moment (c : Dev nD) : (dats m 0 c).arrAt 5 (cfgs 0).N
    = Cert.AdamMlpRefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamMlpRefIdeal.Term.second (m ((c : Thread nD τ).loc main_arg1)) (m ((c : Thread nD τ).loc main_arg3)) (((cfg0.win 6).blk t).view.emb y) := by
  pointwise [k0_pay1, k0_pay2, k0_pay3, Cert.AdamMlpRefIdeal.Term.second]
  blk_point [iblk, V, idx t]

/-- The blocks tile the result array. -/
theorem final_second (c : Dev nD) : (dats m 0 c).arrAt 6 (cfgs 0).N
    = Cert.AdamMlpRefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamMlpIdeal.Optimiser

namespace Cert.AdamSmallRefIdeal.Term

open Cert.AdamSmallRefIdeal Cert.AdamSmallRefIdeal.Gen

/-- The reference's step. -/
abbrev delta (x0 : FVec Ideal S440x128 .f32) (x1 : FVec Ideal S440x128 .f32) (x2 : FVec Ideal S440x128 .f32) (x3 : FVec Ideal S440x128 .f32) :=
  (mulf (broadcastInDim S440x128 ![] bcast_S_S440x128 (constant S_ .f32 0xBA83126F#32)) (addf (Host.divf (Host.divf (addf (mulf (broadcastInDim S440x128 ![] bcast_S_S440x128 (constant S_ .f32 0x3F666666#32)) (x2)) (mulf (broadcastInDim S440x128 ![] bcast_S_S440x128 (constant S_ .f32 0x3DCCCCCD#32)) (x1))) (broadcastInDim S440x128 ![] bcast_S_S440x128 (constant S_ .f32 0x3F26BD02#32))) (addf (Host.sqrt (Host.divf (addf (mulf (broadcastInDim S440x128 ![] bcast_S_S440x128 (constant S_ .f32 0x3F7FBE77#32)) (x3)) (mulf (broadcastInDim S440x128 ![] bcast_S_S440x128 (constant S_ .f32 0x3A83126F#32)) (mulf (x1) (x1)))) (broadcastInDim S440x128 ![] bcast_S_S440x128 (constant S_ .f32 0x3C231ACC#32)))) (broadcastInDim S440x128 ![] bcast_S_S440x128 (constant S_ .f32 0x322BCC77#32)))) (mulf (broadcastInDim S440x128 ![] bcast_S_S440x128 (constant S_ .f32 0x3C23D70A#32)) (x0))) : FVec Ideal S440x128 .f32)

/-- The reference's new first moment. -/
abbrev moment (x1 : FVec Ideal S440x128 .f32) (x2 : FVec Ideal S440x128 .f32) :=
  (addf (mulf (broadcastInDim S440x128 ![] bcast_S_S440x128 (constant S_ .f32 0x3F666666#32)) (x2)) (mulf (broadcastInDim S440x128 ![] bcast_S_S440x128 (constant S_ .f32 0x3DCCCCCD#32)) (x1)) : FVec Ideal S440x128 .f32)

/-- The reference's new second moment. -/
abbrev second (x1 : FVec Ideal S440x128 .f32) (x3 : FVec Ideal S440x128 .f32) :=
  (addf (mulf (broadcastInDim S440x128 ![] bcast_S_S440x128 (constant S_ .f32 0x3F7FBE77#32)) (x3)) (mulf (broadcastInDim S440x128 ![] bcast_S_S440x128 (constant S_ .f32 0x3A83126F#32)) (mulf (x1) (x1))) : FVec Ideal S440x128 .f32)

end Cert.AdamSmallRefIdeal.Term

namespace Cert.AdamSmallIdeal.Optimiser

open Cert.AdamSmallIdeal Cert.AdamSmallIdeal.Gen

variable (m : (ℓ : Loc nD τ sig) → Buf (Elt Ideal) ℓ)

/-- The windows' block indices at every grid point. -/
theorem idx : ∀ t : Fin cfg0.N,
    win0_0.index t = ![(grid0.coords t 0).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val] :=
  (by decide +kernel : ∀ t : Fin grid0.N, _)

/-- What the body stores at an index of point `t`'s block is the step at the array index it sits at. -/
theorem point_delta (c : Dev nD) (t : Fin cfg0.N) (y) : k0_pay3 (iblk m c 1 t) (iblk m c 2 t) (iblk m c 3 t) (iblk m c 0 t) y
    = Cert.AdamSmallRefIdeal.Term.delta (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.AdamSmallRefIdeal.Term.delta]
  blk_point [iblk, V, idx t]

/-- The blocks tile the result array. -/
theorem final_delta (c : Dev nD) : (dats m 0 c).arrAt 4 (cfgs 0).N
    = Cert.AdamSmallRefIdeal.Term.delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_delta m c t y

/-- What the body stores at an index of point `t`'s block is the new first moment at the array index it sits at. -/
theorem point_moment (c : Dev nD) (t : Fin cfg0.N) (y) : k0_pay1 (iblk m c 1 t) (iblk m c 2 t) y
    = Cert.AdamSmallRefIdeal.Term.moment (m ((c : Thread nD τ).loc main_arg1)) (m ((c : Thread nD τ).loc main_arg2)) (((cfg0.win 5).blk t).view.emb y) := by
  pointwise [k0_pay1, k0_pay2, k0_pay3, Cert.AdamSmallRefIdeal.Term.moment]
  blk_point [iblk, V, idx t]

/-- The blocks tile the result array. -/
theorem final_moment (c : Dev nD) : (dats m 0 c).arrAt 5 (cfgs 0).N
    = Cert.AdamSmallRefIdeal.Term.moment (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point_moment m c t y

/-- What the body stores at an index of point `t`'s block is the new second moment at the array index it sits at. -/
theorem point_second (c : Dev nD) (t : Fin cfg0.N) (y) : k0_pay2 (iblk m c 1 t) (iblk m c 3 t) y
    = Cert.AdamSmallRefIdeal.Term.second (m ((c : Thread nD τ).loc main_arg1)) (m ((c : Thread nD τ).loc main_arg3)) (((cfg0.win 6).blk t).view.emb y) := by
  pointwise [k0_pay1, k0_pay2, k0_pay3, Cert.AdamSmallRefIdeal.Term.second]
  blk_point [iblk, V, idx t]

/-- The blocks tile the result array. -/
theorem final_second (c : Dev nD) : (dats m 0 c).arrAt 6 (cfgs 0).N
    = Cert.AdamSmallRefIdeal.Term.second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point_second m c t y

/-- The gradient is handed on as it came. -/
theorem final_gradient (c : Dev nD) : (dats m 0 c).arrAt 7 (cfgs 0).N
    = m ((c : Thread nD τ).loc main_arg1) := by
  refine (dats m 0 c).arrAt_eq_of_covers 7 _ (by decide +kernel) fun t _ y => ?_
  blk_simp
  rw [after0_7]
  frame_out
  blk_point [iblk, V, idx t]

end Cert.AdamSmallIdeal.Optimiser

end
-- ==== Proof.BranchNorm.lean ====
/- The layer norm and the activation of the convolution branch. -/
module

public import proofs.«01_k».proof.Proof.Gen.CfNormFwdIdeal.Frame
public import proofs.«01_k».proof.Proof.Gen.CfNormFwdRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.CfNormFwdRefIdeal.Term

open Cert.CfNormFwdRefIdeal Cert.CfNormFwdRefIdeal.Gen

/-- The reference's term: the branch normalised. -/
abbrev out (x0 : FVec Ideal S2048x512 .f32) (x1 : FVec Ideal S4x1x512 .f32) (x2 : FVec Ideal S4x1x512 .f32) :=
  (truncf .bf16 (mulf (addf (mulf (mulf (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32))))) (broadcastInDim S2048x512 ![0, 1] bcast_S2048x1_S2048x512_0_1 (Host.rsqrt (addf (Host.divf (broadcastInDim S2048x1 ![0] bcast_S2048_S2048x1_0 (Host.reduceAdd (mulf (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32))))) (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32)))))) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x3727C5AC#32)))))) (broadcastInDim S2048x512 ![0, 1] bcast_S1x512_S2048x512_0_1 (shapeCast _ (extractStridedSlice S1x1x512 ![0, 0, 0] (x1) slices_S4x1x512_S1x1x512_0_0_0) shapeCasts_S1x1x512_S1x512))) (broadcastInDim S2048x512 ![0, 1] bcast_S1x512_S2048x512_0_1 (shapeCast _ (extractStridedSlice S1x1x512 ![0, 0, 0] (x2) slices_S4x1x512_S1x1x512_0_0_0) shapeCasts_S1x1x512_S1x512))) (Host.divf (broadcastInDim S2048x512 ![] bcast_S_S2048x512 (constant S_ .f32 0x3F800000#32)) (addf (broadcastInDim S2048x512 ![] bcast_S_S2048x512 (constant S_ .f32 0x3F800000#32)) (Host.exp (Host.negf (addf (mulf (mulf (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32))))) (broadcastInDim S2048x512 ![0, 1] bcast_S2048x1_S2048x512_0_1 (Host.rsqrt (addf (Host.divf (broadcastInDim S2048x1 ![0] bcast_S2048_S2048x1_0 (Host.reduceAdd (mulf (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32))))) (subf (x0) (broadcastInDim S2048x512 ![0, 1] bcast_S2048x1_S2048x512_0_1 (Host.divf (broadcastInDim S2048x1 ![0] bcast_S2048_S2048x1_0 (Host.reduceAdd (x0) (constant S_ .f32 0x00000000#32) reducesTo_S2048x512_S2048_d1 h_S_)) (broadcastInDim S2048x1 ![] bcast_S_S2048x1 (constant S_ .f32 0x44000000#32)))))) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x3727C5AC#32)))))) (broadcastInDim S2048x512 ![0, 1] bcast_S1x512_S2048x512_0_1 (shapeCast _ (extractStridedSlice S1x1x512 ![0, 0, 0] (x1) slices_S4x1x512_S1x1x512_0_0_0) shapeCasts_S1x1x512_S1x512))) (broadcastInDim S2048x512 ![0, 1] bcast_S1x512_S2048x512_0_1 (shapeCast _ (extractStridedSlice S1x1x512 ![0, 0, 0] (x2) slices_S4x1x512_S1x1x512_0_0_0) shapeCasts_S1x1x512_S1x512)))))))) bitsLt_bf16_f32 : FVec Ideal S2048x512 .bf16)

end Cert.CfNormFwdRefIdeal.Term

namespace Cert.CfNormFwdIdeal.Norm

open Cert.CfNormFwdIdeal Cert.CfNormFwdIdeal.Gen

variable (m : (ℓ : Loc nD τ sig) → Buf (Elt Ideal) ℓ)

/-- The windows' block indices at every grid point. -/
theorem idx : ∀ t : Fin cfg0.N, win0_0.index t = ![t.val, 0]
    ∧ win0_1.index t = ![0, 0, 0]
    ∧ win0_2.index t = ![0, 0, 0]
    ∧ win0_3.index t = ![t.val, 0] :=
  (by decide +kernel : ∀ t : Fin grid0.N, _)

/-- What the body stores at an index of point `t`'s block is the reference's term at the array index it sits at. -/
theorem point_out (c : Dev nD) (t : Fin cfg0.N) (y) : k0_pay1 (iblk m c 0 t) (iblk m c 1 t) (iblk m c 2 t) y
    = Cert.CfNormFwdRefIdeal.Term.out (m ((c : Thread nD τ).loc main_arg0)) (m ((c : Thread nD τ).loc main_arg1)) (m ((c : Thread nD τ).loc main_arg2)) (((cfg0.win 3).blk t).view.emb y) := by
  pointwise [k0_pay1, Cert.CfNormFwdRefIdeal.Term.out]
  simp only [zero_sub]
  blk_point [iblk, V, idx t]

theorem final_out (c : Dev nD) : (dats m 0 c).arrAt 3 (cfgs 0).N
    = Cert.CfNormFwdRefIdeal.Term.out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point_out m c t y

end Cert.CfNormFwdIdeal.Norm

end
-- ==== Proof.RootMeanSquare.lean ====
/- The root mean square of a row, and the gradient of the normalisation by it: the arithmetic both sides of a claim meet in. -/
module

public import Idealize.ShloMosaic.Lib.Pipeline.ValueKit
public import Idealize.ShloMosaic.PureOps.Ideal.Laws

@[expose] public section

noncomputable section

open Idealize.ShloMosaic

namespace Cert.RootMeanSquare

theorem word_width : Ideal.ofBits .f32 0x45000000#32 = ((2048 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_minus_half : Ideal.ofBits .f32 0xBF000000#32 = ((-(1 / 2) : ℝ) : EReal) := by
  simp [Ideal.ofBits, Ideal.ieee, -EReal.coe_mul]; norm_num

theorem word_epsilon_pos : 0 < Ideal.ofBits .f32 0x358637BD#32 := by
  simp [Ideal.ofBits, Ideal.ieee, -EReal.coe_mul]

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- The mean square of a row, and the constant that keeps it from zero. -/
def meanSquare (x : Fin 2048 → EReal) : EReal :=
  Ideal.div (∑ k, x k * x k) (Ideal.ofBits .f32 0x45000000#32) + Ideal.ofBits .f32 0x358637BD#32

theorem meanSquare_pos (x : Fin 2048 → EReal) : 0 < meanSquare x := by
  refine lt_of_lt_of_le word_epsilon_pos (le_add_of_nonneg_left ?_)
  rw [word_width, Ideal.div_coe (by norm_num)]
  exact mul_nonneg (Finset.sum_nonneg fun k _ => square_nonneg _) (by exact_mod_cast (by norm_num : (0 : ℝ) ≤ 1 / 2048))

/-- The factor a row is normalised by. -/
def factor (x : Fin 2048 → EReal) : EReal := Ideal.rsqrt (meanSquare x)

/-- The derivative of the reciprocal root, in the two forms. -/
theorem rsqrt_div (v : EReal) (h : 0 < v) : Ideal.div (Ideal.rsqrt v) v = Ideal.rsqrt v * Ideal.rsqrt v * Ideal.rsqrt v := by
  induction v with
  | bot => exact absurd h (by simp)
  | top => simp [Ideal.div]
  | coe r =>
    have hr : 0 < r := by exact_mod_cast h
    have hs : Real.sqrt r * Real.sqrt r = r := Real.mul_self_sqrt hr.le
    rw [Ideal.rsqrt_coe, if_neg hr.not_gt, if_neg hr.ne', Ideal.div_coe hr.ne']
    rw [← EReal.coe_mul, ← EReal.coe_mul, ← EReal.coe_mul]
    congr 1
    rw [one_div, mul_assoc, ← mul_inv (Real.sqrt r) (Real.sqrt r), hs]

/-- The gradient of a row `x` normalised and multiplied by the gain `g`, at the row's gradient `dy`. -/
def gradient (dy g x : Fin 2048 → EReal) (j : Fin 2048) : EReal :=
  factor x * (dy j * g j)
    - x j * (factor x * factor x * factor x) * Ideal.div (∑ k, dy k * g k * x k) (Ideal.ofBits .f32 0x45000000#32)

/-- The same as the reference has it: the factor's derivative times that of the mean square. -/
theorem gradient_eq (dy g x : Fin 2048 → EReal) (j : Fin 2048) :
    dy j * g j * factor x
      + Ideal.div ((∑ k, x k * (dy k * g k)) * (Ideal.ofBits .f32 0xBF000000#32 * Ideal.div (factor x) (meanSquare x)))
          (Ideal.ofBits .f32 0x45000000#32) * (Ideal.ofBits .f32 0x40000000#32 * x j)
      = gradient dy g x j := by
  have hd : Ideal.div (factor x) (meanSquare x) = factor x * factor x * factor x := rsqrt_div _ (meanSquare_pos x)
  have hs : (∑ k, x k * (dy k * g k)) = ∑ k, dy k * g k * x k := Finset.sum_congr rfl fun k _ => mul_comm _ _
  rw [gradient, hd, hs, sub_eq_add_neg, mul_comm (dy j * g j) (factor x)]
  congr 1
  generalize factor x * factor x * factor x = q
  generalize (∑ k, dy k * g k * x k) = a
  rw [word_minus_half, word_two, word_width, Ideal.div_coe (by norm_num), Ideal.div_coe (by norm_num)]
  generalize (((1 : ℝ) / 2048 : ℝ) : EReal) = n
  have h1 : a * (((-(1 / 2) : ℝ) : EReal) * q) * n * (((2 : ℝ) : EReal) * x j)
      = ((-(1 / 2) : ℝ) : EReal) * ((2 : ℝ) : EReal) * (x j * q * (a * n)) := by ac_rfl
  have h2 : ((-(1 / 2) : ℝ) : EReal) * ((2 : ℝ) : EReal) = -1 := by
    rw [← EReal.coe_mul, show (-(1 / 2) : ℝ) * 2 = -1 by norm_num]; rfl
  rw [h1, h2, neg_one_mul]

end Cert.RootMeanSquare

end
-- ==== Proof.LossHead.lean ====
/- The loss head: the last layer joins the stream, and the loss of a sequence and its gradient are taken of the result. -/
module

public import proofs.«01_k».proof.Proof.Gen.LossHeadIdeal.Frame
public import proofs.«01_k».proof.Proof.Gen.LossHeadRefIdeal
public import proofs.«01_k».proof.Proof.RootMeanSquare
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.LossHeadRefIdeal.Term

open Cert.LossHeadRefIdeal Cert.LossHeadRefIdeal.Gen

/-- The reference's gradient of the last stream. -/
abbrev gradient (x0 : FVec Ideal S2048x2048 .f32) (x1 : FVec Ideal S2048x2048 .f32) (x2 : FVec Ideal S4x1x2048 .f32) (x3 : FVec Ideal S2048x2048 .f32) :=
  (mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![3, 0, 0] (x2) slices_S4x1x2048_S1x1x2048_3_0_0) shapeCasts_S1x1x2048_S1x2048)))) (x3))) : FVec Ideal S2048x2048 .f32)

/-- The reference's loss. -/
abbrev total (x0 : FVec Ideal S2048x2048 .f32) (x1 : FVec Ideal S2048x2048 .f32) (x2 : FVec Ideal S4x1x2048 .f32) (x3 : FVec Ideal S2048x2048 .f32) :=
  (broadcastInDim S8x128 ![] bcast_S_S8x128 (mulf (constant S_ .f32 0x3F000000#32) (Host.reduceAdd (Host.divf (Host.reduceAdd (mulf (subf (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![3, 0, 0] (x2) slices_S4x1x2048_S1x1x2048_3_0_0) shapeCasts_S1x1x2048_S1x2048)))) (x3)) (subf (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![3, 0, 0] (x2) slices_S4x1x2048_S1x1x2048_3_0_0) shapeCasts_S1x1x2048_S1x2048)))) (x3))) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_)) : FVec Ideal S8x128 .f32)

end Cert.LossHeadRefIdeal.Term

namespace Cert.LossHeadIdeal.Loss

open Cert.LossHeadIdeal Cert.LossHeadIdeal.Gen Cert.RootMeanSquare

variable (m : (ℓ : Loc nD τ sig) → Buf (Elt Ideal) ℓ)

/-- The windows' block indices at every grid point. -/
theorem idx : ∀ t : Fin cfg0.N, win0_0.index t = ![t.val, 0] ∧ win0_1.index t = ![t.val, 0]
    ∧ win0_2.index t = ![3, 0, 0] ∧ win0_3.index t = ![t.val, 0] ∧ win0_4.index t = ![t.val, 0] ∧ win0_5.index t = ![0, 0] :=
  (by decide +kernel : ∀ t : Fin grid0.N, _)

/-- How far a row of the stream, its layer's output normalised and added, is from its target. -/
def miss (x f g y : Fin 2048 → EReal) (i : Fin 2048) : EReal := x i + f i * factor f * g i - y i

/-- The mean square of a row. -/
def rowLoss (d : Fin 2048 → EReal) : EReal := Ideal.div (∑ i, d i * d i) (Ideal.ofBits .f32 0x45000000#32)

theorem rowLoss_nonneg (d : Fin 2048 → EReal) : 0 ≤ rowLoss d := by
  rw [rowLoss, word_width, Ideal.div_coe (by norm_num)]
  exact mul_nonneg (Finset.sum_nonneg fun k _ => square_nonneg _) (by exact_mod_cast (by norm_num : (0 : ℝ) ≤ 1 / 2048))

/-- A factor is taken out of a sum of terms that are not negative. -/
theorem mul_sum_of_nonneg {ι : Type} (s : Finset ι) (a : EReal) (f : ι → EReal) (h : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (h i) (Finset.sum_nonneg fun k _ => h k), ih]

theorem word_half : Ideal.ofBits .f32 0x3F000000#32 = ((1 / 2 : ℝ) : EReal) := by
  simp [Ideal.ofBits, Ideal.ieee, -EReal.coe_mul]; norm_num

theorem word_inverse_width : Ideal.ofBits .f32 0x3A000000#32 = ((1 / 2048 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

/-- The two factors the reference differentiates a half of a mean square with are the one the kernel multiplies by. -/
theorem scale (d : EReal) :
    Ideal.div (Ideal.ofBits .f32 0x3F000000#32 * Ideal.ofBits .f32 0x3F800000#32) (Ideal.ofBits .f32 0x45000000#32)
      * (Ideal.ofBits .f32 0x40000000#32 * d) = d * Ideal.ofBits .f32 0x3A000000#32 := by
  rw [word_half, word_one, word_two, word_width, word_inverse_width, Ideal.div_coe (by norm_num), ← mul_assoc,
    ← EReal.coe_mul, ← EReal.coe_mul, ← EReal.coe_mul, mul_comm]
  congr 2
  norm_num

theorem block_apply (x0 x1 : FVec Ideal S256x2048 .f32) (x2 : FVec Ideal S1x1x2048 .f32) (x3 : FVec Ideal S256x2048 .f32) (j : S256x2048.Idx) :
    k0_pay4 (F := Ideal) x0 x1 x2 x3 j = miss (fun i => x0 (ix2 (j 0) i)) (fun i => x1 (ix2 (j 0) i)) (fun i => x2 (ix3 0 0 i)) (fun i => x3 (ix2 (j 0) i)) (j 1) * Ideal.ofBits .f32 0x3A000000#32 := by
  pointwise [k0_pay4, k0_pay3, miss, factor, meanSquare]

theorem gradient_apply (x0 x1 : FVec Ideal S2048x2048 .f32) (x2 : FVec Ideal S4x1x2048 .f32) (x3 : FVec Ideal S2048x2048 .f32) (j : S2048x2048.Idx) :
    Cert.LossHeadRefIdeal.Term.gradient x0 x1 x2 x3 j = miss (fun i => x0 (ix2 (j 0) i)) (fun i => x1 (ix2 (j 0) i)) (fun i => x2 (ix3 3 0 i)) (fun i => x3 (ix2 (j 0) i)) (j 1) * Ideal.ofBits .f32 0x3A000000#32 := by
  refine Eq.trans ?_ (scale _)
  pointwise [Cert.LossHeadRefIdeal.Term.gradient, miss, factor, meanSquare]

theorem step_apply (x0 x1 : FVec Ideal S256x2048 .f32) (x2 : FVec Ideal S1x1x2048 .f32) (x3 : FVec Ideal S256x2048 .f32) (acc : FVec Ideal S8x128 .f32) (j : S8x128.Idx) :
    k0_pay1 (F := Ideal) (k0_pay5 acc) (k0_pay6 x0 x1 x2 x3) j
      = acc j + ∑ k : Fin 256, Ideal.ofBits .f32 0x3F000000#32 * rowLoss (miss (fun i => x0 (ix2 k i)) (fun i => x1 (ix2 k i)) (fun i => x2 (ix3 0 0 i)) (fun i => x3 (ix2 k i))) := by
  rw [← mul_sum_of_nonneg _ _ _ fun k => rowLoss_nonneg _]
  pointwise [k0_pay1, k0_pay5, k0_pay6, k0_pay3, rowLoss, miss, factor, meanSquare]
  simp only [Fin.sum_univ_one]

theorem zero_apply (j : S8x128.Idx) : k0_pay2 (F := Ideal) j = 0 := by
  pointwise [k0_pay2]

theorem total_apply (x0 x1 : FVec Ideal S2048x2048 .f32) (x2 : FVec Ideal S4x1x2048 .f32) (x3 : FVec Ideal S2048x2048 .f32) (j : S8x128.Idx) :
    Cert.LossHeadRefIdeal.Term.total x0 x1 x2 x3 j = ∑ k : Fin 2048, Ideal.ofBits .f32 0x3F000000#32 * rowLoss (miss (fun i => x0 (ix2 k i)) (fun i => x1 (ix2 k i)) (fun i => x2 (ix3 3 0 i)) (fun i => x3 (ix2 k i))) := by
  rw [← mul_sum_of_nonneg _ _ _ fun k => rowLoss_nonneg _]
  pointwise [Cert.LossHeadRefIdeal.Term.total, rowLoss, miss, factor, meanSquare]

/-- The block of rows point `t` leaves, the first point or a later one. -/
theorem rows (c : Dev nD) (t : Fin cfg0.N) (y) : (outsAt0 m c t.val t.isLt).1 y
    = k0_pay4 (F := Ideal) (iblk m c 0 t) (iblk m c 1 t) (iblk m c 2 t) (iblk m c 3 t) y := by
  by_cases h : t.val % 8 = 0
  · rw [outsAt0_A m c t h]; frame_out
  · rw [outsAt0_B m c t h]; frame_out

theorem final_gradient (c : Dev nD) : (dats m 0 c).arrAt 4 (cfgs 0).N
    = Cert.LossHeadRefIdeal.Term.gradient (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, rows, block_apply, gradient_apply]
  blk_point [iblk, V, idx t]

theorem final_total (c : Dev nD) : (dats m 0 c).arrAt 5 (cfgs 0).N
    = Cert.LossHeadRefIdeal.Term.total (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5,
    Pipeline.eq_sum_fin_of_reset_step_apply_of_flush (fun n h => (outsAt0 m c n h).2) 8 (fun _ => 0)
      (fun p _ => ∑ k : Fin 256, Ideal.ofBits .f32 0x3F000000#32 * rowLoss (miss (fun i => (show FVec Ideal S256x2048 .f32 from iblk m c 0 p) (ix2 k i)) (fun i => (show FVec Ideal S256x2048 .f32 from iblk m c 1 p) (ix2 k i)) (fun i => (show FVec Ideal S1x1x2048 .f32 from iblk m c 2 p) (ix3 0 0 i)) (fun i => (show FVec Ideal S256x2048 .f32 from iblk m c 3 p) (ix2 k i))))
      (fun t h j => by
        rw [outsAt0_A m c t h]; frame_out
        exact (step_apply _ _ _ _ _ j).trans (congrArg (· + _) (zero_apply j)))
      (fun t h j => by
        rw [outsAt0_B m c t h]; frame_out
        exact step_apply _ _ _ _ _ j)
      t ((flush0_5 t).mp hf) _, zero_add]
  rw [total_apply]
  refine Fin.sum_mul_add_congr fun s k hl => ?_
  blk_point [iblk, V, idx t, idx ⟨_, Pipeline.run_point_lt_of_flush t ((flush0_5 t).mp hf) s⟩]

end Cert.LossHeadIdeal.Loss

end
-- ==== Proof.LossIdealBody.lean ====
/- The loss head's body over its grid, for whatever the core may owe the others meanwhile. -/
module

public import proofs.«01_k».proof.Proof.Gen.LossIdeal.Skeleton
public import proofs.«01_k».proof.Proof.Gen.LossIdeal.Launch
public import proofs.«01_k».proof.Proof.Gen.LossIdeal.Points
public import Idealize.ShloMosaic.Lib.Pipeline.Frame
public import Idealize.ShloMosaic.Lib.Pipeline.FrameBody
public import Idealize.ShloMosaic.Lib.Pipeline.ValueKit
public import Idealize.ShloMosaic.Lib.Tactic
public import Idealize.ShloMosaic.Lib.Ring

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

namespace Cert.LossIdeal.Sum

open Cert.LossIdeal Cert.LossIdeal.Gen

variable {F : FTy → Type} [FloatOps F]
variable {Ix : Type} [DecidableEq Ix] {U : Type} [URA U] {Lvl : Type} [Preorder Lvl]

local notation "𝕄" => MT nD τ sig Ix (Elt F) ℕ U Lvl

/-- What a point adds to the running loss `a`. -/
def step (x0 x1 : Vec F S256x2048 .f32) (x2 : Vec F S1x1x2048 .f32) (x3 : Vec F S256x2048 .f32) (a : Vec F S8x128 .f32) : Vec F S8x128 .f32 :=
  k0_pay1 (k0_pay5 a) (k0_pay6 x0 x1 x2 x3)

/-- The body starts the loss anew at the first point. -/
abbrev starts (i : grid0.Coords) : Prop :=
  Scalar.cmpi .ne (Scalar.extui (Scalar.cmpi .eq (BitVec.ofNat 32 (i 0).val) 0#32)) 0#32 = 1#1

theorem starts_iff : ∀ t : Fin cfg0.N, starts (grid0.coords t) ↔ t.val = 0 :=
  (by decide +kernel : ∀ t : Fin grid0.N, _)

/-- The body at the first point. -/
theorem body_first (c : Dev nD) (i : grid0.Coords) (a1 : Memref sig .tc .vmem S256x2048 .f32) (h1 : a1.IsWhole) (a2 : Memref sig .tc .vmem S256x2048 .f32) (h2 : a2.IsWhole)
    (a3 : Memref sig .tc .vmem S1x1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S8x128 .f32) (h6 : a6.IsWhole) (hi : starts i)
    (x0 x1 : Vec F S256x2048 .f32) (x2 : Vec F S1x1x2048 .f32) (x3 : Vec F S256x2048 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (k0_pay4 x0 x1 x2 x3) ∗ owns (c : Thread nD τ) a6 fullShare (step x0 x1 x2 x3 (k0_pay2 (F := F)))) -∗ K ⟨⟩))
      ⊢ wp frame (wpE (defs₀ (F := F)) Variants.none c none) E (cc0_loss_head i a1 h1 a2 h2 a3 h3 a4 h4 a5 h5 a6 h6) K := by
  simp only [cc0_loss_head_eq_skeleton]; unfold cc0_loss_head_skel
  simp only [k0_part1_eq_skeleton]
  unfold owns
  iintro ⟨⟨%f0, %e0, H0⟩, ⟨%f1, %e1, H1⟩, ⟨%f2, %e2, H2⟩, ⟨%f3, %e3, H3⟩, ⟨%d4, %f4, -, H4⟩, ⟨%d5, %f5, -, H5⟩, Hk⟩
  obtain rfl := h1.eq_unread e0; obtain rfl := h2.eq_unread e1; obtain rfl := h3.eq_unread e2; obtain rfl := h4.eq_unread e3
  sl_exec (disch := first | sl_exact hi)
  sl_step
  iapply Hk
  isplitl [H0]
  · iexists _; isplitr
    swap; · iexact H0
    ipureintro; exact e0
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro
    rw [View.read_writes_eq_canon _ _ _ (fun y => View.cover_of_tiledL _ S256x2048.size (by sl_kernel_rfl) y)]
    frame_out
  iexists _; isplitr
  swap; · iexact H5
  ipureintro
  rw [View.read_writes_eq_canon _ _ _ (fun y => View.cover_of_tiledL _ S8x128.size (by sl_kernel_rfl) y)]
  frame_out
  rfl

/-- The body at a later point, the loss so far in place. -/
theorem body_later (c : Dev nD) (i : grid0.Coords) (a1 : Memref sig .tc .vmem S256x2048 .f32) (h1 : a1.IsWhole) (a2 : Memref sig .tc .vmem S256x2048 .f32) (h2 : a2.IsWhole)
    (a3 : Memref sig .tc .vmem S1x1x2048 .f32) (h3 : a3.IsWhole) (a4 : Memref sig .tc .vmem S256x2048 .f32) (h4 : a4.IsWhole)
    (a5 : Memref sig .tc .vmem S256x2048 .f32) (h5 : a5.IsWhole) (a6 : Memref sig .tc .vmem S8x128 .f32) (h6 : a6.IsWhole) (hi : ¬ starts i)
    (x0 x1 : Vec F S256x2048 .f32) (x2 : Vec F S1x1x2048 .f32) (x3 : Vec F S256x2048 .f32) (a : Vec F S8x128 .f32) (E : Set ℕ) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d) ∗ owns (c : Thread nD τ) a6 fullShare a
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (k0_pay4 x0 x1 x2 x3) ∗ owns (c : Thread nD τ) a6 fullShare (step x0 x1 x2 x3 a)) -∗ K ⟨⟩))
      ⊢ wp frame (wpE (defs₀ (F := F)) Variants.none c none) E (cc0_loss_head i a1 h1 a2 h2 a3 h3 a4 h4 a5 h5 a6 h6) K := by
  simp only [cc0_loss_head_eq_skeleton]; unfold cc0_loss_head_skel
  simp only [k0_part1_eq_skeleton]
  unfold owns
  iintro ⟨⟨%f0, %e0, H0⟩, ⟨%f1, %e1, H1⟩, ⟨%f2, %e2, H2⟩, ⟨%f3, %e3, H3⟩, ⟨%d4, %f4, -, H4⟩, ⟨%f5, %e5, H5⟩, Hk⟩
  obtain rfl := h1.eq_unread e0; obtain rfl := h2.eq_unread e1; obtain rfl := h3.eq_unread e2; obtain rfl := h4.eq_unread e3; obtain rfl := h6.eq_unread e5
  sl_exec (disch := first | sl_exact hi)
  sl_step
  iapply Hk
  isplitl [H0]
  · iexists _; isplitr
    swap; · iexact H0
    ipureintro; exact e0
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro
    rw [View.read_writes_eq_canon _ _ _ (fun y => View.cover_of_tiledL _ S256x2048.size (by sl_kernel_rfl) y)]
    frame_out
  iexists _; isplitr
  swap; · iexact H5
  ipureintro
  rw [View.read_writes_eq_canon _ _ _ (fun y => View.cover_of_tiledL _ S8x128.size (by sl_kernel_rfl) y)]
  frame_out
  rfl

variable (m : (ℓ : Loc nD τ sig) → Buf (Elt F) ℓ)

/-- The block of window `w`'s array at point `t`. -/
def blk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The running loss after point `n`. -/
def acc (c : Dev nD) : (n : ℕ) → n < cfg0.N → Vec F S8x128 .f32
  | 0, h => step (blk m c 0 ⟨0, h⟩) (blk m c 1 ⟨0, h⟩) (blk m c 2 ⟨0, h⟩) (blk m c 3 ⟨0, h⟩) (k0_pay2 (F := F))
  | n + 1, h => step (blk m c 0 ⟨n + 1, h⟩) (blk m c 1 ⟨n + 1, h⟩) (blk m c 2 ⟨n + 1, h⟩) (blk m c 3 ⟨n + 1, h⟩) (acc c n (Nat.lt_of_succ_lt h))

theorem acc_first (c : Dev nD) (t : Fin cfg0.N) (h : t.val = 0) :
    acc m c t.val t.isLt = step (blk m c 0 t) (blk m c 1 t) (blk m c 2 t) (blk m c 3 t) (k0_pay2 (F := F)) := by
  obtain ⟨n, hn⟩ := t
  cases n with
  | zero => rfl
  | succ n => exact absurd h (Nat.succ_ne_zero n)

theorem acc_later (c : Dev nD) (t : Fin cfg0.N) (h : t.val ≠ 0) :
    acc m c t.val t.isLt = step (blk m c 0 t) (blk m c 1 t) (blk m c 2 t) (blk m c 3 t) (acc m c (t.val - 1) (Nat.lt_of_le_of_lt (Nat.sub_le _ _) t.isLt)) := by
  obtain ⟨n, hn⟩ := t
  cases n with
  | zero => exact absurd rfl h
  | succ n => rfl

/-- The launch's proof data: the arrays as they are found, what every point leaves, and the core owing `D` throughout. -/
def dat (D : Dev nD → CellTallies nD τ sig Ix) (c : Dev nD) : Dat τ (Elt F) Ix ℕ U Lvl cfg0 c where
  A w := m ((c : Thread nD τ).loc (Pipeline.arrRef spec0 w))
  after w t := match w with
    | ⟨0, _⟩ => blk m c 0 t
    | ⟨1, _⟩ => blk m c 1 t
    | ⟨2, _⟩ => blk m c 2 t
    | ⟨3, _⟩ => blk m c 3 t
    | ⟨4, _⟩ => k0_pay4 (blk m c 0 t) (blk m c 1 t) (blk m c 2 t) (blk m c 3 t)
    | ⟨5, _⟩ => acc m c t.val t.isLt
  Φ _ := iprop(Pipeline.scopedRest spec0 c ∗ ∃ r, prngReg c r)
  q _ := fullShare
  owed _ := D c

variable (D : Dev nD → CellTallies nD τ sig Ix)

local notation "𝔡" => dat (U := U) (Lvl := Lvl) m D

theorem before_0 (c : Dev nD) (t : Fin cfg0.N) (d) : (𝔡 c).before 0 t d = blk m c 0 t :=
  ((𝔡 c).before_in_eq_fetched 0 rfl (fun _ => rfl) (fun _ _ _ => rfl) (fun t => by unfold Dat.blockOf; rfl) t d).trans (by unfold Dat.fetched Dat.blockOf; rfl)
theorem before_1 (c : Dev nD) (t : Fin cfg0.N) (d) : (𝔡 c).before 1 t d = blk m c 1 t :=
  ((𝔡 c).before_in_eq_fetched 1 rfl (fun _ => rfl) (fun _ _ _ => rfl) (fun t => by unfold Dat.blockOf; rfl) t d).trans (by unfold Dat.fetched Dat.blockOf; rfl)
theorem before_2 (c : Dev nD) (t : Fin cfg0.N) (d) : (𝔡 c).before 2 t d = blk m c 2 t :=
  ((𝔡 c).before_in_eq_fetched 2 rfl (fun _ => rfl) (fun _ _ _ => rfl) (fun t => by unfold Dat.blockOf; rfl) t d).trans (by unfold Dat.fetched Dat.blockOf; rfl)
theorem before_3 (c : Dev nD) (t : Fin cfg0.N) (d) : (𝔡 c).before 3 t d = blk m c 3 t :=
  ((𝔡 c).before_in_eq_fetched 3 rfl (fun _ => rfl) (fun _ _ _ => rfl) (fun t => by unfold Dat.blockOf; rfl) t d).trans (by unfold Dat.fetched Dat.blockOf; rfl)

/-- At a later point the running loss is what the point before left. -/
theorem before_loss (c : Dev nD) (t : Fin cfg0.N) (h : t.val ≠ 0) (d) :
    (𝔡 c).before 5 t d = acc m c (t.val - 1) (Nat.lt_of_le_of_lt (Nat.sub_le _ _) t.isLt) := by
  have hN : t.val < 8 := lt_of_lt_of_eq t.isLt (show cfg0.N = 8 from N_0)
  rw [Dat.before_out_kept _ 5 rfl t h (Bool.eq_false_iff.mpr fun h => by have := (flush0_5 _).mp h; dsimp only at this; omega)
    (fun _ => rfl) (fun _ _ => rfl)]
  dsimp only [dat]

abbrev M0 (t : Fin cfg0.N) : Memref sig .tc .vmem S256x2048 .f32 := win0_0.stage (cfg0.slots t 0)
abbrev M1 (t : Fin cfg0.N) : Memref sig .tc .vmem S256x2048 .f32 := win0_1.stage (cfg0.slots t 1)
abbrev M2 (t : Fin cfg0.N) : Memref sig .tc .vmem S1x1x2048 .f32 := win0_2.stage (cfg0.slots t 2)
abbrev M3 (t : Fin cfg0.N) : Memref sig .tc .vmem S256x2048 .f32 := win0_3.stage (cfg0.slots t 3)
abbrev M4 (t : Fin cfg0.N) : Memref sig .tc .vmem S256x2048 .f32 := win0_4.stage (cfg0.slots t 4)
abbrev M5 (t : Fin cfg0.N) : Memref sig .tc .vmem S8x128 .f32 := win0_5.stage (cfg0.slots t 5)

/-- What the body is given at point `t`. -/
def given (ι : Ix) (c : Dev nD) (t : Fin cfg0.N) : sProp 𝕄 :=
  iprop((𝔡 c).Φ t.castSucc ∗ (𝔡 c).owesAt ι t.castSucc
    ∗ (∃ d, owns (c : Thread nD τ) (M0 t) fullShare ((𝔡 c).before 0 t d)) ∗ (∃ d, owns (c : Thread nD τ) (M1 t) fullShare ((𝔡 c).before 1 t d))
    ∗ (∃ d, owns (c : Thread nD τ) (M2 t) fullShare ((𝔡 c).before 2 t d)) ∗ (∃ d, owns (c : Thread nD τ) (M3 t) fullShare ((𝔡 c).before 3 t d))
    ∗ (∃ d, owns (c : Thread nD τ) (M4 t) fullShare ((𝔡 c).before 4 t d)) ∗ (∃ d, owns (c : Thread nD τ) (M5 t) fullShare ((𝔡 c).before 5 t d)))

/-- What it leaves. -/
def left (ι : Ix) (c : Dev nD) (t : Fin cfg0.N) : sProp 𝕄 :=
  iprop((𝔡 c).Φ t.succ ∗ (𝔡 c).owesAt ι t.succ
    ∗ owns (c : Thread nD τ) (M0 t) fullShare ((𝔡 c).after 0 t) ∗ owns (c : Thread nD τ) (M1 t) fullShare ((𝔡 c).after 1 t)
    ∗ owns (c : Thread nD τ) (M2 t) fullShare ((𝔡 c).after 2 t) ∗ owns (c : Thread nD τ) (M3 t) fullShare ((𝔡 c).after 3 t)
    ∗ owns (c : Thread nD τ) (M4 t) fullShare ((𝔡 c).after 4 t) ∗ owns (c : Thread nD τ) (M5 t) fullShare ((𝔡 c).after 5 t))

theorem point (ι : Ix) (c : Dev nD) (t : Fin cfg0.N) :
    given m D ι c t ⊢ wp frame (wpE (defs₀ (F := F)) Variants.none c none) Set.univ (bodyAt0 t) (fun _ => (left m D ι c t : sProp 𝕄)) := by
  unfold given left
  simp only [before_0, before_1, before_2, before_3]
  rw [show (𝔡 c).Φ t.succ = (𝔡 c).Φ t.castSucc from rfl, show (𝔡 c).owesAt ι t.succ = (𝔡 c).owesAt ι t.castSucc from rfl,
    show (𝔡 c).after 0 t = blk m c 0 t from rfl, show (𝔡 c).after 1 t = blk m c 1 t from rfl, show (𝔡 c).after 2 t = blk m c 2 t from rfl,
    show (𝔡 c).after 3 t = blk m c 3 t from rfl, show (𝔡 c).after 4 t = k0_pay4 (blk m c 0 t) (blk m c 1 t) (blk m c 2 t) (blk m c 3 t) from rfl,
    show (𝔡 c).after 5 t = acc m c t.val t.isLt from rfl]
  by_cases h : t.val = 0
  · rw [acc_first m c t h]
    iintro ⟨HΦ, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ ((starts_iff t).mpr h) (blk m c 0 t) (blk m c 1 t) (blk m c 2 t) (blk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro H
    isplitl [HΦ]; · iexact HΦ
    isplitl [Ho]; · iexact Ho
    iexact H
  · rw [acc_later m c t h]
    simp only [before_loss m D c t h]
    iintro ⟨HΦ, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ (fun h' => h ((starts_iff t).mp h')) (blk m c 0 t) (blk m c 1 t) (blk m c 2 t) (blk m c 3 t) _ Set.univ _)
    isplitl [H0]; · iexact H0
    isplitl [H1]; · iexact H1
    isplitl [H2]; · iexact H2
    isplitl [H3]; · iexact H3
    isplitl [H4]; · iexists _; iexact H4
    isplitl [H5]; · iexact H5
    iintro H
    isplitl [HΦ]; · iexact HΦ
    isplitl [Ho]; · iexact Ho
    iexact H

theorem row (t : Fin cfg0.N) : defs₀ (F := F) .tc cfg0.body (cfg0.bodyArgs t (cfg0.slots t)) = bodyAt0 t := by
  unfold defs₀; rw [Defs.onTc_tc]

/-- The body keeps its launch's promise at every point. -/
theorem body (ι : Ix) (c : Dev nD) : BodyObligation (𝔡 c) (defs₀ (F := F)) Variants.none ι Set.univ := fun t => by
  rw [bigSep_W0, bigSep_W0, row]
  exact triple_restated (point m D ι c t) rfl .rfl fun _ => .rfl

end Cert.LossIdeal.Sum

end
-- ==== Proof.LossIdealRun.lean ====
/- The loss over the eight devices: each device's loss head, its total taken out, and the eight totals summed. -/
module

public import proofs.«01_k».proof.Proof.LossIdealBody
public import Idealize.ShloMosaic.Lib.Pipeline.Regions
public import Idealize.ShloMosaic.Lib.Pipeline.RegionArrays
public import Idealize.ShloMosaic.Lib.Pipeline.CollectiveSegs
public import Idealize.ShloMosaic.Lib.Pipeline.Kit
public import Idealize.ShloMosaic.Lib.StableHlo.CollectiveRules

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.LossIdeal.Sum

open Cert.LossIdeal Cert.LossIdeal.Gen
open Cert.LossIdeal.Gen.Sites (L lv)

variable {F : FTy → Type} [FloatOps F]

/-- The pipeline's tokens beside the sum's. -/
abbrev W2 : Type := UR sig nD τ × Sites.UC

local notation "𝕄" => MT nD τ sig ℕ (Elt F) ℕ W2 ℕ

abbrev pipe : Emb (UR sig nD τ) (MT nD τ sig ℕ (Elt F) ℕ W2 ℕ) := embL
abbrev ring : Emb Sites.UC (MT nD τ sig ℕ (Elt F) ℕ W2 ℕ) := embR

variable (m : (ℓ : Loc nD τ sig) → Buf (Elt F) ℓ) (ρ : Dev nD → PrngReg)

abbrev adm : (p : Fin 1) → (pcfgs (F := F) p).Adm := fun p => (cfgs p).toPCfg_adm

abbrev none' : Variants := Variants.none

/-- What a device owes the others until the sum. -/
abbrev owed (c : Dev nD) : CellTallies nD τ sig ℕ := Sites.O0 (F := F) c

def pdats : (p : Fin 1) → (c : Dev nD) → Pipeline.Dat τ (Elt F) ℕ ℕ W2 ℕ (Pipeline.pin (pcfgs (F := F)) adm p) c
  | ⟨0, _⟩ => fun c => dat m (owed (F := F)) c

/-- A device's buffers as they are found, -/
abbrev V₀ (c : Dev nD) : Valuation τ sig (Elt F) := fun b => m (c, b)

/-- What the loss head leaves in its two results. -/
def rows (c : Dev nD) : (main_v1_0 : Ref sig .tc).ty.Contents (Elt F) := (pdats m 0 c).arrAt 4 (Pipeline.pin (pcfgs (F := F)) adm 0).N
def total (c : Dev nD) : (main_v1_1 : Ref sig .tc).ty.Contents (Elt F) := (pdats m 0 c).arrAt 5 (Pipeline.pin (pcfgs (F := F)) adm 0).N

/-- after the loss head, -/
def V₁ (c : Dev nD) : Valuation τ sig (Elt F) :=
  Function.update (Function.update (V₀ m c) (Proc.devRef .tc main_v1_0) (rows m c))
    (Proc.devRef .tc main_v1_1) (total m c)

/-- with its total taken out, -/
abbrev V₂ (c : Dev nD) : Valuation τ sig (Elt F) := StableHlo.after (hostOps1 (F := F)) (V₁ m c)

/-- and after the sum. -/
abbrev V₃ (c : Dev nD) : Valuation τ sig (Elt F) := (ar0 (F := F)).after₀ (V₂ m) c

theorem V₁_of_ne (c : Dev nD) {b : DevRef τ sig} (h0 : b ≠ Proc.devRef .tc main_v1_0) (h1 : b ≠ Proc.devRef .tc main_v1_1) :
    V₁ m c b = m (c, b) := by
  unfold V₁; rw [Function.update_of_ne h1, Function.update_of_ne h0]

theorem V₁_rows (c : Dev nD) : V₁ m c (Proc.devRef .tc main_v1_0) = rows m c :=
  (Function.update_of_ne (by decide) _ _).trans (Function.update_self _ _ _)

theorem V₁_total (c : Dev nD) : V₁ m c (Proc.devRef .tc main_v1_1) = total m c := Function.update_self _ _ _

theorem V₁_arr (c : Dev nD) (w : Fin cfg0.W) :
    (pdats m 0 c).arrAt w (Pipeline.pin (pcfgs (F := F)) adm 0).N = V₁ m c (Proc.devRef .tc (Pipeline.arrRef (Pipeline.pin (pcfgs (F := F)) adm 0).spec w)) := by
  fin_cases w
  · exact ((pdats m 0 c).arrAt_in 0 rfl _).trans (V₁_of_ne m c (b := Proc.devRef .tc main_arg0) (by decide) (by decide)).symm
  · exact ((pdats m 0 c).arrAt_in 1 rfl _).trans (V₁_of_ne m c (b := Proc.devRef .tc main_arg1) (by decide) (by decide)).symm
  · exact ((pdats m 0 c).arrAt_in 2 rfl _).trans (V₁_of_ne m c (b := Proc.devRef .tc main_arg2) (by decide) (by decide)).symm
  · exact ((pdats m 0 c).arrAt_in 3 rfl _).trans (V₁_of_ne m c (b := Proc.devRef .tc main_arg3) (by decide) (by decide)).symm
  · exact (V₁_rows m c).symm
  · exact (V₁_total m c).symm

/-- That the sum's cells are under their invariants. -/
abbrev cells (_ : Dev nD) : sProp 𝕄 := iprop(∃ κ, (AllReduce.Dat.once (ar0 (F := F)) (V₂ m)).cellInvs (Sites.E0 ring) κ)

/-- The buffers the loss head does not name. -/
abbrev others : Finset (DevRef τ sig) := Pipeline.ucRefs τ sig \ Pipeline.arrRefs (pcfgs (F := F) 0).spec

abbrev kept (c : Dev nD) : sProp 𝕄 :=
  iprop(StableHlo.held (c : Thread nD τ) (others (F := F)) (V₀ m c) ∗ Sites.rides0 ring (V₂ m) c ∗ cells m c)

theorem cut : Pipeline.LevelCut (pcfgs (F := F)) adm 0 L lv 0 (owed (F := F)) fun _ => 0 :=
  ⟨fun _ _ _ => Sites.mem_L _ _ (by decide), fun _ _ _ => le_refl _, fun _ _ _ hg => ⟨(Sites.O0_pos hg).1, (Sites.O0_pos hg).2⟩⟩

def head : Pipeline.RegionSeg (pcfgs (F := F)) adm (pdats m) 0 defs₀ none' L lv 0 :=
  Pipeline.RegionSeg.ofHeld (pcfgs (F := F)) adm (pdats m) 0 defs₀ none' L lv 0 (owed (F := F)) (fun c => iprop(∃ r, prngReg c r)) (fun c => iprop(∃ r, prngReg c r))
    launch0.toP rfl (fun c => (body m (owed (F := F)) 0 c).loose) (fun _ _ => rfl) (fun _ => rfl) (fun c => (pdats m 0 c).share_full fun _ => rfl)
    (fun _ => .rfl) (fun _ => .rfl) (fun _ => 0) cut (kept m) (V₀ m) (V₁ m) (fun _ _ => rfl) (V₁_arr m)

theorem ops_sub : ∀ op ∈ (hostOps1 : List (HloOp τ sig (Elt F))), op.bufs ⊆ Pipeline.ucRefs τ sig := fun op h =>
  Pipeline.sub_ucRefs op (by
    unfold hostOps1 at h
    rcases List.mem_cons.mp h with rfl | h
    · show ({Proc.devRef .tc main_v1_1, Proc.devRef .tc main_v2} : Finset (DevRef τ sig)) ⊆ _; decide
    · obtain rfl := List.mem_singleton.mp h
      show ({Proc.devRef .tc main_v2, Proc.devRef .tc main_v3} : Finset (DevRef τ sig)) ⊆ _; decide)

theorem ops_fresh : ∀ op ∈ (hostOps1 : List (HloOp τ sig (Elt F))), op.fresh = ∅ := fun op h => by
  unfold hostOps1 at h
  rcases List.mem_cons.mp h with rfl | h
  · rfl
  · obtain rfl := List.mem_singleton.mp h; rfl

/-- What rides beside the buffers from the loss head to the sum. -/
abbrev beside (c : Dev nD) : sProp 𝕄 := iprop(Sites.Es ring (V₂ m) 0 c ∗ cells m c)

def pick : Pipeline.HostSeg (Name := ℕ) (U := W2) (pcfgs (F := F)) defs₀ none' L lv :=
  Pipeline.HostSeg.ofOps _ _ _ _ _ (Pipeline.ucRefs τ sig) (hostOps1 (F := F)) ops_sub ops_fresh (V₁ m) (beside m)

def sum : Pipeline.HostSeg (Name := ℕ) (U := W2) (pcfgs (F := F)) defs₀ none' L lv :=
  Sites.seg0 ring none' (V₂ m) (Sites.Rest0 (V₂ m) (cells m))

def segs : List (Pipeline.Seg (pcfgs (F := F)) adm (pdats m) 0 defs₀ none' L lv) := [.region (head m), .host (pick m), .host (sum m)]

theorem main_eq (c : Dev nD) : main (F := F) c = Pipeline.Seg.run (segs m) :=
  main_segs adm (pdats m) 0 none' L lv (pick m) (sum m) (head m) rfl rfl c

theorem arr_sub : Pipeline.arrRefs (τ := τ) (pcfgs (F := F) 0).spec ⊆ Pipeline.ucRefs τ sig :=
  Pipeline.arrRefs_sub_ucRefs _ (by decide : ∀ w, (Pipeline.arrRef spec0 w).isScoped = false)

abbrev first (c : Dev nD) : sProp 𝕄 := iprop(StableHlo.held (c : Thread nD τ) (Pipeline.ucRefs τ sig) (V₀ m c) ∗ Sites.Es ring (V₂ m) 0 c)

theorem first_head (c : Dev nD) : first m c ⊢ (head (F := F) m).pre c := by
  show _ ⊢ iprop(StableHlo.held (c : Thread nD τ) (Pipeline.arrRefs (pcfgs (F := F) 0).spec) (V₀ m c) ∗ (∃ r, prngReg c r) ∗ kept m c
    ∗ ∃ W, owes (c : Thread nD τ) (owed (F := F) c) W)
  unfold first
  rw [Sites.Es_0, StableHlo.held_sub_split (c : Thread nD τ) (arr_sub (F := F)) (V₀ m c)]
  iintro ⟨⟨Ha, Hu⟩, HO, Hp, Hr⟩
  ihave #Hi := (show (AllReduce.Dat.once (ar0 (F := F)) (V₂ m)).rides (Sites.E0 ring) c 1 2 ⊢ cells m c from by unfold AllReduce.Dat.rides; iintro ⟨Hi, -⟩; iexact Hi) $$ Hr
  isplitl [Ha]; · iexact Ha
  isplitl [Hp]; · iexact Hp
  isplitl [Hu Hr]
  · isplitl [Hu]; · iexact Hu
    isplitl [Hr]; · iexact Hr
    iexact Hi
  iexact HO

theorem mem_arrRefs {b : DevRef τ sig} (w : Fin cfg0.W) (h : b = Proc.devRef .tc (Pipeline.arrRef spec0 w)) :
    b ∈ Pipeline.arrRefs (τ := τ) (pcfgs (F := F) 0).spec := by
  subst h
  exact Finset.mem_map.mpr ⟨_, Finset.mem_image.mpr ⟨w, Finset.mem_univ _, rfl⟩, rfl⟩

theorem head_pick (c : Dev nD) : (head m).post c ⊢ (pick (F := F) m).pre c := by
  show iprop(StableHlo.held (c : Thread nD τ) (Pipeline.arrRefs (pcfgs (F := F) 0).spec) (V₁ m c) ∗ (∃ r, prngReg c r) ∗ kept m c
    ∗ ∃ W, owes (c : Thread nD τ) (owed (F := F) c) W) ⊢ iprop(StableHlo.held (c : Thread nD τ) (Pipeline.ucRefs τ sig) (V₁ m c) ∗ beside m c)
  unfold beside
  rw [Sites.Es_0, StableHlo.held_sub_split (c : Thread nD τ) (arr_sub (F := F)) (V₁ m c),
    StableHlo.held_congr (c : Thread nD τ) (S := others (F := F)) (V := V₁ m c) (V' := V₀ m c) fun b hb =>
      V₁_of_ne m c (fun h => (Finset.mem_sdiff.mp hb).2 (mem_arrRefs 4 h)) (fun h => (Finset.mem_sdiff.mp hb).2 (mem_arrRefs 5 h))]
  iintro ⟨Ha, Hp, ⟨Hu, Hr, Hi⟩, HO⟩
  isplitl [Ha Hu]
  · isplitl [Ha] <;> iassumption
  isplitr [Hi]
  · isplitl [HO]; · iexact HO
    isplitl [Hp] <;> iassumption
  iexact Hi

theorem pick_sum (c : Dev nD) : (pick m).post c ⊢ (sum (F := F) m).pre c :=
  Sites.pre0 ring none' (V₂ m) (cells m) c

abbrev last (c : Dev nD) : sProp 𝕄 :=
  iprop(StableHlo.held (c : Thread nD τ) (Pipeline.ucRefs τ sig) (V₃ m c) ∗ (Sites.Ghost0 ring c ∗ cells m c))

theorem sum_last (c : Dev nD) : (sum (F := F) m).post c ⊢ iprop(last m c ∗ ∃ W, owes (c : Thread nD τ) (0 : CellTallies nD τ sig ℕ) W) := by
  refine (Sites.post0 ring none' (V₂ m) (cells m) c).trans ?_
  iintro ⟨Hh, He, Hg⟩
  ihave HO := (Sites.hE_last ring (V₂ m) c) $$ He
  isplitr [HO]
  · isplitl [Hh] <;> iassumption
  iexact HO

def u₀ : W2 :=
  (initOf (Pipeline.cells (Pipeline.pin (pcfgs (F := F)) adm) cellOf_inj) (Pipeline.launchToks (Pipeline.pin (pcfgs (F := F)) adm) cellOf_inj),
    Sites.uC (U := W2) (V₂ m))

theorem start :
    iprop((bigSep Finset.univ fun c : Dev nD => iprop(unscopedBufs c (fun b => m ((c : Thread nD τ).loc b)) ∗ unscopedSems0 c
          ∗ owes (c : Thread nD τ) (owed (F := F) c) ∅ ∗ Pipeline.launchCred (owed (F := F)) c ∗ prngReg c (ρ c) ∗ Sites.G ring (V₂ m) c)) ∗ levAts L lv)
      ⊢ (|={Set.univ}=> bigSep Finset.univ (first m) : sProp 𝕄) := by
  rw [bigSep_sep']
  iintro ⟨⟨Hb, Hs⟩, HL⟩
  imod (Sites.hE0 ring (V₂ m) ρ) $$ [Hs HL] with He
  · isplitl [Hs] <;> iassumption
  imodintro
  unfold first
  rw [bigSep_sep']
  isplitl [Hb]
  · iapply (show (bigSep Finset.univ fun c : Dev nD => (unscopedBufs c (fun b => m ((c : Thread nD τ).loc b)) : sProp 𝕄))
      ⊢ bigSep Finset.univ fun c : Dev nD => StableHlo.held (c : Thread nD τ) (Pipeline.ucRefs τ sig) (V₀ m c) from
        bigSep_mono fun c _ => Entails.of_eq (Pipeline.unscopedBufs_held c (V₀ m c)))
    iexact Hb
  iexact He

/-- The arguments and the result. -/
def ends : Finset (DevRef τ sig) := {Proc.devRef .tc main_arg0, Proc.devRef .tc main_arg1, Proc.devRef .tc main_arg2, Proc.devRef .tc main_arg3, Proc.devRef .tc main_v4}

theorem held_ends (c : Dev nD) (V : Valuation τ sig (Elt F)) :
    (StableHlo.held (c : Thread nD τ) ends V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_v4) ↦{fullShare} V main_v4)) := by
  unfold StableHlo.held ends
  rw [bigSep_eq_bigSepL_of_eq [Proc.devRef .tc main_arg0, Proc.devRef .tc main_arg1, Proc.devRef .tc main_arg2, Proc.devRef .tc main_arg3, Proc.devRef .tc main_v4] (by decide) (by decide)]
  rfl

theorem ends_sub : ends ⊆ Pipeline.ucRefs τ sig := by decide

set_option backward.isDefEq.respectTransparency.types false in
/-- Every run of the eight devices ends with the arguments and the sum at `V₃`, and all counters at zero. -/
theorem run : θ_run defs (onTc (τ := τ) (main (F := F))) (s₀ m ρ)
    (fun r => (∀ c : Dev nD, r.2.mem ((c : Thread nD τ).loc main_arg0) = V₃ m c main_arg0 ∧ r.2.mem ((c : Thread nD τ).loc main_arg1) = V₃ m c main_arg1
      ∧ r.2.mem ((c : Thread nD τ).loc main_arg2) = V₃ m c main_arg2 ∧ r.2.mem ((c : Thread nD τ).loc main_arg3) = V₃ m c main_arg3
      ∧ r.2.mem ((c : Thread nD τ).loc main_v4) = V₃ m c main_v4) ∧ r.2.sem = fun _ => 0) :=
  Pipeline.θ_run_regions_kit_sems (pcfgs (F := F)) adm (pdats m) 0 cellOf_inj pipe defs₀ none' L lv m ρ main (segs m)
    (fun c Q => by rw [main_eq m c])
    (by simp only [segs, Pipeline.Seg.pipes_host, Pipeline.Seg.pipes_region, Pipeline.Seg.pipes_nil]; decide)
    (O₀ := owed (F := F)) (hL := Sites.hL) (G := Sites.G ring (V₂ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨first_head m, head_pick m, pick_sum m, sum_last m⟩)
    (hinit := start m ρ)
    (QY := fun c s => (s.mem ((c : Thread nD τ).loc main_arg0) = V₃ m c main_arg0 ∧ s.mem ((c : Thread nD τ).loc main_arg1) = V₃ m c main_arg1
      ∧ s.mem ((c : Thread nD τ).loc main_arg2) = V₃ m c main_arg2 ∧ s.mem ((c : Thread nD τ).loc main_arg3) = V₃ m c main_arg3
      ∧ s.mem ((c : Thread nD τ).loc main_v4) = V₃ m c main_v4)
      ∧ s.sem ((ar0 (F := F)).barrierCell c) = 0 ∧ s.sem ((ar0 (F := F)).recvCell c) = 0 ∧ s.sem ((ar0 (F := F)).sendCell c) = 0)
    (hfin := fun c s' => by
      unfold last
      rw [StableHlo.held_sub_split (c : Thread nD τ) ends_sub (V₃ m c), held_ends]
      iintro ⟨⟨⟨⟨H0, H1, H2, H3, H4⟩, -⟩, Hg, Hi⟩, HSI⟩
      icombine HSI H0 gives %h0
      icombine HSI H1 gives %h1
      icombine HSI H2 gives %h2
      icombine HSI H3 gives %h3
      icombine HSI H4 gives %h4
      imod ((AllReduce.Dat.once (ar0 (F := F)) (V₂ m)).ghostAfter_read (Sites.E0 ring) c (k := 0) le_rfl s') $$ [Hg Hi HSI] with ⟨%hs, HSI⟩
      · isplitr [HSI]
        · isplitl [Hi] <;> iassumption
        iexact HSI
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, hs⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- The buffers that are written. -/
abbrev written : List (Ref sig .tc) :=
  [main_v1_0, main_v1_1, main_v2, main_v3, main_v4, main_v4_s0, main_v4_s1, main_v4_s2, main_v4_s3, main_v4_s4, main_v4_s5, main_v4_s6, main_v4_s7]

theorem stage_written : ∀ j : Fin 8, ar0_stage j ∈ written := by decide

/-- A buffer that neither the loss head, nor what takes its total out, nor the sum writes is left as it was found. -/
theorem V₃_of_ne (c : Dev nD) {b : Ref sig .tc} (h : b ∉ written) :
    V₃ m c b = m ((c : Thread nD τ).loc b) := by
  have hne : ∀ y ∈ written, (Proc.devRef .tc b : DevRef τ sig) ≠ Proc.devRef .tc y := fun y hy e =>
    h (Proc.devRef_injective _ e ▸ hy)
  refine ((ar0 (F := F)).after₀_of_notMem (V₂ m) c fun hb => ?_).trans ((StableHlo.after_of_forall_not_mem _ _ fun op ho => ?_).trans
    (V₁_of_ne m c (hne _ (by decide)) (hne _ (by decide))))
  · rcases Finset.mem_insert.mp hb with e | e
    · exact hne main_v4 (by decide) e
    · obtain ⟨j, e⟩ := (ar0 (F := F)).mem_stageRefs.mp e
      exact hne _ (stage_written j) e
  · unfold hostOps1 at ho
    rcases List.mem_cons.mp ho with rfl | ho
    · exact fun e => hne main_v2 (by decide) (Finset.mem_singleton.mp e)
    · obtain rfl := List.mem_singleton.mp ho
      exact fun e => hne main_v3 (by decide) (Finset.mem_singleton.mp e)

/-- The run with the arguments as they were. -/
theorem run_kept : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v4) = V₃ m c main_v4) ∧ r.2.sem = fun _ => 0) :=
  (θ_run defs _ _).mono (fun _ h => ⟨fun c => ⟨(h.1 c).1.trans (V₃_of_ne m c (by decide)), (h.1 c).2.1.trans (V₃_of_ne m c (by decide)),
    (h.1 c).2.2.1.trans (V₃_of_ne m c (by decide)), (h.1 c).2.2.2.1.trans (V₃_of_ne m c (by decide)), (h.1 c).2.2.2.2⟩, h.2⟩) (run m ρ)

end Cert.LossIdeal.Sum

end
-- ==== Proof.LossSum.lean ====
/- The loss over the eight devices is the loss of all their rows. -/
module

public import proofs.«01_k».proof.Proof.LossIdealRun
public import proofs.«01_k».proof.Proof.LossHead
public import proofs.«01_k».proof.Proof.Gen.LossRefIdeal
public import Idealize.ShloMosaic.Lib.Pipeline.ValueKit
public import Idealize.ShloMosaic.Lib.LayoutAt

@[expose] public section

set_option maxRecDepth 65536

noncomputable section

open Idealize.ShloMosaic Idealize.ShloMosaic.TcCoe Idealize.SL.Sem
open Idealize.ShloMosaic.Pipeline (Dat)

namespace Cert.LossRefIdeal.Term

open Cert.LossRefIdeal Cert.LossRefIdeal.Gen Cert.RootMeanSquare Cert.LossHeadIdeal.Loss

/-- The reference's loss. -/
abbrev loss (x0 x1 : FVec Ideal S16384x2048 .f32) (x2 : FVec Ideal S4x1x2048 .f32) (x3 : FVec Ideal S16384x2048 .f32) : FVec Ideal S_ .f32 :=
  mulf (constant S_ .f32 0x3F000000#32) (Host.reduceAdd (Host.divf (Host.reduceAdd (mulf (subf (addf x0 (mulf (mulf x1 (broadcastInDim S16384x2048 ![0, 1] bcast_S16384x1_S16384x2048_0_1 (Host.rsqrt (addf (Host.divf (broadcastInDim S16384x1 ![0] bcast_S16384_S16384x1_0 (Host.reduceAdd (mulf x1 x1) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (shapeCast _ (extractStridedSlice S1x1x2048 ![3, 0, 0] x2 slices_S4x1x2048_S1x1x2048_3_0_0) shapeCasts_S1x1x2048_S1x2048)))) x3) (subf (addf x0 (mulf (mulf x1 (broadcastInDim S16384x2048 ![0, 1] bcast_S16384x1_S16384x2048_0_1 (Host.rsqrt (addf (Host.divf (broadcastInDim S16384x1 ![0] bcast_S16384_S16384x1_0 (Host.reduceAdd (mulf x1 x1) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (shapeCast _ (extractStridedSlice S1x1x2048 ![3, 0, 0] x2 slices_S4x1x2048_S1x1x2048_3_0_0) shapeCasts_S1x1x2048_S1x2048)))) x3)) (constant S_ .f32 0x00000000#32) reducesTo_S16384x2048_S16384_d1 h_S_) (broadcastInDim S16384 ![] bcast_S_S16384 (constant S_ .f32 0x45000000#32))) (constant S_ .f32 0x00000000#32) reducesTo_S16384_S_d0 h_S_)

theorem loss_apply (x0 x1 : FVec Ideal S16384x2048 .f32) (x2 : FVec Ideal S4x1x2048 .f32) (x3 : FVec Ideal S16384x2048 .f32) (j : S_.Idx) :
    loss x0 x1 x2 x3 j = ∑ k : Fin 16384, Ideal.ofBits .f32 0x3F000000#32 * rowLoss (miss (fun i => x0 (ix2 k i)) (fun i => x1 (ix2 k i)) (fun i => x2 (ix3 3 0 i)) (fun i => x3 (ix2 k i))) := by
  rw [← mul_sum_of_nonneg _ _ _ fun k => rowLoss_nonneg _]
  pointwise [loss, rowLoss, miss, factor, meanSquare]

end Cert.LossRefIdeal.Term

namespace Cert.LossIdeal.Sum

open Cert.LossIdeal Cert.LossIdeal.Gen Cert.RootMeanSquare
open Cert.LossHeadIdeal.Loss (miss rowLoss rowLoss_nonneg mul_sum_of_nonneg)

variable (m : (ℓ : Loc nD τ sig) → Buf (Elt Ideal) ℓ)

/-- The windows' block indices at every grid point. -/
theorem idx : ∀ t : Fin cfg0.N, win0_0.index t = ![t.val, 0] ∧ win0_1.index t = ![t.val, 0]
    ∧ win0_2.index t = ![3, 0, 0] ∧ win0_3.index t = ![t.val, 0] ∧ win0_4.index t = ![t.val, 0] ∧ win0_5.index t = ![0, 0] :=
  (by decide +kernel : ∀ t : Fin grid0.N, _)

theorem step_apply (x0 x1 : FVec Ideal S256x2048 .f32) (x2 : FVec Ideal S1x1x2048 .f32) (x3 : FVec Ideal S256x2048 .f32) (a : FVec Ideal S8x128 .f32) (j : S8x128.Idx) :
    step (F := Ideal) x0 x1 x2 x3 a j
      = a j + ∑ k : Fin 256, Ideal.ofBits .f32 0x3F000000#32 * rowLoss (miss (fun i => x0 (ix2 k i)) (fun i => x1 (ix2 k i)) (fun i => x2 (ix3 0 0 i)) (fun i => x3 (ix2 k i))) := by
  rw [← mul_sum_of_nonneg _ _ _ fun k => rowLoss_nonneg _]
  pointwise [step, k0_pay1, k0_pay5, k0_pay6, k0_pay3, rowLoss, miss, factor, meanSquare]
  simp only [Fin.sum_univ_one]

theorem zero_apply (j : S8x128.Idx) : k0_pay2 (F := Ideal) j = 0 := by
  pointwise [k0_pay2]

/-- A half of the losses of a device's rows. -/
def half (x0 x1 : FVec Ideal S2048x2048 .f32) (x2 : FVec Ideal S4x1x2048 .f32) (x3 : FVec Ideal S2048x2048 .f32) : EReal :=
  ∑ k : Fin 2048, Ideal.ofBits .f32 0x3F000000#32 * rowLoss (miss (fun i => x0 (ix2 k i)) (fun i => x1 (ix2 k i)) (fun i => x2 (ix3 3 0 i)) (fun i => x3 (ix2 k i)))

theorem total_eq (c : Dev nD) : (dat m (owed (F := Ideal)) c : Dat τ (Elt Ideal) ℕ ℕ W2 ℕ cfg0 c).arrAt 5 cfg0.N
    = (fun _ => half (m ((c : Thread nD τ).loc main_arg0)) (m ((c : Thread nD τ).loc main_arg1)) (m ((c : Thread nD τ).loc main_arg2)) (m ((c : Thread nD τ).loc main_arg3)) : S8x128.Idx → EReal) := by
  refine (dat m (owed (F := Ideal)) c : Dat τ (Elt Ideal) ℕ ℕ W2 ℕ cfg0 c).arrAt_eq_of_covers 5 _ (by decide +kernel) fun t hf y => ?_
  blk_simp
  rw [show (dat m (owed (F := Ideal)) c : Dat τ (Elt Ideal) ℕ ℕ W2 ℕ cfg0 c).after 5 t = acc m c t.val t.isLt from rfl,
    Pipeline.eq_sum_fin_of_reset_step_apply_of_flush (fun n h => acc m c n h) 8 (fun _ => 0)
      (fun p _ => ∑ k : Fin 256, Ideal.ofBits .f32 0x3F000000#32 * rowLoss (miss (fun i => (show FVec Ideal S256x2048 .f32 from blk m c 0 p) (ix2 k i)) (fun i => (show FVec Ideal S256x2048 .f32 from blk m c 1 p) (ix2 k i)) (fun i => (show FVec Ideal S1x1x2048 .f32 from blk m c 2 p) (ix3 0 0 i)) (fun i => (show FVec Ideal S256x2048 .f32 from blk m c 3 p) (ix2 k i))))
      (fun t h j => by
        rw [acc_first m c t (by have := t.isLt; have : cfg0.N = 8 := rfl; omega)]
        exact (step_apply _ _ _ _ _ j).trans (congrArg (· + _) (zero_apply j)))
      (fun t h j => by
        rw [acc_later m c t (by omega)]
        exact step_apply _ _ _ _ _ j)
      t ((flush0_5 t).mp hf) _, zero_add]
  unfold half
  refine Fin.sum_mul_add_congr fun s k hl => ?_
  blk_point [blk, idx t, idx ⟨_, Pipeline.run_point_lt_of_flush t ((flush0_5 t).mp hf) s⟩]

theorem total_apply (c : Dev nD) (j : S8x128.Idx) : (show FVec Ideal S8x128 .f32 from total m c) j
    = half (m ((c : Thread nD τ).loc main_arg0)) (m ((c : Thread nD τ).loc main_arg1)) (m ((c : Thread nD τ).loc main_arg2)) (m ((c : Thread nD τ).loc main_arg3)) :=
  congrFun (total_eq m c) j

/-- The two operations between the loss head and the sum take the first element of the loss head's second result. -/
theorem taken (W : Valuation τ sig (Elt Ideal)) : StableHlo.after hostOps1 W (Proc.devRef .tc main_v3)
    = (shapeCast S_ (extractStridedSlice S1x1 ![0, 0] (show FVec Ideal S8x128 .f32 from W (Proc.devRef .tc main_v1_1)) slices_S8x128_S1x1_0_0) shapeCasts_S1x1_S_ : FVec Ideal S_ .f32) := by
  after_results
  rfl

/-- What a device gives to the sum is its own half. -/
theorem given_apply (c : Dev nD) (i : S_.Idx) : (show FVec Ideal S_ .f32 from V₂ m c (Proc.devRef .tc main_v3)) i
    = half (m ((c : Thread nD τ).loc main_arg0)) (m ((c : Thread nD τ).loc main_arg1)) (m ((c : Thread nD τ).loc main_arg2)) (m ((c : Thread nD τ).loc main_arg3)) := by
  unfold V₂
  rw [taken, V₁_total]
  exact total_apply m c _

theorem peer_eq : ∀ c j : Fin 8, ar0_mem ((ar0_pos c).1, j) = j := by decide

theorem summed (W : Dev nD → Valuation τ sig (Elt Ideal)) (c : Dev nD) : (ar0 (F := Ideal)).after₀ W c (Proc.devRef .tc main_v4)
    = (ar0 (F := Ideal)).foldGroup fun j => W (ar0_mem ((ar0_pos c).1, j)) (Proc.devRef .tc main_v3) :=
  (ar0 (F := Ideal)).after₀_result W c

theorem fold_apply (v : Fin 8 → FVec Ideal S_ .f32) (i : S_.Idx) : (show FVec Ideal S_ .f32 from (ar0 (F := Ideal)).foldGroup v) i = ∑ d : Fin 8, (show EReal from v d i) := by
  rw [Fin.sum_univ_eight]
  rfl

/-- The sum of the eight halves. -/
theorem loss_apply (c : Dev nD) (i : S_.Idx) : (show FVec Ideal S_ .f32 from V₃ m c (Proc.devRef .tc main_v4)) i
    = ∑ d : Fin 8, half (m (((d : Dev nD) : Thread nD τ).loc main_arg0)) (m (((d : Dev nD) : Thread nD τ).loc main_arg1)) (m (((d : Dev nD) : Thread nD τ).loc main_arg2)) (m (((d : Dev nD) : Thread nD τ).loc main_arg3)) := by
  unfold V₃
  rw [summed]
  refine (fold_apply _ i).trans (Finset.sum_congr rfl fun d _ => ?_)
  rw [peer_eq]
  exact given_apply m d i

/-- The losses of all rows, cut into the devices' rows. -/
theorem loss_eq (x0 x1 : FVec Ideal Cert.LossRefIdeal.S16384x2048 .f32) (x2 : FVec Ideal S4x1x2048 .f32) (x3 : FVec Ideal Cert.LossRefIdeal.S16384x2048 .f32)
    (h : Layout.Tiles ⟨2, ![2048, 2048]⟩ ⟨2, ![16384, 2048]⟩ 0 8) (i : S_.Idx) :
    ∑ d : Fin 8, half (Layout.block ⟨2, ![2048, 2048]⟩ ⟨2, ![16384, 2048]⟩ 0 8 d x0 h) (Layout.block ⟨2, ![2048, 2048]⟩ ⟨2, ![16384, 2048]⟩ 0 8 d x1 h) x2
        (Layout.block ⟨2, ![2048, 2048]⟩ ⟨2, ![16384, 2048]⟩ 0 8 d x3 h)
      = Cert.LossRefIdeal.Term.loss x0 x1 x2 x3 i := by
  rw [Cert.LossRefIdeal.Term.loss_apply]
  refine Fin.sum_mul_add_congr fun d k hl => ?_
  have e : ∀ (x : FVec Ideal Cert.LossRefIdeal.S16384x2048 .f32), (fun i => Layout.block ⟨2, ![2048, 2048]⟩ ⟨2, ![16384, 2048]⟩ 0 8 d x h (ix2 k i)) = fun i => x (ix2 ⟨_, hl⟩ i) := by
    intro x
    funext i
    rw [Layout.block_apply]
    shard_ext
  rw [e x0, e x1, e x3]

end Cert.LossIdeal.Sum

end
-- ==== Proof.PutColumns.lean ====
/- The call that writes five gradients into neighbouring blocks of columns of the projections' gradient. -/
module

public import proofs.«01_k».proof.Proof.Gen.PutColumnsIdeal.Frame
public import proofs.«01_k».proof.Proof.Gen.PutColumnsRefIdeal
public import proofs.«01_k».proof.Proof.Gen.PutColumnsRefIdeal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.PutColumnsRefIdeal.Term

open Cert.PutColumnsRefIdeal Cert.PutColumnsRefIdeal.Gen

/-- The reference's term: the columns before the pieces, the five pieces, the columns after them. -/
abbrev out (x : FVec Ideal S2048x11776 .bf16) (p0 p1 p2 p3 p4 : FVec Ideal S2048x512 .bf16) : FVec Ideal S2048x11776 .bf16 :=
  concatenate S2048x11776 1 [⟨S2048x3072, extractStridedSlice S2048x3072 ![0, 0] x slices_S2048x11776_S2048x3072_0_0⟩,
    ⟨S2048x512, p0⟩, ⟨S2048x512, p1⟩, ⟨S2048x512, p2⟩, ⟨S2048x512, p3⟩, ⟨S2048x512, p4⟩,
    ⟨S2048x6144, extractStridedSlice S2048x6144 ![0, 5632] x slices_S2048x11776_S2048x6144_0_5632⟩]
    concatenates_S2048x3072_S2048x512_S2048x512_S2048x512_S2048x512_S2048x512_S2048x6144_S2048x11776_d1

variable (x : FVec Ideal S2048x11776 .bf16) (p0 p1 p2 p3 p4 : FVec Ideal S2048x512 .bf16)

/-- The reference's term at a column before the pieces. -/
theorem out_before (j : S2048x11776.Idx) (h : (j 1).val < 3072) : out x p0 p1 p2 p3 p4 j = x j := by
  refine (concatenate_apply_piece (t := S2048x11776) 1 _ _ j 0 (by simp) S2048x3072 _ rfl rfl 0 rfl
    (ix2 (j 0) ⟨(j 1).val, h⟩) (fun b hb => ?_) ?_).trans ?_
  · fin_cases b
    · rfl
    · exact absurd rfl hb
  · exact Nat.zero_add _
  · refine congrArg x ?_
    funext a; apply Fin.ext; fin_cases a
    · exact Nat.zero_add _
    · exact Nat.zero_add _

/-- The reference's term at a column after the pieces. -/
theorem out_after (j : S2048x11776.Idx) (h : 5632 ≤ (j 1).val) : out x p0 p1 p2 p3 p4 j = x j := by
  have hj : (j 1).val < 11776 := (j 1).isLt
  refine (concatenate_apply_piece (t := S2048x11776) 1 _ _ j 6 (by simp) S2048x6144 _ rfl rfl 5632 rfl
    (ix2 (j 0) ⟨(j 1).val - 5632, by omega⟩) (fun b hb => ?_) ?_).trans ?_
  · fin_cases b
    · rfl
    · exact absurd rfl hb
  · show 5632 + ((j 1).val - 5632) = (j 1).val; omega
  · refine congrArg x ?_
    funext a; apply Fin.ext; fin_cases a
    · exact Nat.zero_add _
    · show 5632 + ((j 1).val - 5632) = (j 1).val; omega

/-- The reference's term at a column of one of the pieces. -/
theorem out_piece (k : Fin 5) (y : S2048x512.Idx) (j : S2048x11776.Idx) (h0 : (j 0).val = (y 0).val)
    (h1 : (j 1).val = 3072 + 512 * k.val + (y 1).val) :
    out x p0 p1 p2 p3 p4 j = (![p0, p1, p2, p3, p4] k : FVec Ideal S2048x512 .bf16) y := by
  fin_cases k
  · refine concatenate_apply_piece (t := S2048x11776) 1 _ _ j 1 (by simp) S2048x512 p0 rfl rfl 3072 rfl y (fun b hb => ?_) h1.symm
    fin_cases b
    · exact h0.symm
    · exact absurd rfl hb
  · refine concatenate_apply_piece (t := S2048x11776) 1 _ _ j 2 (by simp) S2048x512 p1 rfl rfl 3584 rfl y (fun b hb => ?_) h1.symm
    fin_cases b
    · exact h0.symm
    · exact absurd rfl hb
  · refine concatenate_apply_piece (t := S2048x11776) 1 _ _ j 3 (by simp) S2048x512 p2 rfl rfl 4096 rfl y (fun b hb => ?_) h1.symm
    fin_cases b
    · exact h0.symm
    · exact absurd rfl hb
  · refine concatenate_apply_piece (t := S2048x11776) 1 _ _ j 4 (by simp) S2048x512 p3 rfl rfl 4608 rfl y (fun b hb => ?_) h1.symm
    fin_cases b
    · exact h0.symm
    · exact absurd rfl hb
  · refine concatenate_apply_piece (t := S2048x11776) 1 _ _ j 5 (by simp) S2048x512 p4 rfl rfl 5120 rfl y (fun b hb => ?_) h1.symm
    fin_cases b
    · exact h0.symm
    · exact absurd rfl hb

end Cert.PutColumnsRefIdeal.Term

namespace Cert.PutColumnsIdeal.Put

open Cert.PutColumnsIdeal Cert.PutColumnsIdeal.Gen

variable (m : (ℓ : Loc nD τ sig) → Buf (Elt Ideal) ℓ)

/-- The windows' block indices at every grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 6 + t.val] :=
  (by decide +kernel : ∀ t : Fin grid0.N, _)

/-- The result's array is found holding the first argument. -/
theorem found (c : Dev nD) : V m c main_v0 = m ((c : Thread nD τ).loc main_arg0) := by
  show StableHlo.after hostOps0 (fun b => m (c, b)) main_v0 = _
  after_results
  rfl

/-- What the body stores at an index of point `t`'s block is the reference's term at the array index it sits at. -/
theorem point_out (c : Dev nD) (t : Fin cfg0.N) (y : S2048x512.Idx) : outsAt0 m c t.val t.isLt y
    = Cert.PutColumnsRefIdeal.Term.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (((cfg0.win 5).blk t).view.emb y) := by
  have hN : t.val < 5 := lt_of_lt_of_eq t.isLt (show cfg0.N = 5 from N_0)
  have h0 : (((cfg0.win 5).blk t).view.emb y 0).val = (y 0).val := by
    blk_simp [idx t]
  have h1 : (((cfg0.win 5).blk t).view.emb y 1).val = 3072 + 512 * t.val + (y 1).val := by
    blk_simp [idx t]
    omega
  refine Eq.trans ?_ (Cert.PutColumnsRefIdeal.Term.out_piece _ _ _ _ _ _ ⟨t.val, hN⟩ y _ h0 h1).symm
  obtain h | h | h | h | h : t.val = 0 ∨ t.val = 1 ∨ t.val = 2 ∨ t.val = 3 ∨ t.val = 4 := by omega
  · rw [outsAt0_A m c t (by omega) (by omega) (by omega) (by omega) (by omega)]
    frame_out
    simp only [h]
    show iblk m c 0 t y = m ((c : Thread nD τ).loc main_arg1) y
    blk_point [iblk, V, idx t]
  · rw [outsAt0_B m c t (by omega) (by omega) (by omega) (by omega) (by omega)]
    frame_out
    simp only [h]
    show iblk m c 1 t y = m ((c : Thread nD τ).loc main_arg2) y
    blk_point [iblk, V, idx t]
  · rw [outsAt0_C m c t (by omega) (by omega) (by omega) (by omega) (by omega)]
    frame_out
    simp only [h]
    show iblk m c 2 t y = m ((c : Thread nD τ).loc main_arg3) y
    blk_point [iblk, V, idx t]
  · rw [outsAt0_D m c t (by omega) (by omega) (by omega) (by omega) (by omega)]
    frame_out
    simp only [h]
    show iblk m c 3 t y = m ((c : Thread nD τ).loc main_arg4) y
    blk_point [iblk, V, idx t]
  · rw [outsAt0_E m c t (by omega) (by omega) (by omega) (by omega) (by omega)]
    frame_out
    simp only [h]
    show iblk m c 4 t y = m ((c : Thread nD τ).loc main_arg5) y
    blk_point [iblk, V, idx t]

theorem final_out (c : Dev nD) : (dats m 0 c).arrAt 5 (cfgs 0).N
    = Cert.PutColumnsRefIdeal.Term.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_coversWhere_of_agree 5 _ (fun β => 6 ≤ β (1 : Fin 2) ∧ β (1 : Fin 2) < 11) (by decide +kernel)
    (fun t _ y => ?_) (fun j hj => ?_)
  · blk_simp
    rw [after0_5]
    exact point_out m c t y
  · rw [A_eq]
    have hj' : (j 1).val < 11776 := (j 1).isLt
    have h : (j 1).val < 3072 ∨ 5632 ≤ (j 1).val := by
      have e : (cfg0.win 5).cell j 1 = (j 1).val / 512 := rfl
      rw [e] at hj
      omega
    refine (congrFun (found m c) j).trans ?_
    rcases h with h | h
    · exact (Cert.PutColumnsRefIdeal.Term.out_before _ _ _ _ _ _ j h).symm
    · exact (Cert.PutColumnsRefIdeal.Term.out_after _ _ _ _ _ _ j h).symm

end Cert.PutColumnsIdeal.Put

end
-- ==== Proof.PaddedRows.lean ====
/- A padded scratch array: zero rows above and below 2048 rows. -/
module

public import Idealize.ShloMosaic.Lib.Pipeline.ValueKit

@[expose] public section

noncomputable section

open Idealize.ShloMosaic Idealize.ShloMosaic.TcCoe Idealize.SL.Sem

namespace Cert.Padded

/-- 2048 rows with 32 rows of zeros above and below. -/
def padded (P : (⟨2, ![2048, 128]⟩ : Shape).Idx → Elt Ideal .f32) (y : (⟨2, ![2112, 128]⟩ : Shape).Idx) : Elt Ideal .f32 :=
  if h : 32 ≤ (y 0).val ∧ (y 0).val < 2080 then P (ix2 ⟨(y 0).val - 32, by omega⟩ (y 1)) else (0 : EReal)

/-- A row of the middle. -/
theorem padded_mid (P : (⟨2, ![2048, 128]⟩ : Shape).Idx → Elt Ideal .f32) (y : (⟨2, ![2112, 128]⟩ : Shape).Idx)
    (x : (⟨2, ![2048, 128]⟩ : Shape).Idx) (h0 : (y 0).val = 32 + (x 0).val) (h1 : (y 1).val = (x 1).val) : padded P y = P x := by
  have hx := (x 0).isLt
  have hx' : (x 0).val < 2048 := hx
  unfold padded
  rw [dif_pos ⟨by omega, by omega⟩]
  refine congrArg P ?_
  funext a; apply Fin.ext; fin_cases a
  · show (y 0).val - 32 = (x 0).val; omega
  · exact h1

/-- A row of an end. -/
theorem padded_end (P : (⟨2, ![2048, 128]⟩ : Shape).Idx → Elt Ideal .f32) (y : (⟨2, ![2112, 128]⟩ : Shape).Idx)
    (h : (y 0).val < 32 ∨ 2080 ≤ (y 0).val) : padded P y = (0 : EReal) := by
  unfold padded
  rw [dif_neg (by omega)]

/-- Rows stored at 32 over zero rows stored at the two ends hold the padded rows. -/
theorem canon_padded (P : (⟨2, ![2048, 128]⟩ : Shape).Idx → Elt Ideal .f32) (Z Z' : (⟨2, ![32, 128]⟩ : Shape).Idx → Elt Ideal .f32)
    (hZ : ∀ x, Z x = (0 : EReal)) (hZ' : ∀ x, Z' x = (0 : EReal)) (i0 i1 i2) (y : (⟨2, ![2112, 128]⟩ : Shape).Idx) :
    View.canon (Val := Elt Ideal) (e := .f32)
      [⟨Rect.unit (s := (⟨2, ![2112, 128]⟩ : Shape)) ![32, 0] ![2048, 128] i0, P⟩,
       ⟨Rect.unit (s := (⟨2, ![2112, 128]⟩ : Shape)) ![2080, 0] ![32, 128] i1, Z⟩,
       ⟨Rect.unit (s := (⟨2, ![2112, 128]⟩ : Shape)) ![0, 0] ![32, 128] i2, Z'⟩] y = padded P y := by
  have hc : ∃ p ∈ ([⟨Rect.unit (s := (⟨2, ![2112, 128]⟩ : Shape)) ![32, 0] ![2048, 128] i0, P⟩,
       ⟨Rect.unit (s := (⟨2, ![2112, 128]⟩ : Shape)) ![2080, 0] ![32, 128] i1, Z⟩,
       ⟨Rect.unit (s := (⟨2, ![2112, 128]⟩ : Shape)) ![0, 0] ![32, 128] i2, Z'⟩] : List (View.Piece (Elt Ideal) (⟨2, ![2112, 128]⟩ : Shape) .f32)),
      y ∈ p.1.set := by
    have hy : (y 0).val < 2112 := (y 0).isLt
    have hy' : (y 1).val < 128 := (y 1).isLt
    by_cases h : (y 0).val < 32
    · refine ⟨_, List.mem_cons_of_mem _ (List.mem_cons_of_mem _ (List.mem_cons_self ..)), (Rect.mem_set_unit (inb := i2)).mpr fun a => ?_⟩
      fin_cases a
      · show 0 ≤ (y 0).val ∧ (y 0).val < 0 + 32; omega
      · show 0 ≤ (y 1).val ∧ (y 1).val < 0 + 128; omega
    by_cases h' : (y 0).val < 2080
    · refine ⟨_, List.mem_cons_self .., (Rect.mem_set_unit (inb := i0)).mpr fun a => ?_⟩
      fin_cases a
      · show 32 ≤ (y 0).val ∧ (y 0).val < 32 + 2048; omega
      · show 0 ≤ (y 1).val ∧ (y 1).val < 0 + 128; omega
    · refine ⟨_, List.mem_cons_of_mem _ (List.mem_cons_self ..), (Rect.mem_set_unit (inb := i1)).mpr fun a => ?_⟩
      fin_cases a
      · show 2080 ≤ (y 0).val ∧ (y 0).val < 2080 + 32; omega
      · show 0 ≤ (y 1).val ∧ (y 1).val < 0 + 128; omega
  canon_tiles x h using hc
  · exact (padded_mid P y x h0 h1).symm
  · exact (hZ x).trans (padded_end P y (by omega)).symm
  · exact (hZ' x).trans (padded_end P y (by omega)).symm

/-- `256` rows from row `o` on. -/
def rows (f : (⟨2, ![2112, 128]⟩ : Shape).Idx → Elt Ideal .f32) (o : ℕ)
    (h : ∀ a, (![o, 0] : Fin 2 → ℕ) a + ![256, 128] a ≤ (⟨2, ![2112, 128]⟩ : Shape).size a) (x : (⟨2, ![256, 128]⟩ : Shape).Idx) : Elt Ideal .f32 :=
  f (ix2 ⟨o + (x 0).val, by
    have h0 : o + 256 ≤ 2112 := h 0
    have hx : (x 0).val < 256 := (x 0).isLt
    omega⟩ (x 1))

theorem rows_emb (f : (⟨2, ![2112, 128]⟩ : Shape).Idx → Elt Ideal .f32) (o : ℕ)
    (h : ∀ a, (![o, 0] : Fin 2 → ℕ) a + ![256, 128] a ≤ (⟨2, ![2112, 128]⟩ : Shape).size a) (x : (⟨2, ![256, 128]⟩ : Shape).Idx) :
    rows f o h x = f ((Rect.unit (s := (⟨2, ![2112, 128]⟩ : Shape)) ![o, 0] ![256, 128] h).emb x) := by
  refine congrArg f ?_
  funext a; apply Fin.ext; fin_cases a
  · show o + (x 0).val = o + 1 * (x 0).val; omega
  · show (x 1).val = 0 + 1 * (x 1).val; omega

/-- The row of the padded array `k` below a row of the rows. -/
def row (y : (⟨2, ![2048, 128]⟩ : Shape).Idx) (k : ℕ) (hk : k ≤ 64) : (⟨2, ![2112, 128]⟩ : Shape).Idx :=
  ix2 ⟨k + (y 0).val, by
    have hy : (y 0).val < 2048 := (y 0).isLt
    omega⟩ (y 1)

end Cert.Padded
end
-- ==== Proof.ShortConv.lean ====
/- The short convolution with its gate. -/
module

public import proofs.«01_k».proof.Proof.Gen.ScFwdIdeal.Frame
public import proofs.«01_k».proof.Proof.Gen.ScFwdRefIdeal
public import proofs.«01_k».proof.Proof.PaddedRows
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.ScFwdRefIdeal.Term

open Cert.ScFwdRefIdeal Cert.ScFwdRefIdeal.Gen

/-- The reference's gated convolution. -/
abbrev out (x0 : FVec Ideal S2048x11776 .bf16) (x1 : FVec Ideal S4x3x512 .f32) :=
  (truncf .bf16 (mulf (extf .f32 (extractStridedSlice S2048x512 ![0, 3072] (x0) slices_S2048x11776_S2048x512_0_3072) bitsLt_bf16_f32) (addf (addf (addf (broadcastInDim S2048x512 ![] bcast_S_S2048x512 (constant S_ .f32 0x00000000#32)) (mulf (broadcastInDim S2048x512 ![0, 1] bcast_S1x512_S2048x512_0_1 (broadcastInDim S1x512 ![1] bcast_S512_S1x512_1 (shapeCast _ (extractStridedSlice S1x512 ![0, 0] (shapeCast _ (extractStridedSlice S1x3x512 ![0, 0, 0] (x1) slices_S4x3x512_S1x3x512_0_0_0) shapeCasts_S1x3x512_S3x512) slices_S3x512_S1x512_0_0) shapeCasts_S1x512_S512))) (extractStridedSlice S2048x512 ![0, 0] (concatenate S2050x512 0 [⟨S2x512, (broadcastInDim S2x512 ![] bcast_S_S2x512 (constant S_ .f32 0x00000000#32))⟩, ⟨S2048x512, (mulf (extf .f32 (extractStridedSlice S2048x512 ![0, 3584] (x0) slices_S2048x11776_S2048x512_0_3584) bitsLt_bf16_f32) (extf .f32 (extractStridedSlice S2048x512 ![0, 4096] (x0) slices_S2048x11776_S2048x512_0_4096) bitsLt_bf16_f32))⟩] concatenates_S2x512_S2048x512_S2050x512_d0) slices_S2050x512_S2048x512_0_0))) (mulf (broadcastInDim S2048x512 ![0, 1] bcast_S1x512_S2048x512_0_1 (broadcastInDim S1x512 ![1] bcast_S512_S1x512_1 (shapeCast _ (extractStridedSlice S1x512 ![1, 0] (shapeCast _ (extractStridedSlice S1x3x512 ![0, 0, 0] (x1) slices_S4x3x512_S1x3x512_0_0_0) shapeCasts_S1x3x512_S3x512) slices_S3x512_S1x512_1_0) shapeCasts_S1x512_S512))) (extractStridedSlice S2048x512 ![1, 0] (concatenate S2050x512 0 [⟨S2x512, (broadcastInDim S2x512 ![] bcast_S_S2x512 (constant S_ .f32 0x00000000#32))⟩, ⟨S2048x512, (mulf (extf .f32 (extractStridedSlice S2048x512 ![0, 3584] (x0) slices_S2048x11776_S2048x512_0_3584) bitsLt_bf16_f32) (extf .f32 (extractStridedSlice S2048x512 ![0, 4096] (x0) slices_S2048x11776_S2048x512_0_4096) bitsLt_bf16_f32))⟩] concatenates_S2x512_S2048x512_S2050x512_d0) slices_S2050x512_S2048x512_1_0))) (mulf (broadcastInDim S2048x512 ![0, 1] bcast_S1x512_S2048x512_0_1 (broadcastInDim S1x512 ![1] bcast_S512_S1x512_1 (shapeCast _ (extractStridedSlice S1x512 ![2, 0] (shapeCast _ (extractStridedSlice S1x3x512 ![0, 0, 0] (x1) slices_S4x3x512_S1x3x512_0_0_0) shapeCasts_S1x3x512_S3x512) slices_S3x512_S1x512_2_0) shapeCasts_S1x512_S512))) (extractStridedSlice S2048x512 ![2, 0] (concatenate S2050x512 0 [⟨S2x512, (broadcastInDim S2x512 ![] bcast_S_S2x512 (constant S_ .f32 0x00000000#32))⟩, ⟨S2048x512, (mulf (extf .f32 (extractStridedSlice S2048x512 ![0, 3584] (x0) slices_S2048x11776_S2048x512_0_3584) bitsLt_bf16_f32) (extf .f32 (extractStridedSlice S2048x512 ![0, 4096] (x0) slices_S2048x11776_S2048x512_0_4096) bitsLt_bf16_f32))⟩] concatenates_S2x512_S2048x512_S2050x512_d0) slices_S2050x512_S2048x512_2_0)))) bitsLt_bf16_f32 : FVec Ideal S2048x512 .bf16)

end Cert.ScFwdRefIdeal.Term

namespace Cert.ScFwdIdeal.Conv

open Cert.ScFwdIdeal Cert.ScFwdIdeal.Gen Cert.Padded

variable (m : (ℓ : Loc nD τ sig) → Buf (Elt Ideal) ℓ)

theorem idx : ∀ t : Fin cfg0.N, win0_0.index t = ![0, 24 + t.val] ∧ win0_1.index t = ![0, 28 + t.val]
    ∧ win0_2.index t = ![0, 32 + t.val] ∧ win0_3.index t = ![0, 0, t.val] ∧ win0_4.index t = ![0, t.val] :=
  (by decide +kernel : ∀ t : Fin grid0.N, _)

theorem zeros (x) : k0_pay3 (F := Ideal) x = (0 : EReal) := by pointwise [k0_pay3, k0_pay2]

theorem zeros' (x) : k0_pay4 (F := Ideal) x = (0 : EReal) := by pointwise [k0_pay4, k0_pay2]

/-- Rows loaded from the scratch array after its three stores. -/
theorem scratch (P : Vec Ideal S2048x128 .f32) (o : ℕ) (i0 i1 i2) (h : ∀ a, (![o, 0] : Fin 2 → ℕ) a + ![256, 128] a ≤ S2112x128.size a) :
    (View.whole cc0_scratch0).readCov (Val := Elt Ideal)
      [⟨Rect.unit ![32, 0] ![2048, 128] i0, P⟩,
       ⟨Rect.unit ![2080, 0] ![32, 128] i1, k0_pay4 (F := Ideal)⟩,
       ⟨Rect.unit ![0, 0] ![32, 128] i2, k0_pay3 (F := Ideal)⟩] (Rect.unit (s := S2112x128) ![o, 0] ![256, 128] h).toLoadRect
      = rows (padded P) o h := by
  rw [View.readCov_eq_canon']
  funext x
  exact (canon_padded P _ _ zeros' zeros _ _ _ _).trans (rows_emb (padded P) o h x).symm

/-- The gated convolution of a block of columns, over the padded product `f`. -/
def block (b : Vec Ideal S2048x128 .bf16) (w : Vec Ideal S1x3x128 .f32) (f : (⟨2, ![2112, 128]⟩ : Shape).Idx → Elt Ideal .f32)
    (y : S2048x128.Idx) : EReal :=
  b y * (w (ix3 0 0 (y 1)) * f (row y 30 (by decide)) + w (ix3 0 1 (y 1)) * f (row y 31 (by decide)) + w (ix3 0 2 (y 1)) * f (row y 32 (by decide)))

set_option maxHeartbeats 1000000 in
/-- What the body stores, tile by tile. -/
theorem stored (c : Dev nD) (t : Fin cfg0.N) (y) : outsAt0 m c t y
    = block (iblk m c 0 t) (iblk m c 3 t) (padded (k0_pay5 (iblk m c 1 t) (iblk m c 2 t))) y := by
  unfold outsAt0
  frame_out
  canon_tiles x h
  all_goals
    rw [scratch, scratch, scratch]
    generalize padded (k0_pay5 (iblk m c 1 t) (iblk m c 2 t)) = f
    generalize iblk m c 0 t = b
    generalize iblk m c 3 t = w
    pointwise [k0_pay1, k0_pay6, k0_pay7, k0_pay8, k0_pay9, k0_pay10, k0_pay11, k0_pay12, k0_pay13, k0_pay14, k0_pay15, k0_pay16, k0_pay17, k0_pay18, k0_pay19, rows, block, row]
    blk_point []

theorem add_eq {a b a' b' : EReal} (h : a = a') (h' : b = b') : a + b = a' + b' := by rw [h, h']

theorem mul_eq {a b a' b' : EReal} (h : a = a') (h' : b = b') : a * b = a' * b' := by rw [h, h']

/-- The reference's gated convolution at the array index. -/
theorem point_out (c : Dev nD) (t : Fin cfg0.N) (y) : outsAt0 m c t y
    = Cert.ScFwdRefIdeal.Term.out (m ((c : Thread nD τ).loc main_arg0)) (m ((c : Thread nD τ).loc main_arg1)) (((cfg0.win 4).blk t).view.emb y) := by
  have hy0 : (y 0).val < 2048 := (y 0).isLt
  rw [stored]
  generalize hf : padded (k0_pay5 (iblk m c 1 t) (iblk m c 2 t)) = f
  pointwise [block, row, Cert.ScFwdRefIdeal.Term.out]
  subst hf
  refine mul_eq ?_ (add_eq (add_eq (mul_eq ?_ ?_) (mul_eq ?_ ?_)) (mul_eq ?_ ?_))
  all_goals try (blk_point [iblk, V, idx t]; done)
  · by_cases hy : (y 0).val < 2
    · rw [padded_end _ _ (Or.inl (show 30 + (y 0).val < 32 by omega)), dif_pos (by blk_simp [idx t]; omega)]
    · rw [padded_mid _ _ (ix2 ⟨(y 0).val - 2, by omega⟩ (y 1)) (show 30 + (y 0).val = 32 + ((y 0).val - 2) by omega) rfl,
        dif_neg (by blk_simp [idx t]; omega)]
      pointwise [k0_pay5]
      blk_point [iblk, V, idx t]
  · by_cases hy : (y 0).val < 1
    · rw [padded_end _ _ (Or.inl (show 31 + (y 0).val < 32 by omega)), dif_pos (by blk_simp [idx t]; omega)]
    · rw [padded_mid _ _ (ix2 ⟨(y 0).val - 1, by omega⟩ (y 1)) (show 31 + (y 0).val = 32 + ((y 0).val - 1) by omega) rfl,
        dif_neg (by blk_simp [idx t]; omega)]
      pointwise [k0_pay5]
      blk_point [iblk, V, idx t]
  · rw [padded_mid _ _ (ix2 (y 0) (y 1)) rfl rfl]
    pointwise [k0_pay5]
    blk_point [iblk, V, idx t]

theorem final_out (c : Dev nD) : (dats m 0 c).arrAt 4 (cfgs 0).N
    = Cert.ScFwdRefIdeal.Term.out (m ((c : Thread nD τ).loc main_arg0)) (m ((c : Thread nD τ).loc main_arg1)) := by
  refine (dats m 0 c).arrAt_eq_of_covers 4 _ (by decide +kernel) fun t _ y => ?_
  blk_simp
  rw [after0_4]
  exact point_out m c t y

end Cert.ScFwdIdeal.Conv
end
-- ==== Proof.ForwardNorms.lean ====
/- The normalisations of the forward pass: of the first input, and of a layer's output before and after it joins the stream. -/
module

public import proofs.«01_k».proof.Proof.Gen.RmsFirstIdeal.Frame
public import proofs.«01_k».proof.Proof.Gen.RmsFirstRefIdeal
public import proofs.«01_k».proof.Proof.Gen.ResidualIdeal.Frame
public import proofs.«01_k».proof.Proof.Gen.ResidualRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.RmsFirstRefIdeal.Term

open Cert.RmsFirstRefIdeal Cert.RmsFirstRefIdeal.Gen

/-- The reference's term: the normalised input. -/
abbrev out (x0 : FVec Ideal S2048x2048 .f32) (x1 : FVec Ideal S4x1x2048 .f32) :=
  (truncf .bf16 (mulf (mulf (x0) (broadcastInDim S2048x2048 ![0, 1] bcast_S2048x1_S2048x2048_0_1 (Host.rsqrt (addf (Host.divf (broadcastInDim S2048x1 ![0] bcast_S2048_S2048x1_0 (Host.reduceAdd (mulf (x0) (x0)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x1) slices_S4x1x2048_S1x1x2048_0_0_0) shapeCasts_S1x1x2048_S1x2048))) bitsLt_bf16_f32 : FVec Ideal S2048x2048 .bf16)

end Cert.RmsFirstRefIdeal.Term

namespace Cert.RmsFirstIdeal.Norm

open Cert.RmsFirstIdeal Cert.RmsFirstIdeal.Gen

variable (m : (ℓ : Loc nD τ sig) → Buf (Elt Ideal) ℓ)

/-- The windows' block indices at every grid point. -/
theorem idx : ∀ t : Fin cfg0.N, win0_0.index t = ![t.val, 0]
    ∧ win0_1.index t = ![0, 0, 0]
    ∧ win0_2.index t = ![t.val, 0] :=
  (by decide +kernel : ∀ t : Fin grid0.N, _)

/-- What the body stores at an index of point `t`'s block is the reference's term at the array index it sits at. -/
theorem point_out (c : Dev nD) (t : Fin cfg0.N) (y) : k0_pay1 (iblk m c 0 t) (iblk m c 1 t) y
    = Cert.RmsFirstRefIdeal.Term.out (m ((c : Thread nD τ).loc main_arg0)) (m ((c : Thread nD τ).loc main_arg1)) (((cfg0.win 2).blk t).view.emb y) := by
  pointwise [k0_pay1, Cert.RmsFirstRefIdeal.Term.out]
  blk_point [iblk, V, idx t]

theorem final_out (c : Dev nD) : (dats m 0 c).arrAt 2 (cfgs 0).N
    = Cert.RmsFirstRefIdeal.Term.out (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_out m c t y

end Cert.RmsFirstIdeal.Norm

namespace Cert.ResidualRefIdeal.Term

open Cert.ResidualRefIdeal Cert.ResidualRefIdeal.Gen

/-- The reference's term: the stream after the layer. -/
abbrev stream (x0 : FVec Ideal S2048x2048 .f32) (x1 : FVec Ideal S2048x2048 .f32) (x2 : FVec Ideal S4x1x2048 .f32) :=
  (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x2) slices_S4x1x2048_S1x1x2048_0_0_0) shapeCasts_S1x1x2048_S1x2048))) : FVec Ideal S2048x2048 .f32)

/-- The reference's term: the next layer's input. -/
abbrev normed (x0 : FVec Ideal S2048x2048 .f32) (x1 : FVec Ideal S2048x2048 .f32) (x2 : FVec Ideal S4x1x2048 .f32) (x3 : FVec Ideal S4x1x2048 .f32) :=
  (truncf .bf16 (mulf (mulf (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x2) slices_S4x1x2048_S1x1x2048_0_0_0) shapeCasts_S1x1x2048_S1x2048)))) (broadcastInDim S2048x2048 ![0, 1] bcast_S2048x1_S2048x2048_0_1 (Host.rsqrt (addf (Host.divf (broadcastInDim S2048x1 ![0] bcast_S2048_S2048x1_0 (Host.reduceAdd (mulf (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x2) slices_S4x1x2048_S1x1x2048_0_0_0) shapeCasts_S1x1x2048_S1x2048)))) (addf (x0) (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x2) slices_S4x1x2048_S1x1x2048_0_0_0) shapeCasts_S1x1x2048_S1x2048))))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (shapeCast _ (extractStridedSlice S1x1x2048 ![0, 0, 0] (x3) slices_S4x1x2048_S1x1x2048_0_0_0) shapeCasts_S1x1x2048_S1x2048))) bitsLt_bf16_f32 : FVec Ideal S2048x2048 .bf16)

end Cert.ResidualRefIdeal.Term

namespace Cert.ResidualIdeal.Norm

open Cert.ResidualIdeal Cert.ResidualIdeal.Gen

variable (m : (ℓ : Loc nD τ sig) → Buf (Elt Ideal) ℓ)

/-- The windows' block indices at every grid point. -/
theorem idx : ∀ t : Fin cfg0.N, win0_0.index t = ![t.val, 0]
    ∧ win0_1.index t = ![t.val, 0]
    ∧ win0_2.index t = ![0, 0, 0]
    ∧ win0_3.index t = ![0, 0, 0]
    ∧ win0_4.index t = ![t.val, 0]
    ∧ win0_5.index t = ![t.val, 0] :=
  (by decide +kernel : ∀ t : Fin grid0.N, _)

/-- What the body stores at an index of point `t`'s block is the reference's term at the array index it sits at. -/
theorem point_stream (c : Dev nD) (t : Fin cfg0.N) (y) : k0_pay1 (iblk m c 0 t) (iblk m c 1 t) (iblk m c 2 t) y
    = Cert.ResidualRefIdeal.Term.stream (m ((c : Thread nD τ).loc main_arg0)) (m ((c : Thread nD τ).loc main_arg1)) (m ((c : Thread nD τ).loc main_arg2)) (((cfg0.win 4).blk t).view.emb y) := by
  pointwise [k0_pay1, k0_pay2, Cert.ResidualRefIdeal.Term.stream]
  blk_point [iblk, V, idx t]

theorem final_stream (c : Dev nD) : (dats m 0 c).arrAt 4 (cfgs 0).N
    = Cert.ResidualRefIdeal.Term.stream (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point_stream m c t y

/-- What the body stores at an index of point `t`'s block is the reference's term at the array index it sits at. -/
theorem point_normed (c : Dev nD) (t : Fin cfg0.N) (y) : k0_pay2 (iblk m c 0 t) (iblk m c 1 t) (iblk m c 2 t) (iblk m c 3 t) y
    = Cert.ResidualRefIdeal.Term.normed (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, Cert.ResidualRefIdeal.Term.normed]
  blk_point [iblk, V, idx t]

theorem final_normed (c : Dev nD) : (dats m 0 c).arrAt 5 (cfgs 0).N
    = Cert.ResidualRefIdeal.Term.normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_normed m c t y

end Cert.ResidualIdeal.Norm

end
-- ==== Proof.PostBwd.lean ====
/- The gradient of the input of the last normalisation and of its gain. -/
module

public import proofs.«01_k».proof.Proof.Gen.PostBwdIdeal.Frame
public import proofs.«01_k».proof.Proof.Gen.PostBwdRefIdeal
public import proofs.«01_k».proof.Proof.RootMeanSquare
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.PostBwdRefIdeal.Term

open Cert.PostBwdRefIdeal Cert.PostBwdRefIdeal.Gen

/-- The reference's gradient of the input. -/
abbrev input (x0 : FVec Ideal S2048x2048 .f32) (x1 : FVec Ideal S2048x2048 .f32) (x2 : FVec Ideal S4x1x2048 .f32) :=
  (truncf .bf16 (addf (mulf (mulf (x0) (broadcastInDim S2048x2048 ![0, 1] bcast_S1x2048_S2048x2048_0_1 (shapeCast _ (extractStridedSlice S1x1x2048 ![3, 0, 0] (x2) slices_S4x1x2048_S1x1x2048_3_0_0) shapeCasts_S1x1x2048_S1x2048))) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (broadcastInDim S2048x2048 ![0] bcast_S2048_S2048x2048_0 (Host.reduceAdd (Host.divf (mulf (shapeCast _ (Host.reduceAdd (mulf (x1) (mulf (x0) (broadcastInDim S2048x2048 ![0, 1] bcast_S1x2048_S2048x2048_0_1 (shapeCast _ (extractStridedSlice S1x1x2048 ![3, 0, 0] (x2) slices_S4x1x2048_S1x1x2048_3_0_0) shapeCasts_S1x1x2048_S1x2048)))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (mulf (broadcastInDim S2048x2048 ![] bcast_S_S2048x2048 (constant S_ .f32 0x40000000#32)) (x1)))) bitsLt_bf16_f32 : FVec Ideal S2048x2048 .bf16)

/-- The reference's gradient of the gain. -/
abbrev gain (x0 : FVec Ideal S2048x2048 .f32) (x1 : FVec Ideal S2048x2048 .f32) :=
  (shapeCast _ (Host.reduceAdd (mulf (mulf (x1) (broadcastInDim S2048x2048 ![0, 1] bcast_S2048x1_S2048x2048_0_1 (Host.rsqrt (addf (Host.divf (broadcastInDim S2048x1 ![0] bcast_S2048_S2048x1_0 (Host.reduceAdd (mulf (x1) (x1)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (x0)) (constant S_ .f32 0x00000000#32) reducesTo_S2048x2048_S2048_d0 h_S_) shapeCasts_S2048_S1x2048 : FVec Ideal S1x2048 .f32)

end Cert.PostBwdRefIdeal.Term

namespace Cert.PostBwdIdeal.Norm

open Cert.PostBwdIdeal Cert.PostBwdIdeal.Gen Cert.RootMeanSquare

variable (m : (ℓ : Loc nD τ sig) → Buf (Elt Ideal) ℓ)

/-- The windows' block indices at every grid point. -/
theorem idx : ∀ t : Fin cfg0.N, win0_0.index t = ![t.val, 0]
    ∧ win0_1.index t = ![t.val, 0]
    ∧ win0_2.index t = ![3, 0, 0]
    ∧ win0_3.index t = ![t.val, 0]
    ∧ win0_4.index t = ![0, 0] :=
  (by decide +kernel : ∀ t : Fin grid0.N, _)

/-- What the body stores of a block of rows. -/
theorem block_apply (x0 : FVec Ideal S256x2048 .f32) (x1 : FVec Ideal S256x2048 .f32) (x2 : FVec Ideal S1x1x2048 .f32) (j : S256x2048.Idx) :
    k0_pay5 (F := Ideal) x0 x1 x2 j = gradient (fun k => x0 (ix2 (j 0) k)) (fun k => x2 (ix3 0 0 k)) (fun k => x1 (ix2 (j 0) k)) (j 1) := by
  pointwise [k0_pay5, k0_pay3, gradient, factor, meanSquare]

/-- The reference's gradient of the input at an index. -/
theorem input_apply (x0 : FVec Ideal S2048x2048 .f32) (x1 : FVec Ideal S2048x2048 .f32) (x2 : FVec Ideal S4x1x2048 .f32) (j : S2048x2048.Idx) :
    Cert.PostBwdRefIdeal.Term.input x0 x1 x2 j = gradient (fun k => x0 (ix2 (j 0) k)) (fun k => x2 (ix3 3 0 k)) (fun k => x1 (ix2 (j 0) k)) (j 1) := by
  refine Eq.trans ?_ (gradient_eq _ _ _ _)
  pointwise [Cert.PostBwdRefIdeal.Term.input, factor, meanSquare]
  simp only [Fin.sum_univ_one]

/-- What the body adds to the gain's gradient. -/
theorem step_apply (x0 x1 : FVec Ideal S256x2048 .f32) (acc : FVec Ideal S1x2048 .f32) (j : S1x2048.Idx) :
    k0_pay1 (F := Ideal) (k0_pay4 x0 x1) (k0_pay6 acc) j = acc j + ∑ k : Fin 256, x0 (ix2 k (j 1)) * x1 (ix2 k (j 1)) * factor (fun i => x1 (ix2 k i)) := by
  pointwise [k0_pay1, k0_pay3, k0_pay4, k0_pay6, factor, meanSquare]

theorem zero_apply (j : S1x2048.Idx) : k0_pay2 (F := Ideal) j = 0 := by
  pointwise [k0_pay2]

/-- The reference's gradient of the gain at an index. -/
theorem gain_apply (x0 x1 : FVec Ideal S2048x2048 .f32) (j : S1x2048.Idx) :
    Cert.PostBwdRefIdeal.Term.gain x0 x1 j = ∑ k : Fin 2048, x0 (ix2 k (j 1)) * x1 (ix2 k (j 1)) * factor (fun i => x1 (ix2 k i)) := by
  pointwise [Cert.PostBwdRefIdeal.Term.gain, factor, meanSquare]
  exact Finset.sum_congr rfl fun k _ => (mul_comm _ _).trans (mul_assoc _ _ _).symm

/-- The block of rows point `t` leaves, the first point or a later one. -/
theorem rows (c : Dev nD) (t : Fin cfg0.N) (y) : (outsAt0 m c t.val t.isLt).1 y = k0_pay5 (F := Ideal) (iblk m c 0 t) (iblk m c 1 t) (iblk m c 2 t) y := by
  by_cases h : t.val % 8 = 0
  · rw [outsAt0_A m c t h]; frame_out
  · rw [outsAt0_B m c t h]; frame_out

theorem final_input (c : Dev nD) : (dats m 0 c).arrAt 3 (cfgs 0).N
    = Cert.PostBwdRefIdeal.Term.input (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, rows, block_apply, input_apply]
  blk_point [iblk, V, idx t]

theorem final_gain (c : Dev nD) : (dats m 0 c).arrAt 4 (cfgs 0).N
    = Cert.PostBwdRefIdeal.Term.gain (m ((c : Thread nD τ).loc main_arg0)) (m ((c : Thread nD τ).loc main_arg1)) := by
  refine (dats m 0 c).arrAt_eq_of_covers 4 _ (by decide +kernel) fun t hf y => ?_
  blk_simp
  rw [after0_4,
    Pipeline.eq_sum_fin_of_reset_step_apply_of_flush (fun n h => (outsAt0 m c n h).2) 8 (fun _ => 0)
      (fun p j => ∑ k : Fin 256, (show FVec Ideal S256x2048 .f32 from iblk m c 0 p) (ix2 k (j 1))
        * (show FVec Ideal S256x2048 .f32 from iblk m c 1 p) (ix2 k (j 1))
        * factor (fun i => (show FVec Ideal S256x2048 .f32 from iblk m c 1 p) (ix2 k i)))
      (fun t h j => by
        rw [outsAt0_A m c t h]; frame_out
        exact (step_apply _ _ _ j).trans (congrArg (· + _) (zero_apply j)))
      (fun t h j => by
        rw [outsAt0_B m c t h]; frame_out
        exact step_apply _ _ _ j)
      t ((flush0_4 t).mp hf) _, zero_add]
  rw [gain_apply]
  refine Fin.sum_mul_add_congr fun s k hl => ?_
  blk_point [iblk, V, idx t, idx ⟨_, Pipeline.run_point_lt_of_flush t ((flush0_4 t).mp hf) s⟩]

end Cert.PostBwdIdeal.Norm

end
-- ==== Proof.PreBwd.lean ====
/- The gradient of the input of the first normalisation, added to the gradient that goes round it, and of its gain. -/
module

public import proofs.«01_k».proof.Proof.Gen.PreBwdIdeal.Frame
public import proofs.«01_k».proof.Proof.Gen.PreBwdRefIdeal
public import proofs.«01_k».proof.Proof.RootMeanSquare
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.PreBwdRefIdeal.Term

open Cert.PreBwdRefIdeal Cert.PreBwdRefIdeal.Gen

/-- The reference's gradient of the input. -/
abbrev input (x0 : FVec Ideal S2048x2048 .f32) (x1 : FVec Ideal S2048x2048 .f32) (x2 : FVec Ideal S2048x2048 .f32) (x3 : FVec Ideal S4x1x2048 .f32) :=
  (addf (x0) (addf (mulf (mulf (x1) (broadcastInDim S2048x2048 ![0, 1] bcast_S1x2048_S2048x2048_0_1 (shapeCast _ (extractStridedSlice S1x1x2048 ![0, 0, 0] (x3) slices_S4x1x2048_S1x1x2048_0_0_0) shapeCasts_S1x1x2048_S1x2048))) (broadcastInDim S2048x2048 ![0, 1] bcast_S2048x1_S2048x2048_0_1 (Host.rsqrt (addf (Host.divf (broadcastInDim S2048x1 ![0] bcast_S2048_S2048x1_0 (Host.reduceAdd (mulf (x2) (x2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (broadcastInDim S2048x2048 ![0] bcast_S2048_S2048x2048_0 (Host.reduceAdd (Host.divf (mulf (shapeCast _ (Host.reduceAdd (mulf (x2) (mulf (x1) (broadcastInDim S2048x2048 ![0, 1] bcast_S1x2048_S2048x2048_0_1 (shapeCast _ (extractStridedSlice S1x1x2048 ![0, 0, 0] (x3) slices_S4x1x2048_S1x1x2048_0_0_0) shapeCasts_S1x1x2048_S1x2048)))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf (x2) (x2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf (x2) (x2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) (mulf (broadcastInDim S2048x2048 ![] bcast_S_S2048x2048 (constant S_ .f32 0x40000000#32)) (x2)))) : FVec Ideal S2048x2048 .f32)

/-- The reference's gradient of the gain. -/
abbrev gain (x1 : FVec Ideal S2048x2048 .f32) (x2 : FVec Ideal S2048x2048 .f32) :=
  (shapeCast _ (Host.reduceAdd (mulf (mulf (x2) (broadcastInDim S2048x2048 ![0, 1] bcast_S2048x1_S2048x2048_0_1 (Host.rsqrt (addf (Host.divf (broadcastInDim S2048x1 ![0] bcast_S2048_S2048x1_0 (Host.reduceAdd (mulf (x2) (x2)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (x1)) (constant S_ .f32 0x00000000#32) reducesTo_S2048x2048_S2048_d0 h_S_) shapeCasts_S2048_S1x2048 : FVec Ideal S1x2048 .f32)

end Cert.PreBwdRefIdeal.Term

namespace Cert.PreBwdIdeal.Norm

open Cert.PreBwdIdeal Cert.PreBwdIdeal.Gen Cert.RootMeanSquare

variable (m : (ℓ : Loc nD τ sig) → Buf (Elt Ideal) ℓ)

/-- The windows' block indices at every grid point. -/
theorem idx : ∀ t : Fin cfg0.N, win0_0.index t = ![t.val, 0]
    ∧ win0_1.index t = ![t.val, 0]
    ∧ win0_2.index t = ![t.val, 0]
    ∧ win0_3.index t = ![0, 0, 0]
    ∧ win0_4.index t = ![t.val, 0]
    ∧ win0_5.index t = ![0, 0] :=
  (by decide +kernel : ∀ t : Fin grid0.N, _)

/-- What the body stores of a block of rows. -/
theorem block_apply (x0 : FVec Ideal S256x2048 .f32) (x1 : FVec Ideal S256x2048 .f32) (x2 : FVec Ideal S256x2048 .f32) (x3 : FVec Ideal S1x1x2048 .f32) (j : S256x2048.Idx) :
    k0_pay5 (F := Ideal) x1 x2 x3 x0 j = x0 j + gradient (fun k => x1 (ix2 (j 0) k)) (fun k => x3 (ix3 0 0 k)) (fun k => x2 (ix2 (j 0) k)) (j 1) := by
  pointwise [k0_pay5, k0_pay3, gradient, factor, meanSquare]

/-- The reference's gradient of the input at an index. -/
theorem input_apply (x0 : FVec Ideal S2048x2048 .f32) (x1 : FVec Ideal S2048x2048 .f32) (x2 : FVec Ideal S2048x2048 .f32) (x3 : FVec Ideal S4x1x2048 .f32) (j : S2048x2048.Idx) :
    Cert.PreBwdRefIdeal.Term.input x0 x1 x2 x3 j = x0 j + gradient (fun k => x1 (ix2 (j 0) k)) (fun k => x3 (ix3 0 0 k)) (fun k => x2 (ix2 (j 0) k)) (j 1) := by
  refine Eq.trans ?_ (congrArg (x0 j + ·) (gradient_eq _ _ _ _))
  pointwise [Cert.PreBwdRefIdeal.Term.input, factor, meanSquare]
  simp only [Fin.sum_univ_one]

/-- What the body adds to the gain's gradient. -/
theorem step_apply (x1 x2 : FVec Ideal S256x2048 .f32) (acc : FVec Ideal S1x2048 .f32) (j : S1x2048.Idx) :
    k0_pay1 (F := Ideal) (k0_pay4 x1 x2) acc j = acc j + ∑ k : Fin 256, x1 (ix2 k (j 1)) * x2 (ix2 k (j 1)) * factor (fun i => x2 (ix2 k i)) := by
  pointwise [k0_pay1, k0_pay3, k0_pay4, factor, meanSquare]

theorem zero_apply (j : S1x2048.Idx) : k0_pay2 (F := Ideal) j = 0 := by
  pointwise [k0_pay2]

/-- The reference's gradient of the gain at an index. -/
theorem gain_apply (x1 x2 : FVec Ideal S2048x2048 .f32) (j : S1x2048.Idx) :
    Cert.PreBwdRefIdeal.Term.gain x1 x2 j = ∑ k : Fin 2048, x1 (ix2 k (j 1)) * x2 (ix2 k (j 1)) * factor (fun i => x2 (ix2 k i)) := by
  pointwise [Cert.PreBwdRefIdeal.Term.gain, factor, meanSquare]
  exact Finset.sum_congr rfl fun k _ => (mul_comm _ _).trans (mul_assoc _ _ _).symm

/-- The block of rows point `t` leaves, the first point or a later one. -/
theorem rows (c : Dev nD) (t : Fin cfg0.N) (y) : (outsAt0 m c t.val t.isLt).1 y = k0_pay5 (F := Ideal) (iblk m c 1 t) (iblk m c 2 t) (iblk m c 3 t) (iblk m c 0 t) y := by
  by_cases h : t.val % 8 = 0
  · rw [outsAt0_A m c t h]; frame_out
  · rw [outsAt0_B m c t h]; frame_out

theorem final_input (c : Dev nD) : (dats m 0 c).arrAt 4 (cfgs 0).N
    = Cert.PreBwdRefIdeal.Term.input (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, rows, block_apply, input_apply]
  blk_point [iblk, V, idx t]

theorem final_gain (c : Dev nD) : (dats m 0 c).arrAt 5 (cfgs 0).N
    = Cert.PreBwdRefIdeal.Term.gain (m ((c : Thread nD τ).loc main_arg1)) (m ((c : Thread nD τ).loc main_arg2)) := by
  refine (dats m 0 c).arrAt_eq_of_covers 5 _ (by decide +kernel) fun t hf y => ?_
  blk_simp
  rw [after0_5,
    Pipeline.eq_sum_fin_of_reset_step_apply_of_flush (fun n h => (outsAt0 m c n h).2) 8 (fun _ => 0)
      (fun p j => ∑ k : Fin 256, (show FVec Ideal S256x2048 .f32 from iblk m c 1 p) (ix2 k (j 1))
        * (show FVec Ideal S256x2048 .f32 from iblk m c 2 p) (ix2 k (j 1))
        * factor (fun i => (show FVec Ideal S256x2048 .f32 from iblk m c 2 p) (ix2 k i)))
      (fun t h j => by
        rw [outsAt0_A m c t h]; frame_out
        exact (step_apply _ _ _ j).trans (congrArg (· + _) (zero_apply j)))
      (fun t h j => by
        rw [outsAt0_B m c t h]; frame_out
        exact step_apply _ _ _ j)
      t ((flush0_5 t).mp hf) _, zero_add]
  rw [gain_apply]
  refine Fin.sum_mul_add_congr fun s k hl => ?_
  blk_point [iblk, V, idx t, idx ⟨_, Pipeline.run_point_lt_of_flush t ((flush0_5 t).mp hf) s⟩]

end Cert.PreBwdIdeal.Norm

end
-- ==== Proof.MergeFwd.lean ====
/- The gated sum of the three branches: what the kernel `MergeFwdIdeal` leaves in its two result arrays, the branches
   themselves and their gated sum. -/
module

public import proofs.«01_k».proof.Proof.Gen.MergeFwdIdeal.Frame
public import proofs.«01_k».proof.Proof.Gen.MergeFwdRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.MergeFwdIdeal.Product

open Cert.MergeFwdIdeal Cert.MergeFwdIdeal.Gen

variable (m : (ℓ : Loc nD τ sig) → Buf (Elt Ideal) ℓ)

/-- The three branches, each a product, stacked. -/
abbrev stack (ga : FVec Ideal S2048x512 .bf16) (attn : FVec Ideal S2048x1024 .bf16) (u2 : FVec Ideal S2048x512 .bf16)
    (wa : FVec Ideal S512x2048 .bf16) (wb : FVec Ideal S1024x2048 .bf16) (wc : FVec Ideal S512x2048 .bf16) : FVec Ideal S3x2048x2048 .f32 :=
  ((concatenate Cert.MergeFwdRefIdeal.S3x2048x2048 0 [⟨Cert.MergeFwdRefIdeal.S1x2048x2048, ((broadcastInDim Cert.MergeFwdRefIdeal.S1x2048x2048 ![1, 2] Cert.MergeFwdRefIdeal.Gen.bcast_S2048x2048_S1x2048x2048_1_2 (Host.dotGeneral Cert.MergeFwdRefIdeal.dot_S2048x512_S512x2048_S2048x2048_1_0_0_1_n_n none (extf .f32 ga Cert.MergeFwdRefIdeal.Gen.bitsLt_bf16_f32) (extf .f32 wa Cert.MergeFwdRefIdeal.Gen.bitsLt_bf16_f32))) : (⟨Cert.MergeFwdRefIdeal.S1x2048x2048, .f32⟩ : BufTy).Contents (Elt Ideal))⟩, ⟨Cert.MergeFwdRefIdeal.S1x2048x2048, ((broadcastInDim Cert.MergeFwdRefIdeal.S1x2048x2048 ![1, 2] Cert.MergeFwdRefIdeal.Gen.bcast_S2048x2048_S1x2048x2048_1_2 (Host.dotGeneral Cert.MergeFwdRefIdeal.dot_S2048x1024_S1024x2048_S2048x2048_1_0_0_1_n_n none (extf .f32 attn Cert.MergeFwdRefIdeal.Gen.bitsLt_bf16_f32) (extf .f32 wb Cert.MergeFwdRefIdeal.Gen.bitsLt_bf16_f32))) : (⟨Cert.MergeFwdRefIdeal.S1x2048x2048, .f32⟩ : BufTy).Contents (Elt Ideal))⟩, ⟨Cert.MergeFwdRefIdeal.S1x2048x2048, ((broadcastInDim Cert.MergeFwdRefIdeal.S1x2048x2048 ![1, 2] Cert.MergeFwdRefIdeal.Gen.bcast_S2048x2048_S1x2048x2048_1_2 (Host.dotGeneral Cert.MergeFwdRefIdeal.dot_S2048x512_S512x2048_S2048x2048_1_0_0_1_n_n none (extf .f32 u2 Cert.MergeFwdRefIdeal.Gen.bitsLt_bf16_f32) (extf .f32 wc Cert.MergeFwdRefIdeal.Gen.bitsLt_bf16_f32))) : (⟨Cert.MergeFwdRefIdeal.S1x2048x2048, .f32⟩ : BufTy).Contents (Elt Ideal))⟩] Cert.MergeFwdRefIdeal.Gen.concatenates_S1x2048x2048_S1x2048x2048_S1x2048x2048_S3x2048x2048_d0 : (⟨Cert.MergeFwdRefIdeal.S3x2048x2048, .f32⟩ : BufTy).Contents (Elt Ideal)))

/-- The first result: the stack, rounded. -/
abbrev branches (ga : FVec Ideal S2048x512 .bf16) (attn : FVec Ideal S2048x1024 .bf16) (u2 : FVec Ideal S2048x512 .bf16)
    (wa : FVec Ideal S512x2048 .bf16) (wb : FVec Ideal S1024x2048 .bf16) (wc : FVec Ideal S512x2048 .bf16) : FVec Ideal S3x2048x2048 .bf16 :=
  truncf .bf16 (stack ga attn u2 wa wb wc) Cert.MergeFwdRefIdeal.Gen.bitsLt_bf16_f32

/-- The logistic function of the gate's columns, one plane per branch. -/
abbrev gate (proj : FVec Ideal S2048x11776 .bf16) : FVec Ideal S3x2048x2048 .f32 :=
  Host.divf (broadcastInDim Cert.MergeFwdRefIdeal.S3x2048x2048 ![] Cert.MergeFwdRefIdeal.Gen.bcast_S_S3x2048x2048 (constant Cert.MergeFwdRefIdeal.S_ .f32 0x3F800000#32)) (addf (broadcastInDim Cert.MergeFwdRefIdeal.S3x2048x2048 ![] Cert.MergeFwdRefIdeal.Gen.bcast_S_S3x2048x2048 (constant Cert.MergeFwdRefIdeal.S_ .f32 0x3F800000#32)) (Host.exp (Host.negf (transpose Cert.MergeFwdRefIdeal.S3x2048x2048 [1, 0, 2] (shapeCast _ (extf .f32 (extractStridedSlice Cert.MergeFwdRefIdeal.S2048x6144 ![0, 5632] proj Cert.MergeFwdRefIdeal.Gen.slices_S2048x11776_S2048x6144_0_5632) Cert.MergeFwdRefIdeal.Gen.bitsLt_bf16_f32) Cert.MergeFwdRefIdeal.Gen.shapeCasts_S2048x6144_S2048x3x2048) Cert.MergeFwdRefIdeal.Gen.transposes_S2048x3x2048_S3x2048x2048_1_0_2))))

/-- The second result: the gated sum over the branches, rounded. -/
abbrev merged (ga : FVec Ideal S2048x512 .bf16) (attn : FVec Ideal S2048x1024 .bf16) (u2 : FVec Ideal S2048x512 .bf16)
    (wa : FVec Ideal S512x2048 .bf16) (wb : FVec Ideal S1024x2048 .bf16) (wc : FVec Ideal S512x2048 .bf16) (proj : FVec Ideal S2048x11776 .bf16) :
    FVec Ideal S2048x2048 .bf16 :=
  truncf .bf16 (Host.reduceAdd (mulf (gate proj) (stack ga attn u2 wa wb wc)) (constant Cert.MergeFwdRefIdeal.S_ .f32 0x00000000#32) Cert.MergeFwdRefIdeal.Gen.reducesTo_S3x2048x2048_S2048x2048_d0 Cert.MergeFwdRefIdeal.Gen.h_S_) Cert.MergeFwdRefIdeal.Gen.bitsLt_bf16_f32

/-- The windows' block indices at every grid point. -/
theorem idx : ∀ t : Fin cfg0.N,
    win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, 11 + t.val % 4] ∧ win0_7.index t = ![t.val / 4, 15 + t.val % 4]
    ∧ win0_8.index t = ![t.val / 4, 19 + t.val % 4]
    ∧ win0_9.index t = ![0, t.val / 4, t.val % 4] ∧ win0_10.index t = ![t.val / 4, t.val % 4] :=
  (by decide +kernel : ∀ t : Fin grid0.N, _)

/-- What the body stores of the branches at point `t`. -/
theorem pointBranches (c : Dev nD) (t : Fin cfg0.N) (y) :
    out0_9 (iblk m c 0 t) (iblk m c 1 t) (iblk m c 2 t) (iblk m c 3 t) (iblk m c 4 t) (iblk m c 5 t) (iblk m c 6 t)
        (iblk m c 7 t) (iblk m c 8 t) y
    = branches (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 9).blk t).view.emb y) := by
  unfold out0_9
  canon_tiles x h
  · open_payloads
    pointwise [branches, stack]
    rw [dif_neg (by blk_simp [idx t]; omega), dif_neg (by blk_simp [idx t]; omega)]
    blk_point [iblk, V, idx t]
  · open_payloads
    pointwise [branches, stack]
    rw [dif_neg (by blk_simp [idx t]; omega), dif_pos (by blk_simp [idx t]; omega)]
    blk_point [iblk, V, idx t]
  · open_payloads
    pointwise [branches, stack]
    rw [dif_pos (by blk_simp [idx t]; omega)]
    blk_point [iblk, V, idx t]

theorem finalBranches (c : Dev nD) : (dats m 0 c).arrAt 9 (cfgs 0).N
    = branches (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact pointBranches m c t y

/-- What it stores of the gated sum. -/
theorem pointMerged (c : Dev nD) (t : Fin cfg0.N) (y) :
    k0_pay1 (k0_pay2 (iblk m c 0 t) (iblk m c 3 t)) (k0_pay3 (iblk m c 1 t) (iblk m c 4 t)) (k0_pay4 (iblk m c 2 t) (iblk m c 5 t))
      (k0_pay8 (iblk m c 6 t)) k0_pay9 (iblk m c 7 t) (iblk m c 8 t) y
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (((cfg0.win 10).blk t).view.emb y) := by
  pointwise [k0_pay1, k0_pay2, k0_pay3, k0_pay4, k0_pay8, k0_pay9, merged, stack, gate]
  simp only [Fin.sum_univ_three, Fin.val_zero, Fin.val_one, Fin.val_two, Nat.lt_one_iff, Nat.sub_self, OfNat.ofNat_ne_zero,
    one_ne_zero, Nat.reduceSub, dite_true, dite_false, if_true, if_false]
  simp only [zero_sub]
  blk_point [iblk, V, idx t]

theorem finalMerged (c : Dev nD) : (dats m 0 c).arrAt 10 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  frame_out
  exact pointMerged m c t y

end Cert.MergeFwdIdeal.Product

end
-- ==== Proof.FwdDown.lean ====
/- The down projection of the feed-forward layer: the kernel adds four partial products in its scratch array and copies
   the sum out at the last of them. -/
module

public import proofs.«01_k».proof.Proof.Gen.FwdDownIdeal.Frame
public import proofs.«01_k».proof.Proof.Gen.FwdDownRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.FwdDownIdeal.Product

open Cert.FwdDownIdeal Cert.FwdDownIdeal.Gen

variable (m : (ℓ : Loc nD τ sig) → Buf (Elt Ideal) ℓ)

/-- The reference's own term. -/
abbrev product (act : FVec Ideal S2048x8192 .bf16) (w : FVec Ideal S8192x2048 .bf16) : FVec Ideal S2048x2048 .f32 :=
  Host.dotGeneral Cert.FwdDownRefIdeal.dot_S2048x8192_S8192x2048_S2048x2048_1_0_0_1_n_n none (extf .f32 act Cert.FwdDownRefIdeal.Gen.bitsLt_bf16_f32) (extf .f32 w Cert.FwdDownRefIdeal.Gen.bitsLt_bf16_f32)

/-- The windows' block indices at every grid point. -/
theorem idx : ∀ t : Fin cfg0.N,
    win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The first partial product of a block. -/
theorem part_apply (x0 : FVec Ideal S1024x2048 .bf16) (x1 : FVec Ideal S2048x1024 .bf16) (j : S1024x1024.Idx) :
    k0_pay2 (F := Ideal) x0 x1 j = ∑ k : Fin 2048, x0 (ix2 (j 0) k) * x1 (ix2 k (j 1)) := by
  pointwise [k0_pay2, k0_pay1]

/-- A later one, added to what the scratch array holds. -/
theorem step_apply (x0 : FVec Ideal S1024x2048 .bf16) (x1 : FVec Ideal S2048x1024 .bf16) (acc : FVec Ideal S1024x1024 .f32) (j : S1024x1024.Idx) :
    k0_pay3 (F := Ideal) x0 x1 acc j = acc j + ∑ k : Fin 2048, x0 (ix2 (j 0) k) * x1 (ix2 k (j 1)) := by
  pointwise [k0_pay3, k0_pay1]

theorem product_apply (act : FVec Ideal S2048x8192 .bf16) (w : FVec Ideal S8192x2048 .bf16) (j : S2048x2048.Idx) :
    product act w j = ∑ l : Fin 8192, act (ix2 (j 0) l) * w (ix2 l (j 1)) := by
  pointwise [product]

/-- At the last point of a run the block copied out is the scratch array's. -/
theorem copied (c : Dev nD) (t : Fin cfg0.N) (h : t.val % 4 = 3) : (outsAt0 m c t.val t.isLt).1 = (outsAt0 m c t.val t.isLt).2 := by
  rw [outsAt0_C m c t (by omega) (by omega) h]
  frame_out

theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, copied m c t ((flush0_2 t).mp hf),
    Pipeline.eq_sum_fin_of_reset_step_apply_of_flush (fun n h => (outsAt0 m c n h).2) 4 (fun _ => 0)
      (fun p j => ∑ k : Fin 2048, (show FVec Ideal S1024x2048 .bf16 from iblk m c 0 p) (ix2 (j 0) k)
        * (show FVec Ideal S2048x1024 .bf16 from iblk m c 1 p) (ix2 k (j 1)))
      (fun t h j => by
        rw [outsAt0_A m c t h (by omega) (by omega)]; frame_out; rw [zero_add]; exact part_apply _ _ j)
      (fun t h j => by
        by_cases h3 : t.val % 4 = 3
        · rw [outsAt0_C m c t h (by omega) h3]; frame_out
          exact (step_apply _ _ _ j).trans (congrArg (· + _) (congrFun (Memref.IsWhole.read_unread _ _) j))
        · rw [outsAt0_B m c t h (by omega) h3]; frame_out
          exact (step_apply _ _ _ j).trans (congrArg (· + _) (congrFun (Memref.IsWhole.read_unread _ _) j)))
      t ((flush0_2 t).mp hf) _, zero_add]
  rw [product_apply]
  refine Fin.sum_mul_add_congr fun s k hl => ?_
  blk_point [iblk, V, idx t, idx ⟨_, Pipeline.run_point_lt_of_flush t ((flush0_2 t).mp hf) s⟩]

end Cert.FwdDownIdeal.Product

end
-- ==== Proof.ForwardProducts.lean ====
/- The forward products: the input projection, and the layer of the squared rectifier with both its results. -/
module

public import proofs.«01_k».proof.Proof.Gen.FwdInIdeal.Frame
public import proofs.«01_k».proof.Proof.Gen.FwdInRefIdeal
public import proofs.«01_k».proof.Proof.Gen.FwdUpIdeal.Frame
public import proofs.«01_k».proof.Proof.Gen.FwdUpRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.FwdInIdeal.Product

open Cert.FwdInIdeal Cert.FwdInIdeal.Gen

variable (m : (ℓ : Loc nD τ sig) → Buf (Elt Ideal) ℓ)

/-- The reference's own term. -/
abbrev projection (h : FVec Ideal S2048x2048 .bf16) (w : FVec Ideal S2048x11776 .bf16) : FVec Ideal S2048x11776 .bf16 :=
  truncf .bf16 (Host.dotGeneral Cert.FwdInRefIdeal.dot_S2048x2048_S2048x11776_S2048x11776_1_0_0_1_n_n none (extf .f32 h Cert.FwdInRefIdeal.Gen.bitsLt_bf16_f32) (extf .f32 w Cert.FwdInRefIdeal.Gen.bitsLt_bf16_f32)) Cert.FwdInRefIdeal.Gen.bitsLt_bf16_f32

/-- The windows' block indices at every grid point. -/
theorem idx : ∀ t : Fin cfg0.N,
    win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What the body stores at an index of point `t`'s block is the projection at the array index it sits at. -/
theorem point (c : Dev nD) (t : Fin cfg0.N) (y) : k0_pay1 (iblk m c 0 t) (iblk m c 1 t) y
    = projection (m ((c : Thread nD τ).loc main_arg0)) (m ((c : Thread nD τ).loc main_arg1)) (((cfg0.win 2).blk t).view.emb y) := by
  pointwise [k0_pay1, projection]
  blk_point [iblk, V, idx t]

/-- The blocks tile the result array. -/
theorem final (c : Dev nD) : (dats m 0 c).arrAt 2 (cfgs 0).N
    = projection (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.FwdInIdeal.Product

namespace Cert.FwdUpIdeal.Product

open Cert.FwdUpIdeal Cert.FwdUpIdeal.Gen

variable (m : (ℓ : Loc nD τ sig) → Buf (Elt Ideal) ℓ)

/-- The reference's first result. -/
abbrev upper (h : FVec Ideal S2048x2048 .bf16) (w : FVec Ideal S2048x8192 .bf16) : FVec Ideal S2048x8192 .bf16 :=
  truncf .bf16 (Host.dotGeneral Cert.FwdUpRefIdeal.dot_S2048x2048_S2048x8192_S2048x8192_1_0_0_1_n_n none (extf .f32 h Cert.FwdUpRefIdeal.Gen.bitsLt_bf16_f32) (extf .f32 w Cert.FwdUpRefIdeal.Gen.bitsLt_bf16_f32)) Cert.FwdUpRefIdeal.Gen.bitsLt_bf16_f32

/-- The reference's second result. -/
abbrev squared (h : FVec Ideal S2048x2048 .bf16) (w : FVec Ideal S2048x8192 .bf16) : FVec Ideal S2048x8192 .bf16 :=
  truncf .bf16 (mulf (maximumf (Host.dotGeneral Cert.FwdUpRefIdeal.dot_S2048x2048_S2048x8192_S2048x8192_1_0_0_1_n_n none (extf .f32 h Cert.FwdUpRefIdeal.Gen.bitsLt_bf16_f32) (extf .f32 w Cert.FwdUpRefIdeal.Gen.bitsLt_bf16_f32)) (broadcastInDim Cert.FwdUpRefIdeal.S2048x8192 ![] Cert.FwdUpRefIdeal.Gen.bcast_S_S2048x8192 (constant Cert.FwdUpRefIdeal.S_ .f32 0x00000000#32))) (maximumf (Host.dotGeneral Cert.FwdUpRefIdeal.dot_S2048x2048_S2048x8192_S2048x8192_1_0_0_1_n_n none (extf .f32 h Cert.FwdUpRefIdeal.Gen.bitsLt_bf16_f32) (extf .f32 w Cert.FwdUpRefIdeal.Gen.bitsLt_bf16_f32)) (broadcastInDim Cert.FwdUpRefIdeal.S2048x8192 ![] Cert.FwdUpRefIdeal.Gen.bcast_S_S2048x8192 (constant Cert.FwdUpRefIdeal.S_ .f32 0x00000000#32)))) Cert.FwdUpRefIdeal.Gen.bitsLt_bf16_f32

/-- The windows' block indices at every grid point. -/
theorem idx : ∀ t : Fin cfg0.N,
    win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- What the body stores at an index of point `t`'s block is the upper at the array index it sits at. -/
theorem point_upper (c : Dev nD) (t : Fin cfg0.N) (y) : k0_pay2 (iblk m c 0 t) (iblk m c 1 t) y
    = upper (m ((c : Thread nD τ).loc main_arg0)) (m ((c : Thread nD τ).loc main_arg1)) (((cfg0.win 2).blk t).view.emb y) := by
  pointwise [k0_pay2, k0_pay1, upper]
  blk_point [iblk, V, idx t]

/-- The blocks tile the result array. -/
theorem final_upper (c : Dev nD) : (dats m 0 c).arrAt 2 (cfgs 0).N
    = upper (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_upper m c t y

/-- What the body stores at an index of point `t`'s block is the squared at the array index it sits at. -/
theorem point_squared (c : Dev nD) (t : Fin cfg0.N) (y) : k0_pay3 (iblk m c 0 t) (iblk m c 1 t) y
    = squared (m ((c : Thread nD τ).loc main_arg0)) (m ((c : Thread nD τ).loc main_arg1)) (((cfg0.win 3).blk t).view.emb y) := by
  pointwise [k0_pay3, k0_pay1, squared]
  blk_point [iblk, V, idx t]

/-- The blocks tile the result array. -/
theorem final_squared (c : Dev nD) : (dats m 0 c).arrAt 3 (cfgs 0).N
    = squared (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_squared m c t y

end Cert.FwdUpIdeal.Product

end
-- ==== Proof.InputGradients.lean ====
/- The gradients passed back through the output projection and the three branch projections. -/
module

public import proofs.«01_k».proof.Proof.Gen.DMergedIdeal.Frame
public import proofs.«01_k».proof.Proof.Gen.DMergedRefIdeal
public import proofs.«01_k».proof.Proof.Gen.DGaIdeal.Frame
public import proofs.«01_k».proof.Proof.Gen.DGaRefIdeal
public import proofs.«01_k».proof.Proof.Gen.DAttnIdeal.Frame
public import proofs.«01_k».proof.Proof.Gen.DAttnRefIdeal
public import proofs.«01_k».proof.Proof.Gen.DU2Ideal.Frame
public import proofs.«01_k».proof.Proof.Gen.DU2RefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.DMergedIdeal.Product

open Cert.DMergedIdeal Cert.DMergedIdeal.Gen

variable (m : (ℓ : Loc nD τ sig) → Buf (Elt Ideal) ℓ)

/-- The reference's own term. -/
abbrev inputGradient (dy : FVec Ideal S2048x2048 .bf16) (w : FVec Ideal S2048x2048 .bf16) : FVec Ideal S2048x2048 .f32 :=
  Host.dotGeneral Cert.DMergedRefIdeal.dot_S2048x2048_S2048x2048_S2048x2048_1_1_0_0_n_n none (extf .f32 dy Cert.DMergedRefIdeal.Gen.bitsLt_bf16_f32) (extf .f32 w Cert.DMergedRefIdeal.Gen.bitsLt_bf16_f32)

/-- The windows' block indices at every grid point. -/
theorem idx : ∀ t : Fin cfg0.N,
    win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- What the body stores at an index of point `t`'s block is the inputGradient at the array index it sits at. -/
theorem point (c : Dev nD) (t : Fin cfg0.N) (y) : k0_pay1 (iblk m c 0 t) (iblk m c 1 t) y
    = inputGradient (m ((c : Thread nD τ).loc main_arg0)) (m ((c : Thread nD τ).loc main_arg1)) (((cfg0.win 2).blk t).view.emb y) := by
  pointwise [k0_pay1, inputGradient]
  blk_point [iblk, V, idx t]

/-- The blocks tile the result array. -/
theorem final (c : Dev nD) : (dats m 0 c).arrAt 2 (cfgs 0).N
    = inputGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DMergedIdeal.Product

namespace Cert.DGaIdeal.Product

open Cert.DGaIdeal Cert.DGaIdeal.Gen

variable (m : (ℓ : Loc nD τ sig) → Buf (Elt Ideal) ℓ)

/-- The reference's own term. -/
abbrev inputGradient (dy : FVec Ideal S3x2048x2048 .bf16) (w : FVec Ideal S512x2048 .bf16) : FVec Ideal S2048x512 .f32 :=
  Host.dotGeneral Cert.DGaRefIdeal.dot_S2048x2048_S512x2048_S2048x512_1_1_0_0_n_n none (extf .f32 (shapeCast _ (extractStridedSlice Cert.DGaRefIdeal.S1x2048x2048 ![0, 0, 0] dy Cert.DGaRefIdeal.Gen.slices_S3x2048x2048_S1x2048x2048_0_0_0) Cert.DGaRefIdeal.Gen.shapeCasts_S1x2048x2048_S2048x2048) Cert.DGaRefIdeal.Gen.bitsLt_bf16_f32) (extf .f32 w Cert.DGaRefIdeal.Gen.bitsLt_bf16_f32)

/-- The windows' block indices at every grid point. -/
theorem idx : ∀ t : Fin cfg0.N,
    win0_0.index t = ![0, (grid0.coords t 0).val, 0]
    ∧ win0_1.index t = ![(grid0.coords t 1).val, 0]
    ∧ win0_2.index t = ![(grid0.coords t 0).val, (grid0.coords t 1).val] :=
  (by decide +kernel : ∀ t : Fin grid0.N, _)

/-- What the body stores at an index of point `t`'s block is the inputGradient at the array index it sits at. -/
theorem point (c : Dev nD) (t : Fin cfg0.N) (y) : k0_pay1 (iblk m c 0 t) (iblk m c 1 t) y
    = inputGradient (m ((c : Thread nD τ).loc main_arg0)) (m ((c : Thread nD τ).loc main_arg1)) (((cfg0.win 2).blk t).view.emb y) := by
  pointwise [k0_pay1, inputGradient]
  blk_point [iblk, V, idx t]

/-- The blocks tile the result array. -/
theorem final (c : Dev nD) : (dats m 0 c).arrAt 2 (cfgs 0).N
    = inputGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DGaIdeal.Product

namespace Cert.DAttnIdeal.Product

open Cert.DAttnIdeal Cert.DAttnIdeal.Gen

variable (m : (ℓ : Loc nD τ sig) → Buf (Elt Ideal) ℓ)

/-- The reference's own term. -/
abbrev inputGradient (dy : FVec Ideal S3x2048x2048 .bf16) (w : FVec Ideal S1024x2048 .bf16) : FVec Ideal S2048x1024 .bf16 :=
  truncf .bf16 (Host.dotGeneral Cert.DAttnRefIdeal.dot_S2048x2048_S1024x2048_S2048x1024_1_1_0_0_n_n none (extf .f32 (shapeCast _ (extractStridedSlice Cert.DAttnRefIdeal.S1x2048x2048 ![1, 0, 0] dy Cert.DAttnRefIdeal.Gen.slices_S3x2048x2048_S1x2048x2048_1_0_0) Cert.DAttnRefIdeal.Gen.shapeCasts_S1x2048x2048_S2048x2048) Cert.DAttnRefIdeal.Gen.bitsLt_bf16_f32) (extf .f32 w Cert.DAttnRefIdeal.Gen.bitsLt_bf16_f32)) Cert.DAttnRefIdeal.Gen.bitsLt_bf16_f32

/-- The windows' block indices at every grid point. -/
theorem idx : ∀ t : Fin cfg0.N,
    win0_0.index t = ![1, (grid0.coords t 0).val, 0]
    ∧ win0_1.index t = ![(grid0.coords t 1).val, 0]
    ∧ win0_2.index t = ![(grid0.coords t 0).val, (grid0.coords t 1).val] :=
  (by decide +kernel : ∀ t : Fin grid0.N, _)

/-- What the body stores at an index of point `t`'s block is the inputGradient at the array index it sits at. -/
theorem point (c : Dev nD) (t : Fin cfg0.N) (y) : k0_pay1 (iblk m c 0 t) (iblk m c 1 t) y
    = inputGradient (m ((c : Thread nD τ).loc main_arg0)) (m ((c : Thread nD τ).loc main_arg1)) (((cfg0.win 2).blk t).view.emb y) := by
  pointwise [k0_pay1, inputGradient]
  blk_point [iblk, V, idx t]

/-- The blocks tile the result array. -/
theorem final (c : Dev nD) : (dats m 0 c).arrAt 2 (cfgs 0).N
    = inputGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DAttnIdeal.Product

namespace Cert.DU2Ideal.Product

open Cert.DU2Ideal Cert.DU2Ideal.Gen

variable (m : (ℓ : Loc nD τ sig) → Buf (Elt Ideal) ℓ)

/-- The reference's own term. -/
abbrev inputGradient (dy : FVec Ideal S3x2048x2048 .bf16) (w : FVec Ideal S512x2048 .bf16) : FVec Ideal S2048x512 .f32 :=
  Host.dotGeneral Cert.DU2RefIdeal.dot_S2048x2048_S512x2048_S2048x512_1_1_0_0_n_n none (extf .f32 (shapeCast _ (extractStridedSlice Cert.DU2RefIdeal.S1x2048x2048 ![2, 0, 0] dy Cert.DU2RefIdeal.Gen.slices_S3x2048x2048_S1x2048x2048_2_0_0) Cert.DU2RefIdeal.Gen.shapeCasts_S1x2048x2048_S2048x2048) Cert.DU2RefIdeal.Gen.bitsLt_bf16_f32) (extf .f32 w Cert.DU2RefIdeal.Gen.bitsLt_bf16_f32)

/-- The windows' block indices at every grid point. -/
theorem idx : ∀ t : Fin cfg0.N,
    win0_0.index t = ![2, (grid0.coords t 0).val, 0]
    ∧ win0_1.index t = ![(grid0.coords t 1).val, 0]
    ∧ win0_2.index t = ![(grid0.coords t 0).val, (grid0.coords t 1).val] :=
  (by decide +kernel : ∀ t : Fin grid0.N, _)

/-- What the body stores at an index of point `t`'s block is the inputGradient at the array index it sits at. -/
theorem point (c : Dev nD) (t : Fin cfg0.N) (y) : k0_pay1 (iblk m c 0 t) (iblk m c 1 t) y
    = inputGradient (m ((c : Thread nD τ).loc main_arg0)) (m ((c : Thread nD τ).loc main_arg1)) (((cfg0.win 2).blk t).view.emb y) := by
  pointwise [k0_pay1, inputGradient]
  blk_point [iblk, V, idx t]

/-- The blocks tile the result array. -/
theorem final (c : Dev nD) : (dats m 0 c).arrAt 2 (cfgs 0).N
    = inputGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DU2Ideal.Product

end
-- ==== Proof.BranchWeightGradients.lean ====
/- The gradients of the three branch projections. -/
module

public import proofs.«01_k».proof.Proof.Gen.DProjAIdeal.Frame
public import proofs.«01_k».proof.Proof.Gen.DProjARefIdeal
public import proofs.«01_k».proof.Proof.Gen.DProjBIdeal.Frame
public import proofs.«01_k».proof.Proof.Gen.DProjBRefIdeal
public import proofs.«01_k».proof.Proof.Gen.DProjCIdeal.Frame
public import proofs.«01_k».proof.Proof.Gen.DProjCRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.DProjAIdeal.Product

open Cert.DProjAIdeal Cert.DProjAIdeal.Gen

variable (m : (ℓ : Loc nD τ sig) → Buf (Elt Ideal) ℓ)

/-- The reference's own term. -/
abbrev weightGradient (ga : FVec Ideal S2048x512 .bf16) (dy : FVec Ideal S3x2048x2048 .bf16) : FVec Ideal S512x2048 .bf16 :=
  truncf .bf16 (transpose Cert.DProjARefIdeal.S512x2048 [1, 0] (Host.dotGeneral Cert.DProjARefIdeal.dot_S2048x2048_S2048x512_S2048x512_0_0_1_1_n_n none (extf .f32 (shapeCast _ (extractStridedSlice Cert.DProjARefIdeal.S1x2048x2048 ![0, 0, 0] dy Cert.DProjARefIdeal.Gen.slices_S3x2048x2048_S1x2048x2048_0_0_0) Cert.DProjARefIdeal.Gen.shapeCasts_S1x2048x2048_S2048x2048) Cert.DProjARefIdeal.Gen.bitsLt_bf16_f32) (extf .f32 ga Cert.DProjARefIdeal.Gen.bitsLt_bf16_f32)) Cert.DProjARefIdeal.Gen.transposes_S2048x512_S512x2048_1_0) Cert.DProjARefIdeal.Gen.bitsLt_bf16_f32

/-- The windows' block indices at every grid point. -/
theorem idx : ∀ t : Fin cfg0.N,
    win0_0.index t = ![0, (grid0.coords t 0).val]
    ∧ win0_1.index t = ![0, 0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DProjAIdeal.Product

namespace Cert.DProjBIdeal.Product

open Cert.DProjBIdeal Cert.DProjBIdeal.Gen

variable (m : (ℓ : Loc nD τ sig) → Buf (Elt Ideal) ℓ)

/-- The reference's own term. -/
abbrev weightGradient (attn : FVec Ideal S2048x1024 .bf16) (dy : FVec Ideal S3x2048x2048 .bf16) : FVec Ideal S1024x2048 .bf16 :=
  truncf .bf16 (transpose Cert.DProjBRefIdeal.S1024x2048 [1, 0] (Host.dotGeneral Cert.DProjBRefIdeal.dot_S2048x2048_S2048x1024_S2048x1024_0_0_1_1_n_n none (extf .f32 (shapeCast _ (extractStridedSlice Cert.DProjBRefIdeal.S1x2048x2048 ![1, 0, 0] dy Cert.DProjBRefIdeal.Gen.slices_S3x2048x2048_S1x2048x2048_1_0_0) Cert.DProjBRefIdeal.Gen.shapeCasts_S1x2048x2048_S2048x2048) Cert.DProjBRefIdeal.Gen.bitsLt_bf16_f32) (extf .f32 attn Cert.DProjBRefIdeal.Gen.bitsLt_bf16_f32)) Cert.DProjBRefIdeal.Gen.transposes_S2048x1024_S1024x2048_1_0) Cert.DProjBRefIdeal.Gen.bitsLt_bf16_f32

/-- The windows' block indices at every grid point. -/
theorem idx : ∀ t : Fin cfg0.N,
    win0_0.index t = ![0, (grid0.coords t 0).val]
    ∧ win0_1.index t = ![1, 0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DProjBIdeal.Product

namespace Cert.DProjCIdeal.Product

open Cert.DProjCIdeal Cert.DProjCIdeal.Gen

variable (m : (ℓ : Loc nD τ sig) → Buf (Elt Ideal) ℓ)

/-- The reference's own term. -/
abbrev weightGradient (u2 : FVec Ideal S2048x512 .bf16) (dy : FVec Ideal S3x2048x2048 .bf16) : FVec Ideal S512x2048 .bf16 :=
  truncf .bf16 (transpose Cert.DProjCRefIdeal.S512x2048 [1, 0] (Host.dotGeneral Cert.DProjCRefIdeal.dot_S2048x2048_S2048x512_S2048x512_0_0_1_1_n_n none (extf .f32 (shapeCast _ (extractStridedSlice Cert.DProjCRefIdeal.S1x2048x2048 ![2, 0, 0] dy Cert.DProjCRefIdeal.Gen.slices_S3x2048x2048_S1x2048x2048_2_0_0) Cert.DProjCRefIdeal.Gen.shapeCasts_S1x2048x2048_S2048x2048) Cert.DProjCRefIdeal.Gen.bitsLt_bf16_f32) (extf .f32 u2 Cert.DProjCRefIdeal.Gen.bitsLt_bf16_f32)) Cert.DProjCRefIdeal.Gen.transposes_S2048x512_S512x2048_1_0) Cert.DProjCRefIdeal.Gen.bitsLt_bf16_f32

/-- The windows' block indices at every grid point. -/
theorem idx : ∀ t : Fin cfg0.N,
    win0_0.index t = ![0, (grid0.coords t 0).val]
    ∧ win0_1.index t = ![2, 0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DProjCIdeal.Product

end
-- ==== Proof.MixWeightGradients.lean ====
/- The gradients of the input projection and of the output projection of the mixing half. -/
module

public import proofs.«01_k».proof.Proof.Gen.DWOIdeal.Frame
public import proofs.«01_k».proof.Proof.Gen.DWORefIdeal
public import proofs.«01_k».proof.Proof.Gen.DWInIdeal.Frame
public import proofs.«01_k».proof.Proof.Gen.DWInRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.DWOIdeal.Product

open Cert.DWOIdeal Cert.DWOIdeal.Gen

variable (m : (ℓ : Loc nD τ sig) → Buf (Elt Ideal) ℓ)

/-- The reference's own term. -/
abbrev weightGradient (merged : FVec Ideal S2048x2048 .bf16) (dy : FVec Ideal S2048x2048 .bf16) : FVec Ideal S2048x2048 .bf16 :=
  truncf .bf16 (transpose Cert.DWORefIdeal.S2048x2048 [1, 0] (Host.dotGeneral Cert.DWORefIdeal.dot_S2048x2048_S2048x2048_S2048x2048_0_0_1_1_n_n none (extf .f32 dy Cert.DWORefIdeal.Gen.bitsLt_bf16_f32) (extf .f32 merged Cert.DWORefIdeal.Gen.bitsLt_bf16_f32)) Cert.DWORefIdeal.Gen.transposes_S2048x2048_S2048x2048_1_0) Cert.DWORefIdeal.Gen.bitsLt_bf16_f32

/-- The windows' block indices at every grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DWOIdeal.Product

namespace Cert.DWInIdeal.Product

open Cert.DWInIdeal Cert.DWInIdeal.Gen

variable (m : (ℓ : Loc nD τ sig) → Buf (Elt Ideal) ℓ)

/-- The reference's own term. -/
abbrev weightGradient (h : FVec Ideal S2048x2048 .bf16) (dy : FVec Ideal S2048x11776 .bf16) : FVec Ideal S2048x11776 .bf16 :=
  truncf .bf16 (transpose Cert.DWInRefIdeal.S2048x11776 [1, 0] (Host.dotGeneral Cert.DWInRefIdeal.dot_S2048x11776_S2048x2048_S11776x2048_0_0_1_1_n_n none (extf .f32 dy Cert.DWInRefIdeal.Gen.bitsLt_bf16_f32) (extf .f32 h Cert.DWInRefIdeal.Gen.bitsLt_bf16_f32)) Cert.DWInRefIdeal.Gen.transposes_S11776x2048_S2048x11776_1_0) Cert.DWInRefIdeal.Gen.bitsLt_bf16_f32

/-- The windows' block indices at every grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DWInIdeal.Product

end
-- ==== Proof.MlpWeightGradients.lean ====
/- The gradients of the two weights of the squared rectifier's layer. -/
module

public import proofs.«01_k».proof.Proof.Gen.DWDownIdeal.Frame
public import proofs.«01_k».proof.Proof.Gen.DWDownRefIdeal
public import proofs.«01_k».proof.Proof.Gen.DWUpIdeal.Frame
public import proofs.«01_k».proof.Proof.Gen.DWUpRefIdeal
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.DWDownIdeal.Product

open Cert.DWDownIdeal Cert.DWDownIdeal.Gen

variable (m : (ℓ : Loc nD τ sig) → Buf (Elt Ideal) ℓ)

/-- The reference's own term. -/
abbrev weightGradient (act : FVec Ideal S2048x8192 .bf16) (dy : FVec Ideal S2048x2048 .bf16) : FVec Ideal S8192x2048 .bf16 :=
  truncf .bf16 (transpose Cert.DWDownRefIdeal.S8192x2048 [1, 0] (Host.dotGeneral Cert.DWDownRefIdeal.dot_S2048x2048_S2048x8192_S2048x8192_0_0_1_1_n_n none (extf .f32 dy Cert.DWDownRefIdeal.Gen.bitsLt_bf16_f32) (extf .f32 act Cert.DWDownRefIdeal.Gen.bitsLt_bf16_f32)) Cert.DWDownRefIdeal.Gen.transposes_S2048x8192_S8192x2048_1_0) Cert.DWDownRefIdeal.Gen.bitsLt_bf16_f32

/-- The windows' block indices at every grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DWDownIdeal.Product

namespace Cert.DWUpIdeal.Product

open Cert.DWUpIdeal Cert.DWUpIdeal.Gen

variable (m : (ℓ : Loc nD τ sig) → Buf (Elt Ideal) ℓ)

/-- The reference's own term. -/
abbrev weightGradient (h : FVec Ideal S2048x2048 .bf16) (dy : FVec Ideal S2048x8192 .bf16) : FVec Ideal S2048x8192 .bf16 :=
  truncf .bf16 (transpose Cert.DWUpRefIdeal.S2048x8192 [1, 0] (Host.dotGeneral Cert.DWUpRefIdeal.dot_S2048x8192_S2048x2048_S8192x2048_0_0_1_1_n_n none (extf .f32 dy Cert.DWUpRefIdeal.Gen.bitsLt_bf16_f32) (extf .f32 h Cert.DWUpRefIdeal.Gen.bitsLt_bf16_f32)) Cert.DWUpRefIdeal.Gen.transposes_S8192x2048_S2048x8192_1_0) Cert.DWUpRefIdeal.Gen.bitsLt_bf16_f32

/-- The windows' block indices at every grid point. -/
theorem idx : ∀ t : Fin cfg0.N,
    win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- What the body stores at an index of point `t`'s block is the weightGradient at the array index it sits at. -/
theorem point (c : Dev nD) (t : Fin cfg0.N) (y) : k0_pay1 (iblk m c 0 t) (iblk m c 1 t) y
    = weightGradient (m ((c : Thread nD τ).loc main_arg0)) (m ((c : Thread nD τ).loc main_arg1)) (((cfg0.win 2).blk t).view.emb y) := by
  pointwise [k0_pay1, weightGradient]
  refine (Finset.sum_congr rfl fun k _ => mul_comm _ _).trans ?_
  blk_point [iblk, V, idx t]

/-- The blocks tile the result array. -/
theorem final (c : Dev nD) : (dats m 0 c).arrAt 2 (cfgs 0).N
    = weightGradient (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DWUpIdeal.Product

end
-- ==== Proof.lean ====
/- The proof of the certificate: the frames, and the values of the kernels beside their references. -/
module

public import proofs.«01_k».proof.Defs
public import proofs.«01_k».proof.Proof.Gen.ScFwd
public import proofs.«01_k».proof.Proof.Gen.ScFwd.Skeleton
public import proofs.«01_k».proof.Proof.Gen.ScFwd.Launch
public import proofs.«01_k».proof.Proof.Gen.ScFwd.Points
public import proofs.«01_k».proof.Proof.Gen.ScFwd.Frame
public import proofs.«01_k».proof.Proof.Gen.ScFwdIdeal
public import proofs.«01_k».proof.Proof.Gen.ScFwdIdeal.Skeleton
public import proofs.«01_k».proof.Proof.Gen.ScFwdIdeal.Launch
public import proofs.«01_k».proof.Proof.Gen.ScFwdIdeal.Points
public import proofs.«01_k».proof.Proof.Gen.ScFwdIdeal.Frame
public import proofs.«01_k».proof.Proof.Gen.ScFwdRefIdeal
public import proofs.«01_k».proof.Proof.Gen.ScFwdRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossRefIdeal
public import proofs.«01_k».proof.Proof.Gen.LossRefIdeal.Run
public import proofs.«01_k».proof.Proof.Gen.PutColumns
public import proofs.«01_k».proof.Proof.Gen.PutColumns.Skeleton
public import proofs.«01_k».proof.Proof.Gen.PutColumns.Launch
public import proofs.«01_k».proof.Proof.Gen.PutColumns.Points
public import proofs.«01_k».proof.Proof.Gen.PutColumns.Frame
public import proofs.«01_k».proof.Proof.Gen.PutColumnsIdeal
public import proofs.«01_k».proof.Proof.Gen.PutColumnsIdeal.Skeleton
public import proofs.«01_k».proof.Proof.Gen.PutColumnsIdeal.Launch
public import proofs.«01_k».proof.Proof.Gen.PutColumnsIdeal.Points
public import proofs.«01_k».proof.Proof.Gen.PutColumnsIdeal.Frame
public import proofs.«01_k».proof.Proof.Gen.PutColumnsRefIdeal
public import proofs.«01_k».proof.Proof.Gen.PutColumnsRefIdeal.Run
public import proofs.«01_k».proof.Proof.Gen.SumSlots
public import proofs.«01_k».proof.Proof.Gen.SumSlots.Skeleton
public import proofs.«01_k».proof.Proof.Gen.SumSlots.Launch
public import proofs.«01_k».proof.Proof.Gen.SumSlots.Points
public import proofs.«01_k».proof.Proof.Gen.SumSlots.Frame
public import proofs.«01_k».proof.Proof.Gen.SumSlotsIdeal
public import proofs.«01_k».proof.Proof.Gen.SumSlotsIdeal.Skeleton
public import proofs.«01_k».proof.Proof.Gen.SumSlotsIdeal.Launch
public import proofs.«01_k».proof.Proof.Gen.SumSlotsIdeal.Points
public import proofs.«01_k».proof.Proof.Gen.SumSlotsIdeal.Frame
public import proofs.«01_k».proof.Proof.Gen.SumSlotsRefIdeal
public import proofs.«01_k».proof.Proof.Gen.SumSlotsRefIdeal.Run
public import proofs.«01_k».proof.Proof.Gen.PreBwd
public import proofs.«01_k».proof.Proof.Gen.PreBwd.Skeleton
public import proofs.«01_k».proof.Proof.Gen.PreBwd.Launch
public import proofs.«01_k».proof.Proof.Gen.PreBwd.Points
public import proofs.«01_k».proof.Proof.Gen.PreBwd.Frame
public import proofs.«01_k».proof.Proof.Gen.PreBwdIdeal
public import proofs.«01_k».proof.Proof.Gen.PreBwdIdeal.Skeleton
public import proofs.«01_k».proof.Proof.Gen.PreBwdIdeal.Launch
public import proofs.«01_k».proof.Proof.Gen.PreBwdIdeal.Points
public import proofs.«01_k».proof.Proof.Gen.PreBwdIdeal.Frame
public import proofs.«01_k».proof.Proof.Gen.PreBwdRefIdeal
public import proofs.«01_k».proof.Proof.Gen.PreBwdRefIdeal.Run
public import proofs.«01_k».proof.Proof.Gen.PostBwd
public import proofs.«01_k».proof.Proof.Gen.PostBwd.Skeleton
public import proofs.«01_k».proof.Proof.Gen.PostBwd.Launch
public import proofs.«01_k».proof.Proof.Gen.PostBwd.Points
public import proofs.«01_k».proof.Proof.Gen.PostBwd.Frame
public import proofs.«01_k».proof.Proof.Gen.PostBwdIdeal
public import proofs.«01_k».proof.Proof.Gen.PostBwdIdeal.Skeleton
public import proofs.«01_k».proof.Proof.Gen.PostBwdIdeal.Launch
public import proofs.«01_k».proof.Proof.Gen.PostBwdIdeal.Points
public import proofs.«01_k».proof.Proof.Gen.PostBwdIdeal.Frame
public import proofs.«01_k».proof.Proof.Gen.PostBwdRefIdeal
public import proofs.«01_k».proof.Proof.Gen.PostBwdRefIdeal.Run
public import proofs.«01_k».proof.Proof.Gen.RmsFirst
public import proofs.«01_k».proof.Proof.Gen.RmsFirst.Skeleton
public import proofs.«01_k».proof.Proof.Gen.RmsFirst.Launch
public import proofs.«01_k».proof.Proof.Gen.RmsFirst.Points
public import proofs.«01_k».proof.Proof.Gen.RmsFirst.Frame
public import proofs.«01_k».proof.Proof.Gen.RmsFirstIdeal
public import proofs.«01_k».proof.Proof.Gen.RmsFirstIdeal.Skeleton
public import proofs.«01_k».proof.Proof.Gen.RmsFirstIdeal.Launch
public import proofs.«01_k».proof.Proof.Gen.RmsFirstIdeal.Points
public import proofs.«01_k».proof.Proof.Gen.RmsFirstIdeal.Frame
public import proofs.«01_k».proof.Proof.Gen.RmsFirstRefIdeal
public import proofs.«01_k».proof.Proof.Gen.RmsFirstRefIdeal.Run
public import proofs.«01_k».proof.Proof.Gen.Residual
public import proofs.«01_k».proof.Proof.Gen.Residual.Skeleton
public import proofs.«01_k».proof.Proof.Gen.Residual.Launch
public import proofs.«01_k».proof.Proof.Gen.Residual.Points
public import proofs.«01_k».proof.Proof.Gen.Residual.Frame
public import proofs.«01_k».proof.Proof.Gen.ResidualIdeal
public import proofs.«01_k».proof.Proof.Gen.ResidualIdeal.Skeleton
public import proofs.«01_k».proof.Proof.Gen.ResidualIdeal.Launch
public import proofs.«01_k».proof.Proof.Gen.ResidualIdeal.Points
public import proofs.«01_k».proof.Proof.Gen.ResidualIdeal.Frame
public import proofs.«01_k».proof.Proof.Gen.ResidualRefIdeal
public import proofs.«01_k».proof.Proof.Gen.ResidualRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.CfNormFwd
public import proofs.«01_k».proof.Proof.Gen.CfNormFwd.Skeleton
public import proofs.«01_k».proof.Proof.Gen.CfNormFwd.Launch
public import proofs.«01_k».proof.Proof.Gen.CfNormFwd.Points
public import proofs.«01_k».proof.Proof.Gen.CfNormFwd.Frame
public import proofs.«01_k».proof.Proof.Gen.CfNormFwdIdeal
public import proofs.«01_k».proof.Proof.Gen.CfNormFwdIdeal.Skeleton
public import proofs.«01_k».proof.Proof.Gen.CfNormFwdIdeal.Launch
public import proofs.«01_k».proof.Proof.Gen.CfNormFwdIdeal.Points
public import proofs.«01_k».proof.Proof.Gen.CfNormFwdIdeal.Frame
public import proofs.«01_k».proof.Proof.Gen.CfNormFwdRefIdeal
public import proofs.«01_k».proof.Proof.Gen.CfNormFwdRefIdeal.Run
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInRefIdeal
public import proofs.«01_k».proof.Proof.Gen.AdamWInRefIdeal.Run
public import proofs.«01_k».proof.Proof.Gen.AdamProjA
public import proofs.«01_k».proof.Proof.Gen.AdamProjA.Skeleton
public import proofs.«01_k».proof.Proof.Gen.AdamProjA.Launch
public import proofs.«01_k».proof.Proof.Gen.AdamProjA.Points
public import proofs.«01_k».proof.Proof.Gen.AdamProjA.Frame
public import proofs.«01_k».proof.Proof.Gen.AdamProjAIdeal
public import proofs.«01_k».proof.Proof.Gen.AdamProjAIdeal.Skeleton
public import proofs.«01_k».proof.Proof.Gen.AdamProjAIdeal.Launch
public import proofs.«01_k».proof.Proof.Gen.AdamProjAIdeal.Points
public import proofs.«01_k».proof.Proof.Gen.AdamProjAIdeal.Frame
public import proofs.«01_k».proof.Proof.Gen.AdamProjARefIdeal
public import proofs.«01_k».proof.Proof.Gen.AdamProjARefIdeal.Run
public import proofs.«01_k».proof.Proof.Gen.AdamProjB
public import proofs.«01_k».proof.Proof.Gen.AdamProjB.Skeleton
public import proofs.«01_k».proof.Proof.Gen.AdamProjB.Launch
public import proofs.«01_k».proof.Proof.Gen.AdamProjB.Points
public import proofs.«01_k».proof.Proof.Gen.AdamProjB.Frame
public import proofs.«01_k».proof.Proof.Gen.AdamProjBIdeal
public import proofs.«01_k».proof.Proof.Gen.AdamProjBIdeal.Skeleton
public import proofs.«01_k».proof.Proof.Gen.AdamProjBIdeal.Launch
public import proofs.«01_k».proof.Proof.Gen.AdamProjBIdeal.Points
public import proofs.«01_k».proof.Proof.Gen.AdamProjBIdeal.Frame
public import proofs.«01_k».proof.Proof.Gen.AdamProjBRefIdeal
public import proofs.«01_k».proof.Proof.Gen.AdamProjBRefIdeal.Run
public import proofs.«01_k».proof.Proof.Gen.AdamWO
public import proofs.«01_k».proof.Proof.Gen.AdamWO.Skeleton
public import proofs.«01_k».proof.Proof.Gen.AdamWO.Launch
public import proofs.«01_k».proof.Proof.Gen.AdamWO.Points
public import proofs.«01_k».proof.Proof.Gen.AdamWO.Frame
public import proofs.«01_k».proof.Proof.Gen.AdamWOIdeal
public import proofs.«01_k».proof.Proof.Gen.AdamWOIdeal.Skeleton
public import proofs.«01_k».proof.Proof.Gen.AdamWOIdeal.Launch
public import proofs.«01_k».proof.Proof.Gen.AdamWOIdeal.Points
public import proofs.«01_k».proof.Proof.Gen.AdamWOIdeal.Frame
public import proofs.«01_k».proof.Proof.Gen.AdamWORefIdeal
public import proofs.«01_k».proof.Proof.Gen.AdamWORefIdeal.Run
public import proofs.«01_k».proof.Proof.Gen.AdamMlp
public import proofs.«01_k».proof.Proof.Gen.AdamMlp.Skeleton
public import proofs.«01_k».proof.Proof.Gen.AdamMlp.Launch
public import proofs.«01_k».proof.Proof.Gen.AdamMlp.Points
public import proofs.«01_k».proof.Proof.Gen.AdamMlp.Frame
public import proofs.«01_k».proof.Proof.Gen.AdamMlpIdeal
public import proofs.«01_k».proof.Proof.Gen.AdamMlpIdeal.Skeleton
public import proofs.«01_k».proof.Proof.Gen.AdamMlpIdeal.Launch
public import proofs.«01_k».proof.Proof.Gen.AdamMlpIdeal.Points
public import proofs.«01_k».proof.Proof.Gen.AdamMlpIdeal.Frame
public import proofs.«01_k».proof.Proof.Gen.AdamMlpRefIdeal
public import proofs.«01_k».proof.Proof.Gen.AdamMlpRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.DWDown
public import proofs.«01_k».proof.Proof.Gen.DWDown.Skeleton
public import proofs.«01_k».proof.Proof.Gen.DWDown.Launch
public import proofs.«01_k».proof.Proof.Gen.DWDown.Points
public import proofs.«01_k».proof.Proof.Gen.DWDown.Frame
public import proofs.«01_k».proof.Proof.Gen.DWDownIdeal
public import proofs.«01_k».proof.Proof.Gen.DWDownIdeal.Skeleton
public import proofs.«01_k».proof.Proof.Gen.DWDownIdeal.Launch
public import proofs.«01_k».proof.Proof.Gen.DWDownIdeal.Points
public import proofs.«01_k».proof.Proof.Gen.DWDownIdeal.Frame
public import proofs.«01_k».proof.Proof.Gen.DWDownRefIdeal
public import proofs.«01_k».proof.Proof.Gen.DWDownRefIdeal.Run
public import proofs.«01_k».proof.Proof.Gen.DWUp
public import proofs.«01_k».proof.Proof.Gen.DWUp.Skeleton
public import proofs.«01_k».proof.Proof.Gen.DWUp.Launch
public import proofs.«01_k».proof.Proof.Gen.DWUp.Points
public import proofs.«01_k».proof.Proof.Gen.DWUp.Frame
public import proofs.«01_k».proof.Proof.Gen.DWUpIdeal
public import proofs.«01_k».proof.Proof.Gen.DWUpIdeal.Skeleton
public import proofs.«01_k».proof.Proof.Gen.DWUpIdeal.Launch
public import proofs.«01_k».proof.Proof.Gen.DWUpIdeal.Points
public import proofs.«01_k».proof.Proof.Gen.DWUpIdeal.Frame
public import proofs.«01_k».proof.Proof.Gen.DWUpRefIdeal
public import proofs.«01_k».proof.Proof.Gen.DWUpRefIdeal.Run
public import proofs.«01_k».proof.Proof.Gen.DWO
public import proofs.«01_k».proof.Proof.Gen.DWO.Skeleton
public import proofs.«01_k».proof.Proof.Gen.DWO.Launch
public import proofs.«01_k».proof.Proof.Gen.DWO.Points
public import proofs.«01_k».proof.Proof.Gen.DWO.Frame
public import proofs.«01_k».proof.Proof.Gen.DWOIdeal
public import proofs.«01_k».proof.Proof.Gen.DWOIdeal.Skeleton
public import proofs.«01_k».proof.Proof.Gen.DWOIdeal.Launch
public import proofs.«01_k».proof.Proof.Gen.DWOIdeal.Points
public import proofs.«01_k».proof.Proof.Gen.DWOIdeal.Frame
public import proofs.«01_k».proof.Proof.Gen.DWORefIdeal
public import proofs.«01_k».proof.Proof.Gen.DWORefIdeal.Run
public import proofs.«01_k».proof.Proof.Gen.DProjA
public import proofs.«01_k».proof.Proof.Gen.DProjA.Skeleton
public import proofs.«01_k».proof.Proof.Gen.DProjA.Launch
public import proofs.«01_k».proof.Proof.Gen.DProjA.Points
public import proofs.«01_k».proof.Proof.Gen.DProjA.Frame
public import proofs.«01_k».proof.Proof.Gen.DProjAIdeal
public import proofs.«01_k».proof.Proof.Gen.DProjAIdeal.Skeleton
public import proofs.«01_k».proof.Proof.Gen.DProjAIdeal.Launch
public import proofs.«01_k».proof.Proof.Gen.DProjAIdeal.Points
public import proofs.«01_k».proof.Proof.Gen.DProjAIdeal.Frame
public import proofs.«01_k».proof.Proof.Gen.DProjARefIdeal
public import proofs.«01_k».proof.Proof.Gen.DProjARefIdeal.Run
public import proofs.«01_k».proof.Proof.Gen.DProjB
public import proofs.«01_k».proof.Proof.Gen.DProjB.Skeleton
public import proofs.«01_k».proof.Proof.Gen.DProjB.Launch
public import proofs.«01_k».proof.Proof.Gen.DProjB.Points
public import proofs.«01_k».proof.Proof.Gen.DProjB.Frame
public import proofs.«01_k».proof.Proof.Gen.DProjBIdeal
public import proofs.«01_k».proof.Proof.Gen.DProjBIdeal.Skeleton
public import proofs.«01_k».proof.Proof.Gen.DProjBIdeal.Launch
public import proofs.«01_k».proof.Proof.Gen.DProjBIdeal.Points
public import proofs.«01_k».proof.Proof.Gen.DProjBIdeal.Frame
public import proofs.«01_k».proof.Proof.Gen.DProjBRefIdeal
public import proofs.«01_k».proof.Proof.Gen.DProjBRefIdeal.Run
public import proofs.«01_k».proof.Proof.Gen.DProjC
public import proofs.«01_k».proof.Proof.Gen.DProjC.Skeleton
public import proofs.«01_k».proof.Proof.Gen.DProjC.Launch
public import proofs.«01_k».proof.Proof.Gen.DProjC.Points
public import proofs.«01_k».proof.Proof.Gen.DProjC.Frame
public import proofs.«01_k».proof.Proof.Gen.DProjCIdeal
public import proofs.«01_k».proof.Proof.Gen.DProjCIdeal.Skeleton
public import proofs.«01_k».proof.Proof.Gen.DProjCIdeal.Launch
public import proofs.«01_k».proof.Proof.Gen.DProjCIdeal.Points
public import proofs.«01_k».proof.Proof.Gen.DProjCIdeal.Frame
public import proofs.«01_k».proof.Proof.Gen.DProjCRefIdeal
public import proofs.«01_k».proof.Proof.Gen.DProjCRefIdeal.Run
public import proofs.«01_k».proof.Proof.Gen.DWIn
public import proofs.«01_k».proof.Proof.Gen.DWIn.Skeleton
public import proofs.«01_k».proof.Proof.Gen.DWIn.Launch
public import proofs.«01_k».proof.Proof.Gen.DWIn.Points
public import proofs.«01_k».proof.Proof.Gen.DWIn.Frame
public import proofs.«01_k».proof.Proof.Gen.DWInIdeal
public import proofs.«01_k».proof.Proof.Gen.DWInIdeal.Skeleton
public import proofs.«01_k».proof.Proof.Gen.DWInIdeal.Launch
public import proofs.«01_k».proof.Proof.Gen.DWInIdeal.Points
public import proofs.«01_k».proof.Proof.Gen.DWInIdeal.Frame
public import proofs.«01_k».proof.Proof.Gen.DWInRefIdeal
public import proofs.«01_k».proof.Proof.Gen.DWInRefIdeal.Run
public import proofs.«01_k».proof.Proof.Gen.DMerged
public import proofs.«01_k».proof.Proof.Gen.DMerged.Skeleton
public import proofs.«01_k».proof.Proof.Gen.DMerged.Launch
public import proofs.«01_k».proof.Proof.Gen.DMerged.Points
public import proofs.«01_k».proof.Proof.Gen.DMerged.Frame
public import proofs.«01_k».proof.Proof.Gen.DMergedIdeal
public import proofs.«01_k».proof.Proof.Gen.DMergedIdeal.Skeleton
public import proofs.«01_k».proof.Proof.Gen.DMergedIdeal.Launch
public import proofs.«01_k».proof.Proof.Gen.DMergedIdeal.Points
public import proofs.«01_k».proof.Proof.Gen.DMergedIdeal.Frame
public import proofs.«01_k».proof.Proof.Gen.DMergedRefIdeal
public import proofs.«01_k».proof.Proof.Gen.DMergedRefIdeal.Run
public import proofs.«01_k».proof.Proof.Gen.DGa
public import proofs.«01_k».proof.Proof.Gen.DGa.Skeleton
public import proofs.«01_k».proof.Proof.Gen.DGa.Launch
public import proofs.«01_k».proof.Proof.Gen.DGa.Points
public import proofs.«01_k».proof.Proof.Gen.DGa.Frame
public import proofs.«01_k».proof.Proof.Gen.DGaIdeal
public import proofs.«01_k».proof.Proof.Gen.DGaIdeal.Skeleton
public import proofs.«01_k».proof.Proof.Gen.DGaIdeal.Launch
public import proofs.«01_k».proof.Proof.Gen.DGaIdeal.Points
public import proofs.«01_k».proof.Proof.Gen.DGaIdeal.Frame
public import proofs.«01_k».proof.Proof.Gen.DGaRefIdeal
public import proofs.«01_k».proof.Proof.Gen.DGaRefIdeal.Run
public import proofs.«01_k».proof.Proof.Gen.DAttn
public import proofs.«01_k».proof.Proof.Gen.DAttn.Skeleton
public import proofs.«01_k».proof.Proof.Gen.DAttn.Launch
public import proofs.«01_k».proof.Proof.Gen.DAttn.Points
public import proofs.«01_k».proof.Proof.Gen.DAttn.Frame
public import proofs.«01_k».proof.Proof.Gen.DAttnIdeal
public import proofs.«01_k».proof.Proof.Gen.DAttnIdeal.Skeleton
public import proofs.«01_k».proof.Proof.Gen.DAttnIdeal.Launch
public import proofs.«01_k».proof.Proof.Gen.DAttnIdeal.Points
public import proofs.«01_k».proof.Proof.Gen.DAttnIdeal.Frame
public import proofs.«01_k».proof.Proof.Gen.DAttnRefIdeal
public import proofs.«01_k».proof.Proof.Gen.DAttnRefIdeal.Run
public import proofs.«01_k».proof.Proof.Gen.DU2
public import proofs.«01_k».proof.Proof.Gen.DU2.Skeleton
public import proofs.«01_k».proof.Proof.Gen.DU2.Launch
public import proofs.«01_k».proof.Proof.Gen.DU2.Points
public import proofs.«01_k».proof.Proof.Gen.DU2.Frame
public import proofs.«01_k».proof.Proof.Gen.DU2Ideal
public import proofs.«01_k».proof.Proof.Gen.DU2Ideal.Skeleton
public import proofs.«01_k».proof.Proof.Gen.DU2Ideal.Launch
public import proofs.«01_k».proof.Proof.Gen.DU2Ideal.Points
public import proofs.«01_k».proof.Proof.Gen.DU2Ideal.Frame
public import proofs.«01_k».proof.Proof.Gen.DU2RefIdeal
public import proofs.«01_k».proof.Proof.Gen.DU2RefIdeal.Run
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInRefIdeal
public import proofs.«01_k».proof.Proof.Gen.FwdInRefIdeal.Run
public import proofs.«01_k».proof.Proof.Gen.FwdUp
public import proofs.«01_k».proof.Proof.Gen.FwdUp.Skeleton
public import proofs.«01_k».proof.Proof.Gen.FwdUp.Launch
public import proofs.«01_k».proof.Proof.Gen.FwdUp.Points
public import proofs.«01_k».proof.Proof.Gen.FwdUp.Frame
public import proofs.«01_k».proof.Proof.Gen.FwdUpIdeal
public import proofs.«01_k».proof.Proof.Gen.FwdUpIdeal.Skeleton
public import proofs.«01_k».proof.Proof.Gen.FwdUpIdeal.Launch
public import proofs.«01_k».proof.Proof.Gen.FwdUpIdeal.Points
public import proofs.«01_k».proof.Proof.Gen.FwdUpIdeal.Frame
public import proofs.«01_k».proof.Proof.Gen.FwdUpRefIdeal
public import proofs.«01_k».proof.Proof.Gen.FwdUpRefIdeal.Run
public import proofs.«01_k».proof.Proof.Gen.FwdDown
public import proofs.«01_k».proof.Proof.Gen.FwdDown.Skeleton
public import proofs.«01_k».proof.Proof.Gen.FwdDown.Launch
public import proofs.«01_k».proof.Proof.Gen.FwdDown.Points
public import proofs.«01_k».proof.Proof.Gen.FwdDown.Frame
public import proofs.«01_k».proof.Proof.Gen.FwdDownIdeal
public import proofs.«01_k».proof.Proof.Gen.FwdDownIdeal.Skeleton
public import proofs.«01_k».proof.Proof.Gen.FwdDownIdeal.Launch
public import proofs.«01_k».proof.Proof.Gen.FwdDownIdeal.Points
public import proofs.«01_k».proof.Proof.Gen.FwdDownIdeal.Frame
public import proofs.«01_k».proof.Proof.Gen.FwdDownRefIdeal
public import proofs.«01_k».proof.Proof.Gen.FwdDownRefIdeal.Run
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdRefIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.DUp
public import proofs.«01_k».proof.Proof.Gen.DUp.Skeleton
public import proofs.«01_k».proof.Proof.Gen.DUp.Launch
public import proofs.«01_k».proof.Proof.Gen.DUp.Points
public import proofs.«01_k».proof.Proof.Gen.DUp.Frame
public import proofs.«01_k».proof.Proof.Gen.DUpIdeal
public import proofs.«01_k».proof.Proof.Gen.DUpIdeal.Skeleton
public import proofs.«01_k».proof.Proof.Gen.DUpIdeal.Launch
public import proofs.«01_k».proof.Proof.Gen.DUpIdeal.Points
public import proofs.«01_k».proof.Proof.Gen.DUpIdeal.Frame
public import proofs.«01_k».proof.Proof.Gen.DUpRefIdeal
public import proofs.«01_k».proof.Proof.Gen.On_gate_columns
public import proofs.«01_k».proof.Proof.Gen.MergeBwdIdeal.Value
public import proofs.«01_k».proof.Proof.Gen.DUpIdeal.Value
public import proofs.«01_k».proof.Proof.Gen.MergeBwdRefIdeal.Run
public import proofs.«01_k».proof.Proof.Gen.MergeBwdRefIdeal.Read
public import proofs.«01_k».proof.Proof.Gen.DUpRefIdeal.Run
public import proofs.«01_k».proof.Proof.Gen.DUpRefIdeal.Read
public import proofs.«01_k».proof.Proof.MergeBwd
public import proofs.«01_k».proof.Proof.DUp
public import proofs.«01_k».proof.Proof.SmallSum
public import proofs.«01_k».proof.Proof.Optimiser
public import proofs.«01_k».proof.Proof.BranchNorm
public import proofs.«01_k».proof.Proof.LossHead
public import proofs.«01_k».proof.Proof.LossRun
public import proofs.«01_k».proof.Proof.LossIdealRun
public import proofs.«01_k».proof.Proof.LossSum
public import proofs.«01_k».proof.Proof.PutColumns
public import proofs.«01_k».proof.Proof.ShortConv
public import proofs.«01_k».proof.Proof.ForwardNorms
public import proofs.«01_k».proof.Proof.PostBwd
public import proofs.«01_k».proof.Proof.PreBwd
public import proofs.«01_k».proof.Proof.MergeFwd
public import proofs.«01_k».proof.Proof.FwdDown
public import proofs.«01_k».proof.Proof.ForwardProducts
public import proofs.«01_k».proof.Proof.InputGradients
public import proofs.«01_k».proof.Proof.BranchWeightGradients
public import proofs.«01_k».proof.Proof.MixWeightGradients
public import proofs.«01_k».proof.Proof.MlpWeightGradients
public import Idealize.ShloMosaic.Lib.Claim
public import Idealize.ShloMosaic.Lib.Quiescent
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-! ## The gradient of the gated sum of the branches -/

theorem frame_merge_reference : Cert.quiescent_MergeBwdRefIdeal := fun m ρ _ =>
  (θ_run Cert.MergeBwdRefIdeal.defs _ _).mono
    (fun r h => ⟨fun c => ⟨(h c).2.2.1, (h c).2.2.2.1, (h c).2.2.2.2⟩, sem_eq_zero_of_no_sems (by decide) r.2⟩)
    (Cert.MergeBwdRefIdeal.Value.run (F := Ideal) m ρ)

/-- The mask of the second result is set on the gate's columns only. -/
theorem mask_column {F : FTy → Type} [FloatOps F] [Cert.On_gate_columns.Facts] (x : FVec F Cert.On_gate_columns.S2048x2048 .f32)
    (y : FVec F Cert.On_gate_columns.S3x2048x2048 .bf16) (z : FVec F Cert.On_gate_columns.S2048x11776 .bf16)
    (i : Cert.On_gate_columns.S2048x11776.Idx) (h : (Cert.On_gate_columns.fn x y z).2 i = 1#1) : 5632 ≤ (i 1 : ℕ) := by
  have hi : (i 1 : ℕ) < 11776 := (i 1).isLt
  have key : IntOp.cmpi .sge (BitVec.ofNat 32 (i 1 : ℕ)) 5632#32 = 1#1 := h
  by_contra hlt
  revert key
  have hpos : (BitVec.ofNat 32 (i 1 : ℕ)).toInt = (i 1 : ℕ) := by
    rw [BitVec.toInt_eq_toNat_of_lt (by rw [BitVec.toNat_ofNat]; omega), BitVec.toNat_ofNat]
    omega
  have hk : (5632#32 : BitVec 32).toInt = 5632 := by decide
  have : BitVec.sle (5632#32) (BitVec.ofNat 32 (i 1 : ℕ)) = false := by
    rw [BitVec.sle_eq_decide, hpos, hk]
    simp only [decide_eq_false_iff_not]
    omega
  simp [IntOp.cmpi, this]

theorem algebraic_merge : Cert.algebraic_MergeBwdIdeal_MergeBwdRefIdeal_on_gate_columns := by
  intro m ρ m' ρ' _ hagree
  refine ⟨fun c => Cert.MergeBwdIdeal.Gradient.gradBranches (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg2)),
    fun c => Cert.MergeBwdIdeal.Gradient.gradGate (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)), ?_, ?_⟩
  · refine (θ_run Cert.MergeBwdIdeal.defs _ _).mono (fun r h c => ⟨fun i _ => ?_, fun i hi => ?_, ?_⟩)
      (Cert.MergeBwdIdeal.Gen.run_main m ρ)
    · exact (congrFun ((h c).1 3) i).trans (congrFun (Cert.MergeBwdIdeal.Gradient.finalBranches m c) i)
    · have hcol := mask_column _ _ _ i hi
      refine (congrFun ((h c).1 4) i).trans ((congrFun (Cert.MergeBwdIdeal.Gradient.finalGate m c) i).trans ?_)
      exact if_pos hcol
    · exact ⟨((h c).1 0).trans ((Cert.MergeBwdIdeal.Gen.dats m 0 c).arrAt_in 0 rfl _),
        ((h c).1 1).trans ((Cert.MergeBwdIdeal.Gen.dats m 0 c).arrAt_in 1 rfl _),
        ((h c).1 2).trans ((Cert.MergeBwdIdeal.Gen.dats m 0 c).arrAt_in 2 rfl _)⟩
  · refine (θ_run Cert.MergeBwdRefIdeal.defs _ _).mono (fun r h c => ?_) (Cert.MergeBwdRefIdeal.Value.run (F := Ideal) m' ρ')
    have h1 := (h c).1
    have h2 := (h c).2.1
    rw [(hagree c).1, (hagree c).2.2] at h1
    rw [(hagree c).1, (hagree c).2.1, (hagree c).2.2] at h2
    exact ⟨fun i _ => congrFun h1 i, fun i _ => congrFun h2 i, (h c).2.2⟩

/-! ## The gradient of the squared rectifier -/

theorem frame_up_reference : Cert.quiescent_DUpRefIdeal := fun m ρ _ =>
  (θ_run Cert.DUpRefIdeal.defs _ _).mono
    (fun r h => ⟨fun c => (h c).2, sem_eq_zero_of_no_sems (by decide) r.2⟩)
    (Cert.DUpRefIdeal.Value.run (F := Ideal) m ρ)

theorem algebraic_up : Cert.algebraic_DUpIdeal_DUpRefIdeal := by
  pair_intro
  · run_from Cert.DUpIdeal.Gen.run_main m g
  · run_from Cert.DUpRefIdeal.Value.run m' g'
    exact (Cert.DUpIdeal.Gradient.final m c).symm

/-! ## The products of the backward pass and of the forward pass -/

theorem frame_d_w_down_reference : Cert.quiescent_DWDownRefIdeal := fun m ρ _ =>
  (θ_run Cert.DWDownRefIdeal.defs _ _).mono
    (fun r h => ⟨fun c => (h c).2, sem_eq_zero_of_no_sems (by decide) r.2⟩)
    (Cert.DWDownRefIdeal.Value.run (F := Ideal) m ρ)

theorem algebraic_d_w_down : Cert.algebraic_DWDownIdeal_DWDownRefIdeal := by
  pair_intro
  · run_from Cert.DWDownIdeal.Gen.run_main m g
  · run_from Cert.DWDownRefIdeal.Value.run m' g'
    exact (Cert.DWDownIdeal.Product.final m c).symm

theorem frame_d_w_up_reference : Cert.quiescent_DWUpRefIdeal := fun m ρ _ =>
  (θ_run Cert.DWUpRefIdeal.defs _ _).mono
    (fun r h => ⟨fun c => (h c).2, sem_eq_zero_of_no_sems (by decide) r.2⟩)
    (Cert.DWUpRefIdeal.Value.run (F := Ideal) m ρ)

theorem algebraic_d_w_up : Cert.algebraic_DWUpIdeal_DWUpRefIdeal := by
  pair_intro
  · run_from Cert.DWUpIdeal.Gen.run_main m g
  · run_from Cert.DWUpRefIdeal.Value.run m' g'
    exact (Cert.DWUpIdeal.Product.final m c).symm

theorem frame_d_w_o_reference : Cert.quiescent_DWORefIdeal := fun m ρ _ =>
  (θ_run Cert.DWORefIdeal.defs _ _).mono
    (fun r h => ⟨fun c => (h c).2, sem_eq_zero_of_no_sems (by decide) r.2⟩)
    (Cert.DWORefIdeal.Value.run (F := Ideal) m ρ)

theorem algebraic_d_w_o : Cert.algebraic_DWOIdeal_DWORefIdeal := by
  pair_intro
  · run_from Cert.DWOIdeal.Gen.run_main m g
  · run_from Cert.DWORefIdeal.Value.run m' g'
    exact (Cert.DWOIdeal.Product.final m c).symm

theorem frame_d_proj_a_reference : Cert.quiescent_DProjARefIdeal := fun m ρ _ =>
  (θ_run Cert.DProjARefIdeal.defs _ _).mono
    (fun r h => ⟨fun c => (h c).2, sem_eq_zero_of_no_sems (by decide) r.2⟩)
    (Cert.DProjARefIdeal.Value.run (F := Ideal) m ρ)

theorem algebraic_d_proj_a : Cert.algebraic_DProjAIdeal_DProjARefIdeal := by
  pair_intro
  · run_from Cert.DProjAIdeal.Gen.run_main m g
  · run_from Cert.DProjARefIdeal.Value.run m' g'
    exact (Cert.DProjAIdeal.Product.final m c).symm

theorem frame_d_proj_b_reference : Cert.quiescent_DProjBRefIdeal := fun m ρ _ =>
  (θ_run Cert.DProjBRefIdeal.defs _ _).mono
    (fun r h => ⟨fun c => (h c).2, sem_eq_zero_of_no_sems (by decide) r.2⟩)
    (Cert.DProjBRefIdeal.Value.run (F := Ideal) m ρ)

theorem algebraic_d_proj_b : Cert.algebraic_DProjBIdeal_DProjBRefIdeal := by
  pair_intro
  · run_from Cert.DProjBIdeal.Gen.run_main m g
  · run_from Cert.DProjBRefIdeal.Value.run m' g'
    exact (Cert.DProjBIdeal.Product.final m c).symm

theorem frame_d_proj_c_reference : Cert.quiescent_DProjCRefIdeal := fun m ρ _ =>
  (θ_run Cert.DProjCRefIdeal.defs _ _).mono
    (fun r h => ⟨fun c => (h c).2, sem_eq_zero_of_no_sems (by decide) r.2⟩)
    (Cert.DProjCRefIdeal.Value.run (F := Ideal) m ρ)

theorem algebraic_d_proj_c : Cert.algebraic_DProjCIdeal_DProjCRefIdeal := by
  pair_intro
  · run_from Cert.DProjCIdeal.Gen.run_main m g
  · run_from Cert.DProjCRefIdeal.Value.run m' g'
    exact (Cert.DProjCIdeal.Product.final m c).symm

theorem frame_d_w_in_reference : Cert.quiescent_DWInRefIdeal := fun m ρ _ =>
  (θ_run Cert.DWInRefIdeal.defs _ _).mono
    (fun r h => ⟨fun c => (h c).2, sem_eq_zero_of_no_sems (by decide) r.2⟩)
    (Cert.DWInRefIdeal.Value.run (F := Ideal) m ρ)

theorem algebraic_d_w_in : Cert.algebraic_DWInIdeal_DWInRefIdeal := by
  pair_intro
  · run_from Cert.DWInIdeal.Gen.run_main m g
  · run_from Cert.DWInRefIdeal.Value.run m' g'
    exact (Cert.DWInIdeal.Product.final m c).symm

theorem frame_d_merged_reference : Cert.quiescent_DMergedRefIdeal := fun m ρ _ =>
  (θ_run Cert.DMergedRefIdeal.defs _ _).mono
    (fun r h => ⟨fun c => (h c).2, sem_eq_zero_of_no_sems (by decide) r.2⟩)
    (Cert.DMergedRefIdeal.Value.run (F := Ideal) m ρ)

theorem algebraic_d_merged : Cert.algebraic_DMergedIdeal_DMergedRefIdeal := by
  pair_intro
  · run_from Cert.DMergedIdeal.Gen.run_main m g
  · run_from Cert.DMergedRefIdeal.Value.run m' g'
    exact (Cert.DMergedIdeal.Product.final m c).symm

theorem frame_d_ga_reference : Cert.quiescent_DGaRefIdeal := fun m ρ _ =>
  (θ_run Cert.DGaRefIdeal.defs _ _).mono
    (fun r h => ⟨fun c => (h c).2, sem_eq_zero_of_no_sems (by decide) r.2⟩)
    (Cert.DGaRefIdeal.Value.run (F := Ideal) m ρ)

theorem algebraic_d_ga : Cert.algebraic_DGaIdeal_DGaRefIdeal := by
  pair_intro
  · run_from Cert.DGaIdeal.Gen.run_main m g
  · run_from Cert.DGaRefIdeal.Value.run m' g'
    exact (Cert.DGaIdeal.Product.final m c).symm

theorem frame_d_attn_reference : Cert.quiescent_DAttnRefIdeal := fun m ρ _ =>
  (θ_run Cert.DAttnRefIdeal.defs _ _).mono
    (fun r h => ⟨fun c => (h c).2, sem_eq_zero_of_no_sems (by decide) r.2⟩)
    (Cert.DAttnRefIdeal.Value.run (F := Ideal) m ρ)

theorem algebraic_d_attn : Cert.algebraic_DAttnIdeal_DAttnRefIdeal := by
  pair_intro
  · run_from Cert.DAttnIdeal.Gen.run_main m g
  · run_from Cert.DAttnRefIdeal.Value.run m' g'
    exact (Cert.DAttnIdeal.Product.final m c).symm

theorem frame_d_u2_reference : Cert.quiescent_DU2RefIdeal := fun m ρ _ =>
  (θ_run Cert.DU2RefIdeal.defs _ _).mono
    (fun r h => ⟨fun c => (h c).2, sem_eq_zero_of_no_sems (by decide) r.2⟩)
    (Cert.DU2RefIdeal.Value.run (F := Ideal) m ρ)

theorem algebraic_d_u2 : Cert.algebraic_DU2Ideal_DU2RefIdeal := by
  pair_intro
  · run_from Cert.DU2Ideal.Gen.run_main m g
  · run_from Cert.DU2RefIdeal.Value.run m' g'
    exact (Cert.DU2Ideal.Product.final m c).symm

theorem frame_fwd_in_reference : Cert.quiescent_FwdInRefIdeal := fun m ρ _ =>
  (θ_run Cert.FwdInRefIdeal.defs _ _).mono
    (fun r h => ⟨fun c => (h c).2, sem_eq_zero_of_no_sems (by decide) r.2⟩)
    (Cert.FwdInRefIdeal.Value.run (F := Ideal) m ρ)

theorem algebraic_fwd_in : Cert.algebraic_FwdInIdeal_FwdInRefIdeal := by
  pair_intro
  · run_from Cert.FwdInIdeal.Gen.run_main m g
  · run_from Cert.FwdInRefIdeal.Value.run m' g'
    exact (Cert.FwdInIdeal.Product.final m c).symm

theorem frame_fwd_up_reference : Cert.quiescent_FwdUpRefIdeal := fun m ρ _ =>
  (θ_run Cert.FwdUpRefIdeal.defs _ _).mono
    (fun r h => ⟨fun c => (h c).2.2, sem_eq_zero_of_no_sems (by decide) r.2⟩)
    (Cert.FwdUpRefIdeal.Value.run (F := Ideal) m ρ)

theorem algebraic_fwd_up : Cert.algebraic_FwdUpIdeal_FwdUpRefIdeal := by
  pair_intro
  · run_from Cert.FwdUpIdeal.Gen.run_main m g
  · run_from Cert.FwdUpRefIdeal.Value.run m' g'
    · exact (Cert.FwdUpIdeal.Product.final_upper m c).symm
    · exact (Cert.FwdUpIdeal.Product.final_squared m c).symm

theorem frame_fwd_down_reference : Cert.quiescent_FwdDownRefIdeal := fun m ρ _ =>
  (θ_run Cert.FwdDownRefIdeal.defs _ _).mono
    (fun r h => ⟨fun c => (h c).2, sem_eq_zero_of_no_sems (by decide) r.2⟩)
    (Cert.FwdDownRefIdeal.Value.run (F := Ideal) m ρ)

theorem algebraic_fwd_down : Cert.algebraic_FwdDownIdeal_FwdDownRefIdeal := by
  pair_intro
  · run_from Cert.FwdDownIdeal.Gen.run_main m g
  · run_from Cert.FwdDownRefIdeal.Value.run m' g'
    exact (Cert.FwdDownIdeal.Product.final m c).symm

theorem frame_merge_fwd_reference : Cert.quiescent_MergeFwdRefIdeal := fun m ρ _ =>
  (θ_run Cert.MergeFwdRefIdeal.defs _ _).mono
    (fun r h => ⟨fun c => (h c).2.2, sem_eq_zero_of_no_sems (by decide) r.2⟩)
    (Cert.MergeFwdRefIdeal.Value.run (F := Ideal) m ρ)

theorem algebraic_merge_fwd : Cert.algebraic_MergeFwdIdeal_MergeFwdRefIdeal := by
  pair_intro
  · run_from Cert.MergeFwdIdeal.Gen.run_main m g
  · run_from Cert.MergeFwdRefIdeal.Value.run m' g'
    · rw [(hagree c).2.2.2.2.1, (hagree c).2.2.2.2.2.1]
      exact (Cert.MergeFwdIdeal.Product.finalBranches m c).symm
    · rw [(hagree c).2.2.2.2.1, (hagree c).2.2.2.2.2.1]
      exact (Cert.MergeFwdIdeal.Product.finalMerged m c).symm

theorem frame_pre_bwd_reference : Cert.quiescent_PreBwdRefIdeal := fun m ρ _ =>
  (θ_run Cert.PreBwdRefIdeal.defs _ _).mono
    (fun r h => ⟨fun c => (h c).2.2, sem_eq_zero_of_no_sems (by decide) r.2⟩)
    (Cert.PreBwdRefIdeal.Value.run (F := Ideal) m ρ)

theorem algebraic_pre_bwd : Cert.algebraic_PreBwdIdeal_PreBwdRefIdeal := by
  pair_intro
  · run_from Cert.PreBwdIdeal.Gen.run_main m g
  · refine (θ_run Cert.PreBwdRefIdeal.defs _ _).mono
      (fun r h c => ⟨(h c).1.trans ?_, (h c).2.1.trans ?_, (h c).2.2⟩)
      (Cert.PreBwdRefIdeal.Value.run (F := Ideal) m' g')
    · rw [(hagree c).1, (hagree c).2.1, (hagree c).2.2.1, (hagree c).2.2.2]
      exact (Cert.PreBwdIdeal.Norm.final_input m c).symm
    · rw [(hagree c).2.1, (hagree c).2.2.1]
      exact (Cert.PreBwdIdeal.Norm.final_gain m c).symm

theorem frame_post_bwd_reference : Cert.quiescent_PostBwdRefIdeal := fun m ρ _ =>
  (θ_run Cert.PostBwdRefIdeal.defs _ _).mono
    (fun r h => ⟨fun c => (h c).2.2, sem_eq_zero_of_no_sems (by decide) r.2⟩)
    (Cert.PostBwdRefIdeal.Value.run (F := Ideal) m ρ)

theorem algebraic_post_bwd : Cert.algebraic_PostBwdIdeal_PostBwdRefIdeal := by
  pair_intro
  · run_from Cert.PostBwdIdeal.Gen.run_main m g
  · refine (θ_run Cert.PostBwdRefIdeal.defs _ _).mono
      (fun r h c => ⟨(h c).1.trans ?_, (h c).2.1.trans ?_, (h c).2.2⟩)
      (Cert.PostBwdRefIdeal.Value.run (F := Ideal) m' g')
    · rw [(hagree c).1, (hagree c).2.1, (hagree c).2.2]
      exact (Cert.PostBwdIdeal.Norm.final_input m c).symm
    · rw [(hagree c).1, (hagree c).2.1]
      exact (Cert.PostBwdIdeal.Norm.final_gain m c).symm

theorem frame_rms_first_reference : Cert.quiescent_RmsFirstRefIdeal := fun m ρ _ =>
  (θ_run Cert.RmsFirstRefIdeal.defs _ _).mono
    (fun r h => ⟨fun c => (h c).2, sem_eq_zero_of_no_sems (by decide) r.2⟩)
    (Cert.RmsFirstRefIdeal.Value.run (F := Ideal) m ρ)

theorem algebraic_rms_first : Cert.algebraic_RmsFirstIdeal_RmsFirstRefIdeal := by
  pair_intro
  · run_from Cert.RmsFirstIdeal.Gen.run_main m g
  · run_from Cert.RmsFirstRefIdeal.Value.run m' g'
    exact (Cert.RmsFirstIdeal.Norm.final_out m c).symm

theorem frame_residual_reference : Cert.quiescent_ResidualRefIdeal := fun m ρ _ =>
  (θ_run Cert.ResidualRefIdeal.defs _ _).mono
    (fun r h => ⟨fun c => (h c).2.2, sem_eq_zero_of_no_sems (by decide) r.2⟩)
    (Cert.ResidualRefIdeal.Value.run (F := Ideal) m ρ)

theorem algebraic_residual : Cert.algebraic_ResidualIdeal_ResidualRefIdeal := by
  pair_intro
  · run_from Cert.ResidualIdeal.Gen.run_main m g
  · run_from Cert.ResidualRefIdeal.Value.run m' g'
    · exact (Cert.ResidualIdeal.Norm.final_stream m c).symm
    · exact (Cert.ResidualIdeal.Norm.final_normed m c).symm

theorem frame_loss_head_reference : Cert.quiescent_LossHeadRefIdeal := fun m ρ _ =>
  (θ_run Cert.LossHeadRefIdeal.defs _ _).mono
    (fun r h => ⟨fun c => (h c).2.2, sem_eq_zero_of_no_sems (by decide) r.2⟩)
    (Cert.LossHeadRefIdeal.Value.run (F := Ideal) m ρ)

theorem algebraic_loss_head : Cert.algebraic_LossHeadIdeal_LossHeadRefIdeal := by
  pair_intro
  · run_from Cert.LossHeadIdeal.Gen.run_main m g
  · run_from Cert.LossHeadRefIdeal.Value.run m' g'
    · exact (Cert.LossHeadIdeal.Loss.final_gradient m c).symm
    · exact (Cert.LossHeadIdeal.Loss.final_total m c).symm

theorem frame_cf_norm_fwd_reference : Cert.quiescent_CfNormFwdRefIdeal := fun m ρ _ =>
  (θ_run Cert.CfNormFwdRefIdeal.defs _ _).mono
    (fun r h => ⟨fun c => (h c).2, sem_eq_zero_of_no_sems (by decide) r.2⟩)
    (Cert.CfNormFwdRefIdeal.Value.run (F := Ideal) m ρ)

theorem algebraic_cf_norm_fwd : Cert.algebraic_CfNormFwdIdeal_CfNormFwdRefIdeal := by
  pair_intro
  · run_from Cert.CfNormFwdIdeal.Gen.run_main m g
  · run_from Cert.CfNormFwdRefIdeal.Value.run m' g'
    unfold Cert.CfNormFwdRefIdeal.Value.res_main_v27
    rw [(hagree c).1, (hagree c).2.1, (hagree c).2.2]
    exact (Cert.CfNormFwdIdeal.Norm.final_out m c).symm

theorem frame_sc_fwd_reference : Cert.quiescent_ScFwdRefIdeal := fun m ρ _ =>
  (θ_run Cert.ScFwdRefIdeal.defs _ _).mono
    (fun r h => ⟨fun c => (h c).2, sem_eq_zero_of_no_sems (by decide) r.2⟩)
    (Cert.ScFwdRefIdeal.Value.run (F := Ideal) m ρ)

theorem algebraic_sc_fwd : Cert.algebraic_ScFwdIdeal_ScFwdRefIdeal := by
  pair_intro
  · run_from Cert.ScFwdIdeal.Gen.run_main m g
  · run_from Cert.ScFwdRefIdeal.Value.run m' g'
    exact (Cert.ScFwdIdeal.Conv.final_out m c).symm

theorem frame_adam_w_in_reference : Cert.quiescent_AdamWInRefIdeal := fun m ρ _ =>
  (θ_run Cert.AdamWInRefIdeal.defs _ _).mono
    (fun r h => ⟨fun c => (h c).2.2.2.2, sem_eq_zero_of_no_sems (by decide) r.2⟩)
    (Cert.AdamWInRefIdeal.Value.run (F := Ideal) m ρ)

theorem algebraic_adam_w_in : Cert.algebraic_AdamWInIdeal_AdamWInRefIdeal := by
  pair_intro
  · run_from Cert.AdamWInIdeal.Gen.run_main m g
  · run_from Cert.AdamWInRefIdeal.Value.run m' g'
    · exact (Cert.AdamWInIdeal.Optimiser.final_delta m c).symm
    · exact (Cert.AdamWInIdeal.Optimiser.final_moment m c).symm
    · exact (Cert.AdamWInIdeal.Optimiser.final_second m c).symm
    · exact (Cert.AdamWInIdeal.Optimiser.final_gradient m c).symm

theorem frame_adam_proj_a_reference : Cert.quiescent_AdamProjARefIdeal := fun m ρ _ =>
  (θ_run Cert.AdamProjARefIdeal.defs _ _).mono
    (fun r h => ⟨fun c => (h c).2.2.2.2, sem_eq_zero_of_no_sems (by decide) r.2⟩)
    (Cert.AdamProjARefIdeal.Value.run (F := Ideal) m ρ)

theorem algebraic_adam_proj_a : Cert.algebraic_AdamProjAIdeal_AdamProjARefIdeal := by
  pair_intro
  · run_from Cert.AdamProjAIdeal.Gen.run_main m g
  · run_from Cert.AdamProjARefIdeal.Value.run m' g'
    · exact (Cert.AdamProjAIdeal.Optimiser.final_delta m c).symm
    · exact (Cert.AdamProjAIdeal.Optimiser.final_moment m c).symm
    · exact (Cert.AdamProjAIdeal.Optimiser.final_second m c).symm
    · exact (Cert.AdamProjAIdeal.Optimiser.final_gradient m c).symm

theorem frame_adam_proj_b_reference : Cert.quiescent_AdamProjBRefIdeal := fun m ρ _ =>
  (θ_run Cert.AdamProjBRefIdeal.defs _ _).mono
    (fun r h => ⟨fun c => (h c).2.2.2.2, sem_eq_zero_of_no_sems (by decide) r.2⟩)
    (Cert.AdamProjBRefIdeal.Value.run (F := Ideal) m ρ)

theorem algebraic_adam_proj_b : Cert.algebraic_AdamProjBIdeal_AdamProjBRefIdeal := by
  pair_intro
  · run_from Cert.AdamProjBIdeal.Gen.run_main m g
  · run_from Cert.AdamProjBRefIdeal.Value.run m' g'
    · exact (Cert.AdamProjBIdeal.Optimiser.final_delta m c).symm
    · exact (Cert.AdamProjBIdeal.Optimiser.final_moment m c).symm
    · exact (Cert.AdamProjBIdeal.Optimiser.final_second m c).symm
    · exact (Cert.AdamProjBIdeal.Optimiser.final_gradient m c).symm

theorem frame_adam_w_o_reference : Cert.quiescent_AdamWORefIdeal := fun m ρ _ =>
  (θ_run Cert.AdamWORefIdeal.defs _ _).mono
    (fun r h => ⟨fun c => (h c).2.2.2.2, sem_eq_zero_of_no_sems (by decide) r.2⟩)
    (Cert.AdamWORefIdeal.Value.run (F := Ideal) m ρ)

theorem algebraic_adam_w_o : Cert.algebraic_AdamWOIdeal_AdamWORefIdeal := by
  pair_intro
  · run_from Cert.AdamWOIdeal.Gen.run_main m g
  · run_from Cert.AdamWORefIdeal.Value.run m' g'
    · exact (Cert.AdamWOIdeal.Optimiser.final_delta m c).symm
    · exact (Cert.AdamWOIdeal.Optimiser.final_moment m c).symm
    · exact (Cert.AdamWOIdeal.Optimiser.final_second m c).symm
    · exact (Cert.AdamWOIdeal.Optimiser.final_gradient m c).symm

theorem frame_adam_mlp_reference : Cert.quiescent_AdamMlpRefIdeal := fun m ρ _ =>
  (θ_run Cert.AdamMlpRefIdeal.defs _ _).mono
    (fun r h => ⟨fun c => (h c).2.2.2.2, sem_eq_zero_of_no_sems (by decide) r.2⟩)
    (Cert.AdamMlpRefIdeal.Value.run (F := Ideal) m ρ)

theorem algebraic_adam_mlp : Cert.algebraic_AdamMlpIdeal_AdamMlpRefIdeal := by
  pair_intro
  · run_from Cert.AdamMlpIdeal.Gen.run_main m g
  · run_from Cert.AdamMlpRefIdeal.Value.run m' g'
    · exact (Cert.AdamMlpIdeal.Optimiser.final_delta m c).symm
    · exact (Cert.AdamMlpIdeal.Optimiser.final_moment m c).symm
    · exact (Cert.AdamMlpIdeal.Optimiser.final_second m c).symm
    · exact (Cert.AdamMlpIdeal.Optimiser.final_gradient m c).symm

theorem frame_adam_small_reference : Cert.quiescent_AdamSmallRefIdeal := fun m ρ _ =>
  (θ_run Cert.AdamSmallRefIdeal.defs _ _).mono
    (fun r h => ⟨fun c => (h c).2.2.2.2, sem_eq_zero_of_no_sems (by decide) r.2⟩)
    (Cert.AdamSmallRefIdeal.Value.run (F := Ideal) m ρ)

theorem algebraic_adam_small : Cert.algebraic_AdamSmallIdeal_AdamSmallRefIdeal := by
  pair_intro
  · run_from Cert.AdamSmallIdeal.Gen.run_main m g
  · run_from Cert.AdamSmallRefIdeal.Value.run m' g'
    · exact (Cert.AdamSmallIdeal.Optimiser.final_delta m c).symm
    · exact (Cert.AdamSmallIdeal.Optimiser.final_moment m c).symm
    · exact (Cert.AdamSmallIdeal.Optimiser.final_second m c).symm
    · exact (Cert.AdamSmallIdeal.Optimiser.final_gradient m c).symm

theorem frame_sum_slots_reference : Cert.quiescent_SumSlotsRefIdeal := fun m ρ _ =>
  (θ_run Cert.SumSlotsRefIdeal.defs _ _).mono
    (fun r h => ⟨fun c => (h c).2, sem_eq_zero_of_no_sems (by decide) r.2⟩)
    (Cert.SumSlotsRefIdeal.Value.run (F := Ideal) m ρ)

theorem algebraic_sum_slots : Cert.algebraic_SumSlotsIdeal_SumSlotsRefIdeal := by
  pair_intro
  · run_from Cert.SumSlotsIdeal.Gen.run_main m g
  · refine (θ_run Cert.SumSlotsRefIdeal.defs _ _).mono
      (fun r h c => ⟨(h c).1.trans ?_, (h c).2⟩)
      (Cert.SumSlotsRefIdeal.Value.run (F := Ideal) m' g')
    rw [hagree c]
    exact (Cert.SumSlotsIdeal.Sum.final_total m c).symm

/-! ## The loss over the eight devices -/

theorem frame_loss : Cert.quiescent_Loss := fun m ρ _ =>
  (θ_run Cert.Loss.defs _ _).mono
    (fun _ h => ⟨fun c => ⟨(h.1 c).1, (h.1 c).2.1, (h.1 c).2.2.1, (h.1 c).2.2.2.1⟩, h.2⟩)
    (Cert.Loss.Sum.run_kept (F := Bits) m ρ)

theorem frame_loss_ideal : Cert.quiescent_LossIdeal := fun m ρ _ =>
  (θ_run Cert.LossIdeal.defs _ _).mono
    (fun _ h => ⟨fun c => ⟨(h.1 c).1, (h.1 c).2.1, (h.1 c).2.2.1, (h.1 c).2.2.2.1⟩, h.2⟩)
    (Cert.LossIdeal.Sum.run_kept (F := Ideal) m ρ)

theorem frame_loss_reference : Cert.quiescent_LossRefIdeal := fun m ρ _ =>
  (θ_run Cert.LossRefIdeal.defs _ _).mono
    (fun r h => ⟨fun c => (h c).2, sem_eq_zero_of_no_sems (by decide) r.2⟩)
    (Cert.LossRefIdeal.Value.run (F := Ideal) m ρ)

theorem algebraic_loss : Cert.algebraic_LossIdeal_LossRefIdeal := by
  intro m g m' g' _ hm
  refine ⟨Cert.LossRefIdeal.Term.loss (m' (((0 : Dev Cert.LossRefIdeal.nD).tc : Thread Cert.LossRefIdeal.nD Cert.LossRefIdeal.τ).loc Cert.LossRefIdeal.main_arg0))
    (m' (((0 : Dev Cert.LossRefIdeal.nD).tc : Thread Cert.LossRefIdeal.nD Cert.LossRefIdeal.τ).loc Cert.LossRefIdeal.main_arg1))
    (m' (((0 : Dev Cert.LossRefIdeal.nD).tc : Thread Cert.LossRefIdeal.nD Cert.LossRefIdeal.τ).loc Cert.LossRefIdeal.main_arg2))
    (m' (((0 : Dev Cert.LossRefIdeal.nD).tc : Thread Cert.LossRefIdeal.nD Cert.LossRefIdeal.τ).loc Cert.LossRefIdeal.main_arg3)), ?_, ?_⟩
  · refine (θ_run Cert.LossIdeal.defs _ _).mono (fun r h c => ⟨?_, (h.1 c).1, (h.1 c).2.1, (h.1 c).2.2.1, (h.1 c).2.2.2.1⟩)
      (Cert.LossIdeal.Sum.run_kept (F := Ideal) m g)
    refine (h.1 c).2.2.2.2.trans (funext fun i => (Cert.LossIdeal.Sum.loss_apply m c i).trans ?_)
    refine Eq.trans (Finset.sum_congr rfl fun d _ => ?_) (Cert.LossIdeal.Sum.loss_eq _ _ _ _ (by decide) i)
    rw [(hm d).1, (hm d).2.1, (hm d).2.2.1, (hm d).2.2.2]
  · exact (θ_run Cert.LossRefIdeal.defs _ _).mono (fun r h => h 0) (Cert.LossRefIdeal.Value.run (F := Ideal) m' g')

/-! ## Five gradients put into blocks of columns -/

theorem frame_put_columns_reference : Cert.quiescent_PutColumnsRefIdeal := fun m ρ _ =>
  (θ_run Cert.PutColumnsRefIdeal.defs _ _).mono
    (fun r h => ⟨fun c => (h c).2, sem_eq_zero_of_no_sems (by decide) r.2⟩)
    (Cert.PutColumnsRefIdeal.Value.run (F := Ideal) m ρ)

theorem algebraic_put_columns : Cert.algebraic_PutColumnsIdeal_PutColumnsRefIdeal := by
  pair_intro
  · run_from Cert.PutColumnsIdeal.Gen.run_main m g
  · run_from Cert.PutColumnsRefIdeal.Value.run m' g'
    refine Eq.trans ?_ (Cert.PutColumnsIdeal.Put.final_out m c).symm
    rw [(hagree c).2.2.2.2.1, (hagree c).2.2.2.2.2]

theorem claim : Cert.Claim := ⟨Cert.MergeBwd.Gen.facts, Cert.MergeBwdIdeal.Gen.facts, Cert.MergeBwdRefIdeal.Gen.facts,
  Cert.DUp.Gen.facts, Cert.DUpIdeal.Gen.facts, Cert.DUpRefIdeal.Gen.facts,
  Cert.DWDown.Gen.facts, Cert.DWDownIdeal.Gen.facts, Cert.DWDownRefIdeal.Gen.facts,
  Cert.DWUp.Gen.facts, Cert.DWUpIdeal.Gen.facts, Cert.DWUpRefIdeal.Gen.facts,
  Cert.DWO.Gen.facts, Cert.DWOIdeal.Gen.facts, Cert.DWORefIdeal.Gen.facts,
  Cert.DProjA.Gen.facts, Cert.DProjAIdeal.Gen.facts, Cert.DProjARefIdeal.Gen.facts,
  Cert.DProjB.Gen.facts, Cert.DProjBIdeal.Gen.facts, Cert.DProjBRefIdeal.Gen.facts,
  Cert.DProjC.Gen.facts, Cert.DProjCIdeal.Gen.facts, Cert.DProjCRefIdeal.Gen.facts,
  Cert.DWIn.Gen.facts, Cert.DWInIdeal.Gen.facts, Cert.DWInRefIdeal.Gen.facts,
  Cert.DMerged.Gen.facts, Cert.DMergedIdeal.Gen.facts, Cert.DMergedRefIdeal.Gen.facts,
  Cert.DGa.Gen.facts, Cert.DGaIdeal.Gen.facts, Cert.DGaRefIdeal.Gen.facts,
  Cert.DAttn.Gen.facts, Cert.DAttnIdeal.Gen.facts, Cert.DAttnRefIdeal.Gen.facts,
  Cert.DU2.Gen.facts, Cert.DU2Ideal.Gen.facts, Cert.DU2RefIdeal.Gen.facts,
  Cert.FwdIn.Gen.facts, Cert.FwdInIdeal.Gen.facts, Cert.FwdInRefIdeal.Gen.facts,
  Cert.FwdUp.Gen.facts, Cert.FwdUpIdeal.Gen.facts, Cert.FwdUpRefIdeal.Gen.facts,
  Cert.FwdDown.Gen.facts, Cert.FwdDownIdeal.Gen.facts, Cert.FwdDownRefIdeal.Gen.facts,
  Cert.MergeFwd.Gen.facts, Cert.MergeFwdIdeal.Gen.facts, Cert.MergeFwdRefIdeal.Gen.facts,
  Cert.PreBwd.Gen.facts, Cert.PreBwdIdeal.Gen.facts, Cert.PreBwdRefIdeal.Gen.facts,
  Cert.PostBwd.Gen.facts, Cert.PostBwdIdeal.Gen.facts, Cert.PostBwdRefIdeal.Gen.facts,
  Cert.RmsFirst.Gen.facts, Cert.RmsFirstIdeal.Gen.facts, Cert.RmsFirstRefIdeal.Gen.facts,
  Cert.Residual.Gen.facts, Cert.ResidualIdeal.Gen.facts, Cert.ResidualRefIdeal.Gen.facts,
  Cert.LossHead.Gen.facts, Cert.LossHeadIdeal.Gen.facts, Cert.LossHeadRefIdeal.Gen.facts,
  Cert.CfNormFwd.Gen.facts, Cert.CfNormFwdIdeal.Gen.facts, Cert.CfNormFwdRefIdeal.Gen.facts,
  Cert.ScFwd.Gen.facts, Cert.ScFwdIdeal.Gen.facts, Cert.ScFwdRefIdeal.Gen.facts,
  Cert.AdamWIn.Gen.facts, Cert.AdamWInIdeal.Gen.facts, Cert.AdamWInRefIdeal.Gen.facts,
  Cert.AdamProjA.Gen.facts, Cert.AdamProjAIdeal.Gen.facts, Cert.AdamProjARefIdeal.Gen.facts,
  Cert.AdamProjB.Gen.facts, Cert.AdamProjBIdeal.Gen.facts, Cert.AdamProjBRefIdeal.Gen.facts,
  Cert.AdamWO.Gen.facts, Cert.AdamWOIdeal.Gen.facts, Cert.AdamWORefIdeal.Gen.facts,
  Cert.AdamMlp.Gen.facts, Cert.AdamMlpIdeal.Gen.facts, Cert.AdamMlpRefIdeal.Gen.facts,
  Cert.AdamSmall.Gen.facts, Cert.AdamSmallIdeal.Gen.facts, Cert.AdamSmallRefIdeal.Gen.facts,
  Cert.SumSlots.Gen.facts, Cert.SumSlotsIdeal.Gen.facts, Cert.SumSlotsRefIdeal.Gen.facts,
  Cert.Loss.Gen.facts, Cert.LossIdeal.Gen.facts, Cert.LossRefIdeal.Gen.facts,
  Cert.PutColumns.Gen.facts, Cert.PutColumnsIdeal.Gen.facts, Cert.PutColumnsRefIdeal.Gen.facts, Cert.On_gate_columns.Gen.facts,
  fun m ρ _ => Cert.MergeBwd.Gen.frame m ρ, fun m ρ _ => Cert.MergeBwdIdeal.Gen.frame m ρ, frame_merge_reference,
  fun m ρ _ => Cert.DUp.Gen.frame m ρ, fun m ρ _ => Cert.DUpIdeal.Gen.frame m ρ, frame_up_reference,
  fun m ρ _ => Cert.DWDown.Gen.frame m ρ, fun m ρ _ => Cert.DWDownIdeal.Gen.frame m ρ, frame_d_w_down_reference,
  fun m ρ _ => Cert.DWUp.Gen.frame m ρ, fun m ρ _ => Cert.DWUpIdeal.Gen.frame m ρ, frame_d_w_up_reference,
  fun m ρ _ => Cert.DWO.Gen.frame m ρ, fun m ρ _ => Cert.DWOIdeal.Gen.frame m ρ, frame_d_w_o_reference,
  fun m ρ _ => Cert.DProjA.Gen.frame m ρ, fun m ρ _ => Cert.DProjAIdeal.Gen.frame m ρ, frame_d_proj_a_reference,
  fun m ρ _ => Cert.DProjB.Gen.frame m ρ, fun m ρ _ => Cert.DProjBIdeal.Gen.frame m ρ, frame_d_proj_b_reference,
  fun m ρ _ => Cert.DProjC.Gen.frame m ρ, fun m ρ _ => Cert.DProjCIdeal.Gen.frame m ρ, frame_d_proj_c_reference,
  fun m ρ _ => Cert.DWIn.Gen.frame m ρ, fun m ρ _ => Cert.DWInIdeal.Gen.frame m ρ, frame_d_w_in_reference,
  fun m ρ _ => Cert.DMerged.Gen.frame m ρ, fun m ρ _ => Cert.DMergedIdeal.Gen.frame m ρ, frame_d_merged_reference,
  fun m ρ _ => Cert.DGa.Gen.frame m ρ, fun m ρ _ => Cert.DGaIdeal.Gen.frame m ρ, frame_d_ga_reference,
  fun m ρ _ => Cert.DAttn.Gen.frame m ρ, fun m ρ _ => Cert.DAttnIdeal.Gen.frame m ρ, frame_d_attn_reference,
  fun m ρ _ => Cert.DU2.Gen.frame m ρ, fun m ρ _ => Cert.DU2Ideal.Gen.frame m ρ, frame_d_u2_reference,
  fun m ρ _ => Cert.FwdIn.Gen.frame m ρ, fun m ρ _ => Cert.FwdInIdeal.Gen.frame m ρ, frame_fwd_in_reference,
  fun m ρ _ => Cert.FwdUp.Gen.frame m ρ, fun m ρ _ => Cert.FwdUpIdeal.Gen.frame m ρ, frame_fwd_up_reference,
  fun m ρ _ => Cert.FwdDown.Gen.frame m ρ, fun m ρ _ => Cert.FwdDownIdeal.Gen.frame m ρ, frame_fwd_down_reference,
  fun m ρ _ => Cert.MergeFwd.Gen.frame m ρ, fun m ρ _ => Cert.MergeFwdIdeal.Gen.frame m ρ, frame_merge_fwd_reference,
  fun m ρ _ => Cert.PreBwd.Gen.frame m ρ, fun m ρ _ => Cert.PreBwdIdeal.Gen.frame m ρ, frame_pre_bwd_reference,
  fun m ρ _ => Cert.PostBwd.Gen.frame m ρ, fun m ρ _ => Cert.PostBwdIdeal.Gen.frame m ρ, frame_post_bwd_reference,
  fun m ρ _ => Cert.RmsFirst.Gen.frame m ρ, fun m ρ _ => Cert.RmsFirstIdeal.Gen.frame m ρ, frame_rms_first_reference,
  fun m ρ _ => Cert.Residual.Gen.frame m ρ, fun m ρ _ => Cert.ResidualIdeal.Gen.frame m ρ, frame_residual_reference,
  fun m ρ _ => Cert.LossHead.Gen.frame m ρ, fun m ρ _ => Cert.LossHeadIdeal.Gen.frame m ρ, frame_loss_head_reference,
  fun m ρ _ => Cert.CfNormFwd.Gen.frame m ρ, fun m ρ _ => Cert.CfNormFwdIdeal.Gen.frame m ρ, frame_cf_norm_fwd_reference,
  fun m ρ _ => Cert.ScFwd.Gen.frame m ρ, fun m ρ _ => Cert.ScFwdIdeal.Gen.frame m ρ, frame_sc_fwd_reference,
  fun m ρ _ => Cert.AdamWIn.Gen.frame m ρ, fun m ρ _ => Cert.AdamWInIdeal.Gen.frame m ρ, frame_adam_w_in_reference,
  fun m ρ _ => Cert.AdamProjA.Gen.frame m ρ, fun m ρ _ => Cert.AdamProjAIdeal.Gen.frame m ρ, frame_adam_proj_a_reference,
  fun m ρ _ => Cert.AdamProjB.Gen.frame m ρ, fun m ρ _ => Cert.AdamProjBIdeal.Gen.frame m ρ, frame_adam_proj_b_reference,
  fun m ρ _ => Cert.AdamWO.Gen.frame m ρ, fun m ρ _ => Cert.AdamWOIdeal.Gen.frame m ρ, frame_adam_w_o_reference,
  fun m ρ _ => Cert.AdamMlp.Gen.frame m ρ, fun m ρ _ => Cert.AdamMlpIdeal.Gen.frame m ρ, frame_adam_mlp_reference,
  fun m ρ _ => Cert.AdamSmall.Gen.frame m ρ, fun m ρ _ => Cert.AdamSmallIdeal.Gen.frame m ρ, frame_adam_small_reference,
  fun m ρ _ => Cert.SumSlots.Gen.frame m ρ, fun m ρ _ => Cert.SumSlotsIdeal.Gen.frame m ρ, frame_sum_slots_reference,
  frame_loss, frame_loss_ideal, frame_loss_reference,
  fun m ρ _ => Cert.PutColumns.Gen.frame m ρ, fun m ρ _ => Cert.PutColumnsIdeal.Gen.frame m ρ, frame_put_columns_reference,
  trivial, algebraic_merge, trivial, algebraic_up, trivial, algebraic_d_w_down, trivial, algebraic_d_w_up, trivial, algebraic_d_w_o, trivial, algebraic_d_proj_a, trivial, algebraic_d_proj_b, trivial, algebraic_d_proj_c, trivial, algebraic_d_w_in, trivial, algebraic_d_merged, trivial, algebraic_d_ga, trivial, algebraic_d_attn, trivial, algebraic_d_u2, trivial, algebraic_fwd_in, trivial, algebraic_fwd_up, trivial, algebraic_fwd_down, trivial, algebraic_merge_fwd, trivial, algebraic_pre_bwd, trivial, algebraic_post_bwd, trivial, algebraic_rms_first, trivial, algebraic_residual, trivial, algebraic_loss_head, trivial, algebraic_cf_norm_fwd, trivial, algebraic_sc_fwd, trivial, algebraic_adam_w_in, trivial, algebraic_adam_proj_a, trivial, algebraic_adam_proj_b, trivial, algebraic_adam_w_o, trivial, algebraic_adam_mlp, trivial, algebraic_adam_small, trivial, algebraic_sum_slots, trivial, algebraic_loss, trivial, algebraic_put_columns⟩

end Cert.Proof

end
